-- ==== Defs.lean ====
def Pre_Attn0 (m : (ℓ : Loc Cert.Attn0.nD Cert.Attn0.τ Cert.Attn0.sig) → Buf (Elt Bits) ℓ) : Prop :=
  True

def Pre_Attn0Ideal (m : (ℓ : Loc Cert.Attn0Ideal.nD Cert.Attn0Ideal.τ Cert.Attn0Ideal.sig) → Buf (Elt Ideal) ℓ) : Prop :=
  True

def Pre_Ref0Ideal (m : (ℓ : Loc Cert.Ref0Ideal.nD Cert.Ref0Ideal.τ Cert.Ref0Ideal.sig) → Buf (Elt Ideal) ℓ) : Prop :=
  True

def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Ref1Ideal (m : (ℓ : Loc Cert.Ref1Ideal.nD Cert.Ref1Ideal.τ Cert.Ref1Ideal.sig) → Buf (Elt Ideal) ℓ) : Prop :=
  True

def Pre_Attn2 (m : (ℓ : Loc Cert.Attn2.nD Cert.Attn2.τ Cert.Attn2.sig) → Buf (Elt Bits) ℓ) : Prop :=
  True

def Pre_Attn2Ideal (m : (ℓ : Loc Cert.Attn2Ideal.nD Cert.Attn2Ideal.τ Cert.Attn2Ideal.sig) → Buf (Elt Ideal) ℓ) : Prop :=
  True

def Pre_Ref2Ideal (m : (ℓ : Loc Cert.Ref2Ideal.nD Cert.Ref2Ideal.τ Cert.Ref2Ideal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_RefInpIdeal (m : (ℓ : Loc Cert.RefInpIdeal.nD Cert.RefInpIdeal.τ Cert.RefInpIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_largest_lse_finite [hPre_largest_lse_finite : Cert.Pre_largest_lse_finite.Facts] (m : (ℓ : Loc Cert.MixIdeal.nD Cert.MixIdeal.τ Cert.MixIdeal.sig) → Buf (Elt Ideal) ℓ) : Prop :=
  ∀ c : Dev Cert.MixIdeal.nD,
    (Cert.Pre_largest_lse_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12))) = (fun _ => 1#1)

def Pre_RefMixIdeal (m : (ℓ : Loc Cert.RefMixIdeal.nD Cert.RefMixIdeal.τ Cert.RefMixIdeal.sig) → Buf (Elt Ideal) ℓ) : Prop :=
  True

def Pre_RefMixIdeal_largest_lse_finite [hPre_largest_lse_finite : Cert.Pre_largest_lse_finite.Facts] (m : (ℓ : Loc Cert.RefMixIdeal.nD Cert.RefMixIdeal.τ Cert.RefMixIdeal.sig) → Buf (Elt Ideal) ℓ) : Prop :=
  ∀ c : Dev Cert.RefMixIdeal.nD,
    (Cert.Pre_largest_lse_finite.fn (F := Ideal) (m ((c.tc : Thread Cert.RefMixIdeal.nD Cert.RefMixIdeal.τ).loc Cert.RefMixIdeal.main_arg0)) (m ((c.tc : Thread Cert.RefMixIdeal.nD Cert.RefMixIdeal.τ).loc Cert.RefMixIdeal.main_arg1)) (m ((c.tc : Thread Cert.RefMixIdeal.nD Cert.RefMixIdeal.τ).loc Cert.RefMixIdeal.main_arg2)) (m ((c.tc : Thread Cert.RefMixIdeal.nD Cert.RefMixIdeal.τ).loc Cert.RefMixIdeal.main_arg3)) (m ((c.tc : Thread Cert.RefMixIdeal.nD Cert.RefMixIdeal.τ).loc Cert.RefMixIdeal.main_arg4)) (m ((c.tc : Thread Cert.RefMixIdeal.nD Cert.RefMixIdeal.τ).loc Cert.RefMixIdeal.main_arg5)) (m ((c.tc : Thread Cert.RefMixIdeal.nD Cert.RefMixIdeal.τ).loc Cert.RefMixIdeal.main_arg6)) (m ((c.tc : Thread Cert.RefMixIdeal.nD Cert.RefMixIdeal.τ).loc Cert.RefMixIdeal.main_arg7)) (m ((c.tc : Thread Cert.RefMixIdeal.nD Cert.RefMixIdeal.τ).loc Cert.RefMixIdeal.main_arg8)) (m ((c.tc : Thread Cert.RefMixIdeal.nD Cert.RefMixIdeal.τ).loc Cert.RefMixIdeal.main_arg9)) (m ((c.tc : Thread Cert.RefMixIdeal.nD Cert.RefMixIdeal.τ).loc Cert.RefMixIdeal.main_arg10)) (m ((c.tc : Thread Cert.RefMixIdeal.nD Cert.RefMixIdeal.τ).loc Cert.RefMixIdeal.main_arg11)) (m ((c.tc : Thread Cert.RefMixIdeal.nD Cert.RefMixIdeal.τ).loc Cert.RefMixIdeal.main_arg12))) = (fun _ => 1#1)

def quiescent_Attn0 [hAttn0 : Cert.Attn0.Facts] : Prop :=
  ∀ (m : (ℓ : Loc Cert.Attn0.nD Cert.Attn0.τ Cert.Attn0.sig) → Buf (Elt Bits) ℓ) (g : Dev Cert.Attn0.nD → PrngReg), Pre_Attn0 m →
    θ_run (Cert.Attn0.defs (F := Bits)) (onTc (τ := Cert.Attn0.τ) (Cert.Attn0.main (F := Bits))) ⟨m, fun _ => 0, g⟩ (fun r => (∀ c : Dev Cert.Attn0.nD,
      r.2.mem ((c.tc : Thread Cert.Attn0.nD Cert.Attn0.τ).loc Cert.Attn0.main_arg0) = m ((c.tc : Thread Cert.Attn0.nD Cert.Attn0.τ).loc Cert.Attn0.main_arg0))
      ∧ r.2.sem = fun _ => 0)

def quiescent_Attn0Ideal [hAttn0Ideal : Cert.Attn0Ideal.Facts] : Prop :=
  ∀ (m : (ℓ : Loc Cert.Attn0Ideal.nD Cert.Attn0Ideal.τ Cert.Attn0Ideal.sig) → Buf (Elt Ideal) ℓ) (g : Dev Cert.Attn0Ideal.nD → PrngReg), Pre_Attn0Ideal m →
    θ_run (Cert.Attn0Ideal.defs (F := Ideal)) (onTc (τ := Cert.Attn0Ideal.τ) (Cert.Attn0Ideal.main (F := Ideal))) ⟨m, fun _ => 0, g⟩ (fun r => (∀ c : Dev Cert.Attn0Ideal.nD,
      r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0))
      ∧ r.2.sem = fun _ => 0)

def quiescent_Ref0Ideal [hRef0Ideal : Cert.Ref0Ideal.Facts] : Prop :=
  ∀ (m : (ℓ : Loc Cert.Ref0Ideal.nD Cert.Ref0Ideal.τ Cert.Ref0Ideal.sig) → Buf (Elt Ideal) ℓ) (g : Dev Cert.Ref0Ideal.nD → PrngReg), Pre_Ref0Ideal m →
    θ_run (Cert.Ref0Ideal.defs (F := Ideal)) (onTc (τ := Cert.Ref0Ideal.τ) (Cert.Ref0Ideal.main (F := Ideal))) ⟨m, fun _ => 0, g⟩ (fun r => (∀ c : Dev Cert.Ref0Ideal.nD,
      r.2.mem ((c.tc : Thread Cert.Ref0Ideal.nD Cert.Ref0Ideal.τ).loc Cert.Ref0Ideal.main_arg0) = m ((c.tc : Thread Cert.Ref0Ideal.nD Cert.Ref0Ideal.τ).loc Cert.Ref0Ideal.main_arg0))
      ∧ r.2.sem = fun _ => 0)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ r.2.sem = fun _ => 0)

def quiescent_Ref1Ideal [hRef1Ideal : Cert.Ref1Ideal.Facts] : Prop :=
  ∀ (m : (ℓ : Loc Cert.Ref1Ideal.nD Cert.Ref1Ideal.τ Cert.Ref1Ideal.sig) → Buf (Elt Ideal) ℓ) (g : Dev Cert.Ref1Ideal.nD → PrngReg), Pre_Ref1Ideal m →
    θ_run (Cert.Ref1Ideal.defs (F := Ideal)) (onTc (τ := Cert.Ref1Ideal.τ) (Cert.Ref1Ideal.main (F := Ideal))) ⟨m, fun _ => 0, g⟩ (fun r => (∀ c : Dev Cert.Ref1Ideal.nD,
      r.2.mem ((c.tc : Thread Cert.Ref1Ideal.nD Cert.Ref1Ideal.τ).loc Cert.Ref1Ideal.main_arg0) = m ((c.tc : Thread Cert.Ref1Ideal.nD Cert.Ref1Ideal.τ).loc Cert.Ref1Ideal.main_arg0))
      ∧ r.2.sem = fun _ => 0)

def quiescent_Attn2 [hAttn2 : Cert.Attn2.Facts] : Prop :=
  ∀ (m : (ℓ : Loc Cert.Attn2.nD Cert.Attn2.τ Cert.Attn2.sig) → Buf (Elt Bits) ℓ) (g : Dev Cert.Attn2.nD → PrngReg), Pre_Attn2 m →
    θ_run (Cert.Attn2.defs (F := Bits)) (onTc (τ := Cert.Attn2.τ) (Cert.Attn2.main (F := Bits))) ⟨m, fun _ => 0, g⟩ (fun r => (∀ c : Dev Cert.Attn2.nD,
      r.2.mem ((c.tc : Thread Cert.Attn2.nD Cert.Attn2.τ).loc Cert.Attn2.main_arg0) = m ((c.tc : Thread Cert.Attn2.nD Cert.Attn2.τ).loc Cert.Attn2.main_arg0))
      ∧ r.2.sem = fun _ => 0)

def quiescent_Attn2Ideal [hAttn2Ideal : Cert.Attn2Ideal.Facts] : Prop :=
  ∀ (m : (ℓ : Loc Cert.Attn2Ideal.nD Cert.Attn2Ideal.τ Cert.Attn2Ideal.sig) → Buf (Elt Ideal) ℓ) (g : Dev Cert.Attn2Ideal.nD → PrngReg), Pre_Attn2Ideal m →
    θ_run (Cert.Attn2Ideal.defs (F := Ideal)) (onTc (τ := Cert.Attn2Ideal.τ) (Cert.Attn2Ideal.main (F := Ideal))) ⟨m, fun _ => 0, g⟩ (fun r => (∀ c : Dev Cert.Attn2Ideal.nD,
      r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0))
      ∧ r.2.sem = fun _ => 0)

def quiescent_Ref2Ideal [hRef2Ideal : Cert.Ref2Ideal.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6)
      ∧ r.2.mem ((c.tc : Thread Cert.RefFfnIdeal.nD Cert.RefFfnIdeal.τ).loc Cert.RefFfnIdeal.main_arg7) = m ((c.tc : Thread Cert.RefFfnIdeal.nD Cert.RefFfnIdeal.τ).loc Cert.RefFfnIdeal.main_arg7)
      ∧ r.2.mem ((c.tc : Thread Cert.RefFfnIdeal.nD Cert.RefFfnIdeal.τ).loc Cert.RefFfnIdeal.main_arg8) = m ((c.tc : Thread Cert.RefFfnIdeal.nD Cert.RefFfnIdeal.τ).loc Cert.RefFfnIdeal.main_arg8))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3))
      ∧ r.2.sem = fun _ => 0)

def quiescent_RefInpIdeal [hRefInpIdeal : Cert.RefInpIdeal.Facts] : Prop :=
  ∀ (m : (ℓ : Loc Cert.RefInpIdeal.nD Cert.RefInpIdeal.τ Cert.RefInpIdeal.sig) → Buf (Elt Ideal) ℓ) (g : Dev Cert.RefInpIdeal.nD → PrngReg), Pre_RefInpIdeal m →
    θ_run (Cert.RefInpIdeal.defs (F := Ideal)) (onTc (τ := Cert.RefInpIdeal.τ) (Cert.RefInpIdeal.main (F := Ideal))) ⟨m, fun _ => 0, g⟩ (fun r => (∀ c : Dev Cert.RefInpIdeal.nD,
      r.2.mem ((c.tc : Thread Cert.RefInpIdeal.nD Cert.RefInpIdeal.τ).loc Cert.RefInpIdeal.main_arg0) = m ((c.tc : Thread Cert.RefInpIdeal.nD Cert.RefInpIdeal.τ).loc Cert.RefInpIdeal.main_arg0)
      ∧ r.2.mem ((c.tc : Thread Cert.RefInpIdeal.nD Cert.RefInpIdeal.τ).loc Cert.RefInpIdeal.main_arg1) = m ((c.tc : Thread Cert.RefInpIdeal.nD Cert.RefInpIdeal.τ).loc Cert.RefInpIdeal.main_arg1)
      ∧ r.2.mem ((c.tc : Thread Cert.RefInpIdeal.nD Cert.RefInpIdeal.τ).loc Cert.RefInpIdeal.main_arg2) = m ((c.tc : Thread Cert.RefInpIdeal.nD Cert.RefInpIdeal.τ).loc Cert.RefInpIdeal.main_arg2)
      ∧ r.2.mem ((c.tc : Thread Cert.RefInpIdeal.nD Cert.RefInpIdeal.τ).loc Cert.RefInpIdeal.main_arg3) = m ((c.tc : Thread Cert.RefInpIdeal.nD Cert.RefInpIdeal.τ).loc Cert.RefInpIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixIdeal_pre_largest_lse_finite [hMixIdeal : Cert.MixIdeal.Facts] [hPre_largest_lse_finite : Cert.Pre_largest_lse_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_largest_lse_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4)
      ∧ r.2.mem ((c.tc : Thread Cert.RefMixIdeal.nD Cert.RefMixIdeal.τ).loc Cert.RefMixIdeal.main_arg5) = m ((c.tc : Thread Cert.RefMixIdeal.nD Cert.RefMixIdeal.τ).loc Cert.RefMixIdeal.main_arg5)
      ∧ r.2.mem ((c.tc : Thread Cert.RefMixIdeal.nD Cert.RefMixIdeal.τ).loc Cert.RefMixIdeal.main_arg6) = m ((c.tc : Thread Cert.RefMixIdeal.nD Cert.RefMixIdeal.τ).loc Cert.RefMixIdeal.main_arg6)
      ∧ r.2.mem ((c.tc : Thread Cert.RefMixIdeal.nD Cert.RefMixIdeal.τ).loc Cert.RefMixIdeal.main_arg7) = m ((c.tc : Thread Cert.RefMixIdeal.nD Cert.RefMixIdeal.τ).loc Cert.RefMixIdeal.main_arg7)
      ∧ r.2.mem ((c.tc : Thread Cert.RefMixIdeal.nD Cert.RefMixIdeal.τ).loc Cert.RefMixIdeal.main_arg8) = m ((c.tc : Thread Cert.RefMixIdeal.nD Cert.RefMixIdeal.τ).loc Cert.RefMixIdeal.main_arg8)
      ∧ r.2.mem ((c.tc : Thread Cert.RefMixIdeal.nD Cert.RefMixIdeal.τ).loc Cert.RefMixIdeal.main_arg9) = m ((c.tc : Thread Cert.RefMixIdeal.nD Cert.RefMixIdeal.τ).loc Cert.RefMixIdeal.main_arg9)
      ∧ r.2.mem ((c.tc : Thread Cert.RefMixIdeal.nD Cert.RefMixIdeal.τ).loc Cert.RefMixIdeal.main_arg10) = m ((c.tc : Thread Cert.RefMixIdeal.nD Cert.RefMixIdeal.τ).loc Cert.RefMixIdeal.main_arg10)
      ∧ r.2.mem ((c.tc : Thread Cert.RefMixIdeal.nD Cert.RefMixIdeal.τ).loc Cert.RefMixIdeal.main_arg11) = m ((c.tc : Thread Cert.RefMixIdeal.nD Cert.RefMixIdeal.τ).loc Cert.RefMixIdeal.main_arg11)
      ∧ r.2.mem ((c.tc : Thread Cert.RefMixIdeal.nD Cert.RefMixIdeal.τ).loc Cert.RefMixIdeal.main_arg12) = m ((c.tc : Thread Cert.RefMixIdeal.nD Cert.RefMixIdeal.τ).loc Cert.RefMixIdeal.main_arg12))
      ∧ r.2.sem = fun _ => 0)

def quiescent_RefMixIdeal_pre_largest_lse_finite [hRefMixIdeal : Cert.RefMixIdeal.Facts] [hPre_largest_lse_finite : Cert.Pre_largest_lse_finite.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal_largest_lse_finite m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4)
      ∧ r.2.mem ((c.tc : Thread Cert.RefMixIdeal.nD Cert.RefMixIdeal.τ).loc Cert.RefMixIdeal.main_arg5) = m ((c.tc : Thread Cert.RefMixIdeal.nD Cert.RefMixIdeal.τ).loc Cert.RefMixIdeal.main_arg5)
      ∧ r.2.mem ((c.tc : Thread Cert.RefMixIdeal.nD Cert.RefMixIdeal.τ).loc Cert.RefMixIdeal.main_arg6) = m ((c.tc : Thread Cert.RefMixIdeal.nD Cert.RefMixIdeal.τ).loc Cert.RefMixIdeal.main_arg6)
      ∧ r.2.mem ((c.tc : Thread Cert.RefMixIdeal.nD Cert.RefMixIdeal.τ).loc Cert.RefMixIdeal.main_arg7) = m ((c.tc : Thread Cert.RefMixIdeal.nD Cert.RefMixIdeal.τ).loc Cert.RefMixIdeal.main_arg7)
      ∧ r.2.mem ((c.tc : Thread Cert.RefMixIdeal.nD Cert.RefMixIdeal.τ).loc Cert.RefMixIdeal.main_arg8) = m ((c.tc : Thread Cert.RefMixIdeal.nD Cert.RefMixIdeal.τ).loc Cert.RefMixIdeal.main_arg8)
      ∧ r.2.mem ((c.tc : Thread Cert.RefMixIdeal.nD Cert.RefMixIdeal.τ).loc Cert.RefMixIdeal.main_arg9) = m ((c.tc : Thread Cert.RefMixIdeal.nD Cert.RefMixIdeal.τ).loc Cert.RefMixIdeal.main_arg9)
      ∧ r.2.mem ((c.tc : Thread Cert.RefMixIdeal.nD Cert.RefMixIdeal.τ).loc Cert.RefMixIdeal.main_arg10) = m ((c.tc : Thread Cert.RefMixIdeal.nD Cert.RefMixIdeal.τ).loc Cert.RefMixIdeal.main_arg10)
      ∧ r.2.mem ((c.tc : Thread Cert.RefMixIdeal.nD Cert.RefMixIdeal.τ).loc Cert.RefMixIdeal.main_arg11) = m ((c.tc : Thread Cert.RefMixIdeal.nD Cert.RefMixIdeal.τ).loc Cert.RefMixIdeal.main_arg11)
      ∧ r.2.mem ((c.tc : Thread Cert.RefMixIdeal.nD Cert.RefMixIdeal.τ).loc Cert.RefMixIdeal.main_arg12) = m ((c.tc : Thread Cert.RefMixIdeal.nD Cert.RefMixIdeal.τ).loc Cert.RefMixIdeal.main_arg12))
      ∧ r.2.sem = fun _ => 0)

def preserves_Attn0_Attn0Ideal : Prop :=
  IdealRules.named_const.Statement Cert.Attn0Ideal.κ "mask" .f32 0xF149F2CA#32 ⊥

def algebraic_Attn0Ideal_Ref0Ideal [hAttn0Ideal : Cert.Attn0Ideal.Facts] [hRef0Ideal : Cert.Ref0Ideal.Facts] : Prop :=
  ∀ (m : (ℓ : Loc Cert.Attn0Ideal.nD Cert.Attn0Ideal.τ Cert.Attn0Ideal.sig) → Buf (Elt Ideal) ℓ) (g : Dev Cert.Attn0Ideal.nD → PrngReg)
    (m' : (ℓ : Loc Cert.Ref0Ideal.nD Cert.Ref0Ideal.τ Cert.Ref0Ideal.sig) → Buf (Elt Ideal) ℓ) (g' : Dev Cert.Ref0Ideal.nD → PrngReg), Pre_Attn0Ideal m →
    (∀ c : Dev Cert.Attn0Ideal.nD,
      m' ((c.tc : Thread Cert.Ref0Ideal.nD Cert.Ref0Ideal.τ).loc Cert.Ref0Ideal.main_arg0) = m ((c.tc : Thread Cert.Attn0Ideal.nD Cert.Attn0Ideal.τ).loc Cert.Attn0Ideal.main_arg0)) →
    ∃ (v0 : (c : Dev Cert.Attn0Ideal.nD) → Buf (Elt Ideal) ((c.tc : Thread Cert.Attn0Ideal.nD Cert.Attn0Ideal.τ).loc Cert.Attn0Ideal.main_v0_0)) (v1 : (c : Dev Cert.Attn0Ideal.nD) → Buf (Elt Ideal) ((c.tc : Thread Cert.Attn0Ideal.nD Cert.Attn0Ideal.τ).loc Cert.Attn0Ideal.main_v0_1)),
      θ_run (Cert.Attn0Ideal.defs (F := Ideal)) (onTc (τ := Cert.Attn0Ideal.τ) (Cert.Attn0Ideal.main (F := Ideal))) ⟨m, fun _ => 0, g⟩ (fun r => ∀ c : Dev Cert.Attn0Ideal.nD,
          r.2.mem ((c.tc : Thread Cert.Attn0Ideal.nD Cert.Attn0Ideal.τ).loc Cert.Attn0Ideal.main_v0_0) = v0 c
          ∧ r.2.mem ((c.tc : Thread Cert.Attn0Ideal.nD Cert.Attn0Ideal.τ).loc Cert.Attn0Ideal.main_v0_1) = v1 c
          ∧ r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0))
      ∧ θ_run (Cert.Ref0Ideal.defs (F := Ideal)) (onTc (τ := Cert.Ref0Ideal.τ) (Cert.Ref0Ideal.main (F := Ideal))) ⟨m', fun _ => 0, g'⟩ (fun r => ∀ c : Dev Cert.Ref0Ideal.nD,
          r.2.mem ((c.tc : Thread Cert.Ref0Ideal.nD Cert.Ref0Ideal.τ).loc Cert.Ref0Ideal.main_v41) = v0 c
          ∧ r.2.mem ((c.tc : Thread Cert.Ref0Ideal.nD Cert.Ref0Ideal.τ).loc Cert.Ref0Ideal.main_v42) = v1 c
          ∧ r.2.mem ((c.tc : Thread Cert.Ref0Ideal.nD Cert.Ref0Ideal.τ).loc Cert.Ref0Ideal.main_arg0) = m' ((c.tc : Thread Cert.Ref0Ideal.nD Cert.Ref0Ideal.τ).loc Cert.Ref0Ideal.main_arg0))

def preserves_Attn1_Attn1Ideal : Prop :=
  IdealRules.named_const.Statement Cert.Attn1Ideal.κ "mask" .f32 0xF149F2CA#32 ⊥

def algebraic_Attn1Ideal_Ref1Ideal [hAttn1Ideal : Cert.Attn1Ideal.Facts] [hRef1Ideal : Cert.Ref1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.Ref1Ideal.nD Cert.Ref1Ideal.τ Cert.Ref1Ideal.sig) → Buf (Elt Ideal) ℓ) (g' : Dev Cert.Ref1Ideal.nD → PrngReg), Pre_Attn1Ideal m →
    (∀ c : Dev Cert.Attn1Ideal.nD,
      m' ((c.tc : Thread Cert.Ref1Ideal.nD Cert.Ref1Ideal.τ).loc Cert.Ref1Ideal.main_arg0) = m ((c.tc : Thread Cert.Attn1Ideal.nD Cert.Attn1Ideal.τ).loc Cert.Attn1Ideal.main_arg0)) →
    ∃ (v0 : (c : Dev Cert.Attn1Ideal.nD) → Buf (Elt Ideal) ((c.tc : Thread Cert.Attn1Ideal.nD Cert.Attn1Ideal.τ).loc Cert.Attn1Ideal.main_v1_0)) (v1 : (c : Dev Cert.Attn1Ideal.nD) → Buf (Elt Ideal) ((c.tc : Thread Cert.Attn1Ideal.nD Cert.Attn1Ideal.τ).loc Cert.Attn1Ideal.main_v1_1)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v1_0) = v0 c
          ∧ r.2.mem ((c.tc : Thread Cert.Attn1Ideal.nD Cert.Attn1Ideal.τ).loc Cert.Attn1Ideal.main_v1_1) = v1 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ θ_run (Cert.Ref1Ideal.defs (F := Ideal)) (onTc (τ := Cert.Ref1Ideal.τ) (Cert.Ref1Ideal.main (F := Ideal))) ⟨m', fun _ => 0, g'⟩ (fun r => ∀ c : Dev Cert.Ref1Ideal.nD,
          r.2.mem ((c.tc : Thread Cert.Ref1Ideal.nD Cert.Ref1Ideal.τ).loc Cert.Ref1Ideal.main_v41) = v0 c
          ∧ r.2.mem ((c.tc : Thread Cert.Ref1Ideal.nD Cert.Ref1Ideal.τ).loc Cert.Ref1Ideal.main_v42) = v1 c
          ∧ r.2.mem ((c.tc : Thread Cert.Ref1Ideal.nD Cert.Ref1Ideal.τ).loc Cert.Ref1Ideal.main_arg0) = m' ((c.tc : Thread Cert.Ref1Ideal.nD Cert.Ref1Ideal.τ).loc Cert.Ref1Ideal.main_arg0))

def preserves_Attn2_Attn2Ideal : Prop :=
  IdealRules.named_const.Statement Cert.Attn2Ideal.κ "mask" .f32 0xF149F2CA#32 ⊥

def algebraic_Attn2Ideal_Ref2Ideal [hAttn2Ideal : Cert.Attn2Ideal.Facts] [hRef2Ideal : Cert.Ref2Ideal.Facts] : Prop :=
  ∀ (m : (ℓ : Loc Cert.Attn2Ideal.nD Cert.Attn2Ideal.τ Cert.Attn2Ideal.sig) → Buf (Elt Ideal) ℓ) (g : Dev Cert.Attn2Ideal.nD → PrngReg)
    (m' : (ℓ : Loc Cert.Ref2Ideal.nD Cert.Ref2Ideal.τ Cert.Ref2Ideal.sig) → Buf (Elt Ideal) ℓ) (g' : Dev Cert.Ref2Ideal.nD → PrngReg), Pre_Attn2Ideal m →
    (∀ c : Dev Cert.Attn2Ideal.nD,
      m' ((c.tc : Thread Cert.Ref2Ideal.nD Cert.Ref2Ideal.τ).loc Cert.Ref2Ideal.main_arg0) = m ((c.tc : Thread Cert.Attn2Ideal.nD Cert.Attn2Ideal.τ).loc Cert.Attn2Ideal.main_arg0)) →
    ∃ (v0 : (c : Dev Cert.Attn2Ideal.nD) → Buf (Elt Ideal) ((c.tc : Thread Cert.Attn2Ideal.nD Cert.Attn2Ideal.τ).loc Cert.Attn2Ideal.main_v1_0)) (v1 : (c : Dev Cert.Attn2Ideal.nD) → Buf (Elt Ideal) ((c.tc : Thread Cert.Attn2Ideal.nD Cert.Attn2Ideal.τ).loc Cert.Attn2Ideal.main_v1_1)),
      θ_run (Cert.Attn2Ideal.defs (F := Ideal)) (onTc (τ := Cert.Attn2Ideal.τ) (Cert.Attn2Ideal.main (F := Ideal))) ⟨m, fun _ => 0, g⟩ (fun r => ∀ c : Dev Cert.Attn2Ideal.nD,
          r.2.mem ((c.tc : Thread Cert.Attn2Ideal.nD Cert.Attn2Ideal.τ).loc Cert.Attn2Ideal.main_v1_0) = v0 c
          ∧ r.2.mem ((c.tc : Thread Cert.Attn2Ideal.nD Cert.Attn2Ideal.τ).loc Cert.Attn2Ideal.main_v1_1) = v1 c
          ∧ r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0))
      ∧ θ_run (Cert.Ref2Ideal.defs (F := Ideal)) (onTc (τ := Cert.Ref2Ideal.τ) (Cert.Ref2Ideal.main (F := Ideal))) ⟨m', fun _ => 0, g'⟩ (fun r => ∀ c : Dev Cert.Ref2Ideal.nD,
          r.2.mem ((c.tc : Thread Cert.Ref2Ideal.nD Cert.Ref2Ideal.τ).loc Cert.Ref2Ideal.main_v41) = v0 c
          ∧ r.2.mem ((c.tc : Thread Cert.Ref2Ideal.nD Cert.Ref2Ideal.τ).loc Cert.Ref2Ideal.main_v42) = v1 c
          ∧ r.2.mem ((c.tc : Thread Cert.Ref2Ideal.nD Cert.Ref2Ideal.τ).loc Cert.Ref2Ideal.main_arg0) = m' ((c.tc : Thread Cert.Ref2Ideal.nD Cert.Ref2Ideal.τ).loc Cert.Ref2Ideal.main_arg0))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)
      ∧ m' ((c.tc : Thread Cert.RefFfnIdeal.nD Cert.RefFfnIdeal.τ).loc Cert.RefFfnIdeal.main_arg6) = m ((c.tc : Thread Cert.FfnIdeal.nD Cert.FfnIdeal.τ).loc Cert.FfnIdeal.main_arg6)
      ∧ m' ((c.tc : Thread Cert.RefFfnIdeal.nD Cert.RefFfnIdeal.τ).loc Cert.RefFfnIdeal.main_arg7) = m ((c.tc : Thread Cert.FfnIdeal.nD Cert.FfnIdeal.τ).loc Cert.FfnIdeal.main_arg7)
      ∧ m' ((c.tc : Thread Cert.RefFfnIdeal.nD Cert.RefFfnIdeal.τ).loc Cert.RefFfnIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v54) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5)
          ∧ r.2.mem ((c.tc : Thread Cert.RefFfnIdeal.nD Cert.RefFfnIdeal.τ).loc Cert.RefFfnIdeal.main_arg6) = m' ((c.tc : Thread Cert.RefFfnIdeal.nD Cert.RefFfnIdeal.τ).loc Cert.RefFfnIdeal.main_arg6)
          ∧ r.2.mem ((c.tc : Thread Cert.RefFfnIdeal.nD Cert.RefFfnIdeal.τ).loc Cert.RefFfnIdeal.main_arg7) = m' ((c.tc : Thread Cert.RefFfnIdeal.nD Cert.RefFfnIdeal.τ).loc Cert.RefFfnIdeal.main_arg7)
          ∧ r.2.mem ((c.tc : Thread Cert.RefFfnIdeal.nD Cert.RefFfnIdeal.τ).loc Cert.RefFfnIdeal.main_arg8) = m' ((c.tc : Thread Cert.RefFfnIdeal.nD Cert.RefFfnIdeal.τ).loc Cert.RefFfnIdeal.main_arg8))

def preserves_Inp_InpIdeal : Prop :=
  True

def algebraic_InpIdeal_RefInpIdeal [hInpIdeal : Cert.InpIdeal.Facts] [hRefInpIdeal : Cert.RefInpIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.RefInpIdeal.nD Cert.RefInpIdeal.τ Cert.RefInpIdeal.sig) → Buf (Elt Ideal) ℓ) (g' : Dev Cert.RefInpIdeal.nD → PrngReg), Pre_InpIdeal m →
    (∀ c : Dev Cert.InpIdeal.nD,
      m' ((c.tc : Thread Cert.RefInpIdeal.nD Cert.RefInpIdeal.τ).loc Cert.RefInpIdeal.main_arg0) = m ((c.tc : Thread Cert.InpIdeal.nD Cert.InpIdeal.τ).loc Cert.InpIdeal.main_arg0)
      ∧ m' ((c.tc : Thread Cert.RefInpIdeal.nD Cert.RefInpIdeal.τ).loc Cert.RefInpIdeal.main_arg1) = m ((c.tc : Thread Cert.InpIdeal.nD Cert.InpIdeal.τ).loc Cert.InpIdeal.main_arg1)
      ∧ m' ((c.tc : Thread Cert.RefInpIdeal.nD Cert.RefInpIdeal.τ).loc Cert.RefInpIdeal.main_arg2) = m ((c.tc : Thread Cert.InpIdeal.nD Cert.InpIdeal.τ).loc Cert.InpIdeal.main_arg2)
      ∧ m' ((c.tc : Thread Cert.RefInpIdeal.nD Cert.RefInpIdeal.τ).loc Cert.RefInpIdeal.main_arg3) = m ((c.tc : Thread Cert.InpIdeal.nD Cert.InpIdeal.τ).loc Cert.InpIdeal.main_arg3)) →
    ∃ (v0 : (c : Dev Cert.InpIdeal.nD) → Buf (Elt Ideal) ((c.tc : Thread Cert.InpIdeal.nD Cert.InpIdeal.τ).loc Cert.InpIdeal.main_v59_0)) (v1 : (c : Dev Cert.InpIdeal.nD) → Buf (Elt Ideal) ((c.tc : Thread Cert.InpIdeal.nD Cert.InpIdeal.τ).loc Cert.InpIdeal.main_v59_1)) (v2 : (c : Dev Cert.InpIdeal.nD) → Buf (Elt Ideal) ((c.tc : Thread Cert.InpIdeal.nD Cert.InpIdeal.τ).loc Cert.InpIdeal.main_v59_2)) (v3 : (c : Dev Cert.InpIdeal.nD) → Buf (Elt Ideal) ((c.tc : Thread Cert.InpIdeal.nD Cert.InpIdeal.τ).loc Cert.InpIdeal.main_v59_3)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v59_0) = v0 c
          ∧ r.2.mem ((c.tc : Thread Cert.InpIdeal.nD Cert.InpIdeal.τ).loc Cert.InpIdeal.main_v59_1) = v1 c
          ∧ r.2.mem ((c.tc : Thread Cert.InpIdeal.nD Cert.InpIdeal.τ).loc Cert.InpIdeal.main_v59_2) = v2 c
          ∧ r.2.mem ((c.tc : Thread Cert.InpIdeal.nD Cert.InpIdeal.τ).loc Cert.InpIdeal.main_v59_3) = v3 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3))
      ∧ θ_run (Cert.RefInpIdeal.defs (F := Ideal)) (onTc (τ := Cert.RefInpIdeal.τ) (Cert.RefInpIdeal.main (F := Ideal))) ⟨m', fun _ => 0, g'⟩ (fun r => ∀ c : Dev Cert.RefInpIdeal.nD,
          r.2.mem ((c.tc : Thread Cert.RefInpIdeal.nD Cert.RefInpIdeal.τ).loc Cert.RefInpIdeal.main_v123) = v0 c
          ∧ r.2.mem ((c.tc : Thread Cert.RefInpIdeal.nD Cert.RefInpIdeal.τ).loc Cert.RefInpIdeal.main_v109) = v1 c
          ∧ r.2.mem ((c.tc : Thread Cert.RefInpIdeal.nD Cert.RefInpIdeal.τ).loc Cert.RefInpIdeal.main_v116) = v2 c
          ∧ r.2.mem ((c.tc : Thread Cert.RefInpIdeal.nD Cert.RefInpIdeal.τ).loc Cert.RefInpIdeal.main_v124) = v3 c
          ∧ r.2.mem ((c.tc : Thread Cert.RefInpIdeal.nD Cert.RefInpIdeal.τ).loc Cert.RefInpIdeal.main_arg0) = m' ((c.tc : Thread Cert.RefInpIdeal.nD Cert.RefInpIdeal.τ).loc Cert.RefInpIdeal.main_arg0)
          ∧ r.2.mem ((c.tc : Thread Cert.RefInpIdeal.nD Cert.RefInpIdeal.τ).loc Cert.RefInpIdeal.main_arg1) = m' ((c.tc : Thread Cert.RefInpIdeal.nD Cert.RefInpIdeal.τ).loc Cert.RefInpIdeal.main_arg1)
          ∧ r.2.mem ((c.tc : Thread Cert.RefInpIdeal.nD Cert.RefInpIdeal.τ).loc Cert.RefInpIdeal.main_arg2) = m' ((c.tc : Thread Cert.RefInpIdeal.nD Cert.RefInpIdeal.τ).loc Cert.RefInpIdeal.main_arg2)
          ∧ r.2.mem ((c.tc : Thread Cert.RefInpIdeal.nD Cert.RefInpIdeal.τ).loc Cert.RefInpIdeal.main_arg3) = m' ((c.tc : Thread Cert.RefInpIdeal.nD Cert.RefInpIdeal.τ).loc Cert.RefInpIdeal.main_arg3))

def preserves_Mix_MixIdeal : Prop :=
  True

def algebraic_MixIdeal_RefMixIdeal_pre_largest_lse_finite [hMixIdeal : Cert.MixIdeal.Facts] [hRefMixIdeal : Cert.RefMixIdeal.Facts] [hPre_largest_lse_finite : Cert.Pre_largest_lse_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_MixIdeal_largest_lse_finite m →
    (∀ c : Dev Cert.MixIdeal.nD,
      m' ((c.tc : Thread Cert.RefMixIdeal.nD Cert.RefMixIdeal.τ).loc Cert.RefMixIdeal.main_arg0) = m ((c.tc : Thread Cert.MixIdeal.nD Cert.MixIdeal.τ).loc Cert.MixIdeal.main_arg0)
      ∧ m' ((c.tc : Thread Cert.RefMixIdeal.nD Cert.RefMixIdeal.τ).loc Cert.RefMixIdeal.main_arg1) = m ((c.tc : Thread Cert.MixIdeal.nD Cert.MixIdeal.τ).loc Cert.MixIdeal.main_arg1)
      ∧ m' ((c.tc : Thread Cert.RefMixIdeal.nD Cert.RefMixIdeal.τ).loc Cert.RefMixIdeal.main_arg2) = m ((c.tc : Thread Cert.MixIdeal.nD Cert.MixIdeal.τ).loc Cert.MixIdeal.main_arg2)
      ∧ m' ((c.tc : Thread Cert.RefMixIdeal.nD Cert.RefMixIdeal.τ).loc Cert.RefMixIdeal.main_arg3) = m ((c.tc : Thread Cert.MixIdeal.nD Cert.MixIdeal.τ).loc Cert.MixIdeal.main_arg3)
      ∧ m' ((c.tc : Thread Cert.RefMixIdeal.nD Cert.RefMixIdeal.τ).loc Cert.RefMixIdeal.main_arg4) = m ((c.tc : Thread Cert.MixIdeal.nD Cert.MixIdeal.τ).loc Cert.MixIdeal.main_arg4)
      ∧ m' ((c.tc : Thread Cert.RefMixIdeal.nD Cert.RefMixIdeal.τ).loc Cert.RefMixIdeal.main_arg5) = m ((c.tc : Thread Cert.MixIdeal.nD Cert.MixIdeal.τ).loc Cert.MixIdeal.main_arg5)
      ∧ m' ((c.tc : Thread Cert.RefMixIdeal.nD Cert.RefMixIdeal.τ).loc Cert.RefMixIdeal.main_arg6) = m ((c.tc : Thread Cert.MixIdeal.nD Cert.MixIdeal.τ).loc Cert.MixIdeal.main_arg6)
      ∧ m' ((c.tc : Thread Cert.RefMixIdeal.nD Cert.RefMixIdeal.τ).loc Cert.RefMixIdeal.main_arg7) = m ((c.tc : Thread Cert.MixIdeal.nD Cert.MixIdeal.τ).loc Cert.MixIdeal.main_arg7)
      ∧ m' ((c.tc : Thread Cert.RefMixIdeal.nD Cert.RefMixIdeal.τ).loc Cert.RefMixIdeal.main_arg8) = m ((c.tc : Thread Cert.MixIdeal.nD Cert.MixIdeal.τ).loc Cert.MixIdeal.main_arg8)
      ∧ m' ((c.tc : Thread Cert.RefMixIdeal.nD Cert.RefMixIdeal.τ).loc Cert.RefMixIdeal.main_arg9) = m ((c.tc : Thread Cert.MixIdeal.nD Cert.MixIdeal.τ).loc Cert.MixIdeal.main_arg9)
      ∧ m' ((c.tc : Thread Cert.RefMixIdeal.nD Cert.RefMixIdeal.τ).loc Cert.RefMixIdeal.main_arg10) = m ((c.tc : Thread Cert.MixIdeal.nD Cert.MixIdeal.τ).loc Cert.MixIdeal.main_arg10)
      ∧ m' ((c.tc : Thread Cert.RefMixIdeal.nD Cert.RefMixIdeal.τ).loc Cert.RefMixIdeal.main_arg11) = m ((c.tc : Thread Cert.MixIdeal.nD Cert.MixIdeal.τ).loc Cert.MixIdeal.main_arg11)
      ∧ m' ((c.tc : Thread Cert.RefMixIdeal.nD Cert.RefMixIdeal.τ).loc Cert.RefMixIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v51) = v0 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4)
          ∧ r.2.mem ((c.tc : Thread Cert.RefMixIdeal.nD Cert.RefMixIdeal.τ).loc Cert.RefMixIdeal.main_arg5) = m' ((c.tc : Thread Cert.RefMixIdeal.nD Cert.RefMixIdeal.τ).loc Cert.RefMixIdeal.main_arg5)
          ∧ r.2.mem ((c.tc : Thread Cert.RefMixIdeal.nD Cert.RefMixIdeal.τ).loc Cert.RefMixIdeal.main_arg6) = m' ((c.tc : Thread Cert.RefMixIdeal.nD Cert.RefMixIdeal.τ).loc Cert.RefMixIdeal.main_arg6)
          ∧ r.2.mem ((c.tc : Thread Cert.RefMixIdeal.nD Cert.RefMixIdeal.τ).loc Cert.RefMixIdeal.main_arg7) = m' ((c.tc : Thread Cert.RefMixIdeal.nD Cert.RefMixIdeal.τ).loc Cert.RefMixIdeal.main_arg7)
          ∧ r.2.mem ((c.tc : Thread Cert.RefMixIdeal.nD Cert.RefMixIdeal.τ).loc Cert.RefMixIdeal.main_arg8) = m' ((c.tc : Thread Cert.RefMixIdeal.nD Cert.RefMixIdeal.τ).loc Cert.RefMixIdeal.main_arg8)
          ∧ r.2.mem ((c.tc : Thread Cert.RefMixIdeal.nD Cert.RefMixIdeal.τ).loc Cert.RefMixIdeal.main_arg9) = m' ((c.tc : Thread Cert.RefMixIdeal.nD Cert.RefMixIdeal.τ).loc Cert.RefMixIdeal.main_arg9)
          ∧ r.2.mem ((c.tc : Thread Cert.RefMixIdeal.nD Cert.RefMixIdeal.τ).loc Cert.RefMixIdeal.main_arg10) = m' ((c.tc : Thread Cert.RefMixIdeal.nD Cert.RefMixIdeal.τ).loc Cert.RefMixIdeal.main_arg10)
          ∧ r.2.mem ((c.tc : Thread Cert.RefMixIdeal.nD Cert.RefMixIdeal.τ).loc Cert.RefMixIdeal.main_arg11) = m' ((c.tc : Thread Cert.RefMixIdeal.nD Cert.RefMixIdeal.τ).loc Cert.RefMixIdeal.main_arg11)
          ∧ r.2.mem ((c.tc : Thread Cert.RefMixIdeal.nD Cert.RefMixIdeal.τ).loc Cert.RefMixIdeal.main_arg12) = m' ((c.tc : Thread Cert.RefMixIdeal.nD Cert.RefMixIdeal.τ).loc Cert.RefMixIdeal.main_arg12))

def Claim : Prop :=
  ∃ (hAttn0 : Cert.Attn0.Facts) (hAttn0Ideal : Cert.Attn0Ideal.Facts) (hRef0Ideal : Cert.Ref0Ideal.Facts) (hAttn1 : Cert.Attn1.Facts) (hAttn1Ideal : Cert.Attn1Ideal.Facts) (hRef1Ideal : Cert.Ref1Ideal.Facts) (hAttn2 : Cert.Attn2.Facts) (hAttn2Ideal : Cert.Attn2Ideal.Facts) (hRef2Ideal : Cert.Ref2Ideal.Facts) (hFfn : Cert.Ffn.Facts) (hFfnIdeal : Cert.FfnIdeal.Facts) (hRefFfnIdeal : Cert.RefFfnIdeal.Facts) (hInp : Cert.Inp.Facts) (hInpIdeal : Cert.InpIdeal.Facts) (hRefInpIdeal : Cert.RefInpIdeal.Facts) (hMix : Cert.Mix.Facts) (hMixIdeal : Cert.MixIdeal.Facts) (hRefMixIdeal : Cert.RefMixIdeal.Facts) (hPre_largest_lse_finite : Cert.Pre_largest_lse_finite.Facts),
    quiescent_Attn0 (hAttn0 := hAttn0)
    ∧ quiescent_Attn0Ideal (hAttn0Ideal := hAttn0Ideal)
    ∧ quiescent_Ref0Ideal (hRef0Ideal := hRef0Ideal)
    ∧ quiescent_Attn1 (hAttn1 := hAttn1)
    ∧ quiescent_Attn1Ideal (hAttn1Ideal := hAttn1Ideal)
    ∧ quiescent_Ref1Ideal (hRef1Ideal := hRef1Ideal)
    ∧ quiescent_Attn2 (hAttn2 := hAttn2)
    ∧ quiescent_Attn2Ideal (hAttn2Ideal := hAttn2Ideal)
    ∧ quiescent_Ref2Ideal (hRef2Ideal := hRef2Ideal)
    ∧ quiescent_Ffn (hFfn := hFfn)
    ∧ quiescent_FfnIdeal (hFfnIdeal := hFfnIdeal)
    ∧ quiescent_RefFfnIdeal (hRefFfnIdeal := hRefFfnIdeal)
    ∧ quiescent_Inp (hInp := hInp)
    ∧ quiescent_InpIdeal (hInpIdeal := hInpIdeal)
    ∧ quiescent_RefInpIdeal (hRefInpIdeal := hRefInpIdeal)
    ∧ quiescent_Mix (hMix := hMix)
    ∧ quiescent_MixIdeal (hMixIdeal := hMixIdeal)
    ∧ quiescent_MixIdeal_pre_largest_lse_finite (hMixIdeal := hMixIdeal) (hPre_largest_lse_finite := hPre_largest_lse_finite)
    ∧ quiescent_RefMixIdeal (hRefMixIdeal := hRefMixIdeal)
    ∧ quiescent_RefMixIdeal_pre_largest_lse_finite (hRefMixIdeal := hRefMixIdeal) (hPre_largest_lse_finite := hPre_largest_lse_finite)
    ∧ preserves_Attn0_Attn0Ideal
    ∧ algebraic_Attn0Ideal_Ref0Ideal (hAttn0Ideal := hAttn0Ideal) (hRef0Ideal := hRef0Ideal)
    ∧ preserves_Attn1_Attn1Ideal
    ∧ algebraic_Attn1Ideal_Ref1Ideal (hAttn1Ideal := hAttn1Ideal) (hRef1Ideal := hRef1Ideal)
    ∧ preserves_Attn2_Attn2Ideal
    ∧ algebraic_Attn2Ideal_Ref2Ideal (hAttn2Ideal := hAttn2Ideal) (hRef2Ideal := hRef2Ideal)
    ∧ preserves_Ffn_FfnIdeal
    ∧ algebraic_FfnIdeal_RefFfnIdeal (hFfnIdeal := hFfnIdeal) (hRefFfnIdeal := hRefFfnIdeal)
    ∧ preserves_Inp_InpIdeal
    ∧ algebraic_InpIdeal_RefInpIdeal (hInpIdeal := hInpIdeal) (hRefInpIdeal := hRefInpIdeal)
    ∧ preserves_Mix_MixIdeal
    ∧ algebraic_MixIdeal_RefMixIdeal_pre_largest_lse_finite (hMixIdeal := hMixIdeal) (hRefMixIdeal := hRefMixIdeal) (hPre_largest_lse_finite := hPre_largest_lse_finite)
-- ==== Pre_largest_lse_finite.lean ====
abbrev S32768x1024 : Shape := ⟨2, ![32768, 1024]⟩
abbrev S32768x256 : Shape := ⟨2, ![32768, 256]⟩
abbrev S32768x512 : Shape := ⟨2, ![32768, 512]⟩
abbrev S32768x2048 : Shape := ⟨2, ![32768, 2048]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

class Facts : Prop where
  bcast_S_S32768x256 : S_.BroadcastsInDim S32768x256 (![] : Fin 0 → Fin S32768x256.rank)

variable [Facts]

def fn {F : FTy → Type} [FloatOps F] (main_arg0 : FVec F S32768x1024 .f32) (main_arg1 : FVec F S32768x256 .f32) (main_arg2 : FVec F S32768x256 .f32) (main_arg3 : FVec F S32768x256 .f32) (main_arg4 : FVec F S32768x256 .f32) (main_arg5 : FVec F S32768x256 .f32) (main_arg6 : FVec F S32768x256 .f32) (main_arg7 : FVec F S32768x512 .bf16) (main_arg8 : FVec F S32768x2048 .bf16) (main_arg9 : FVec F S256x1024 .bf16) (main_arg10 : FVec F S512x1024 .bf16) (main_arg11 : FVec F S1024x1024 .bf16) (main_arg12 : FVec F S1x1024 .f32) : IVec S32768x256 1 :=
  let main_v0 : FVec F S32768x256 .f32 := maximumf main_arg4 main_arg5
  let main_v1 : FVec F S32768x256 .f32 := maximumf main_v0 main_arg6
  let main_cst : FVec F S_ .f32 := constant S_ .f32 0xFF800000#32
  let main_v2 : FVec F S32768x256 .f32 := broadcastInDim S32768x256 ![] bcast_S_S32768x256 main_cst
  let main_v3 : IVec S32768x256 1 := cmpf .ogt main_v1 main_v2
  let main_cst_0 : FVec F S_ .f32 := constant S_ .f32 0x7F800000#32
  let main_v4 : FVec F S32768x256 .f32 := broadcastInDim S32768x256 ![] bcast_S_S32768x256 main_cst_0
  let main_v5 : IVec S32768x256 1 := cmpf .olt main_v1 main_v4
  let main_v6 : IVec S32768x256 1 := andi main_v3 main_v5
  main_v6
-- ==== Attn0.lean ====
abbrev S4x8192x2304 : Shape := ⟨3, ![4, 8192, 2304]⟩
abbrev S4x8192x256 : Shape := ⟨3, ![4, 8192, 256]⟩
abbrev S1x512x256 : Shape := ⟨3, ![1, 512, 256]⟩
abbrev S1x128x256 : Shape := ⟨3, ![1, 128, 256]⟩
abbrev S128x256 : Shape := ⟨2, ![128, 256]⟩
abbrev S1x256 : Shape := ⟨2, ![1, 256]⟩
abbrev S256x256 : Shape := ⟨2, ![256, 256]⟩
abbrev S128 : Shape := ⟨1, ![128]⟩
abbrev S128x1 : Shape := ⟨2, ![128, 1]⟩
abbrev S1x256x256 : Shape := ⟨3, ![1, 256, 256]⟩

abbrev nBuf : Space → Nat
  | .hbm => 3
  | .vmem => 14
  | .smem => 0
  | _ => 0

abbrev bufTy : (tb : Table) → Fin (tcTables nBuf tb) → BufTy
  | .hbm, ⟨0, _⟩ => ⟨S4x8192x2304, .bf16⟩
  | .hbm, ⟨1, _⟩ => ⟨S4x8192x256, .f32⟩
  | .hbm, ⟨2, _⟩ => ⟨S4x8192x256, .f32⟩
  | .local _ .vmem, ⟨0, _⟩ => ⟨S1x512x256, .bf16⟩
  | .local _ .vmem, ⟨1, _⟩ => ⟨S1x512x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S4x8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c0_i32 : BitVec 32 := 0#32
  let v1 : BitVec 32 := Scalar.addi v0 c0_i32
  let c0_i32_0 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let v3 : BitVec 32 := Scalar.muli arg1 c9_i32
  let c3_i32 : BitVec 32 := 3#32
  let v4 : BitVec 32 := Scalar.addi v3 c3_i32
  let c0_i32_0 : BitVec 32 := 0#32
  ![arg0.toNat, v2.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c3_i32 : BitVec 32 := 3#32
  let v1 : BitVec 32 := Scalar.addi v0 c3_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let v3 : BitVec 32 := Scalar.muli arg1 c9_i32
  let c6_i32 : BitVec 32 := 6#32
  let v4 : BitVec 32 := Scalar.addi v3 c6_i32
  let c0_i32_0 : BitVec 32 := 0#32
  ![arg0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c6_i32 : BitVec 32 := 6#32
  let v1 : BitVec 32 := Scalar.addi v0 c6_i32
  let c0_i32 : BitVec 32 := 0#32
  ![arg0.toNat, arg2.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Attn0Ideal.lean ====
variable {F : FTy → Type} [FloatOps F] [Named F]
def κ : String → Option EReal := fun
  | "mask" => some ⊥
  | _ => none
-- ==== Ref0Ideal.lean ====
abbrev S4x8192x2304 : Shape := ⟨3, ![4, 8192, 2304]⟩
abbrev S4x8192x3x3x4x64 : Shape := ⟨6, ![4, 8192, 3, 3, 4, 64]⟩
abbrev S4x8192x1x1x4x64 : Shape := ⟨6, ![4, 8192, 1, 1, 4, 64]⟩
abbrev S4x8192x4x64 : Shape := ⟨4, ![4, 8192, 4, 64]⟩
abbrev S8192 : Shape := ⟨1, ![8192]⟩
abbrev S129 : Shape := ⟨1, ![129]⟩
abbrev S8192x1 : Shape := ⟨2, ![8192, 1]⟩
abbrev S1x129 : Shape := ⟨2, ![1, 129]⟩
abbrev S_ : Shape := ⟨0, ![]⟩
abbrev S8192x129 : Shape := ⟨2, ![8192, 129]⟩
abbrev S8192x129x1 : Shape := ⟨3, ![8192, 129, 1]⟩
abbrev S4x8192x129x4x64 : Shape := ⟨5, ![4, 8192, 129, 4, 64]⟩
abbrev S4x8192x4x129 : Shape := ⟨4, ![4, 8192, 4, 129]⟩
abbrev S1x8192x1x129 : Shape := ⟨4, ![1, 8192, 1, 129]⟩
abbrev S4x8192x4 : Shape := ⟨3, ![4, 8192, 4]⟩
abbrev S4x8192x4x1 : Shape := ⟨4, ![4, 8192, 4, 1]⟩
abbrev S4x8192x256 : Shape := ⟨3, ![4, 8192, 256]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x2304, .bf16⟩
  | .hbm, ⟨1, _⟩ => ⟨S4x8192x2304, .f32⟩
  | .hbm, ⟨2, _⟩ => ⟨S4x8192x3x3x4x64, .f32⟩
  | .hbm, ⟨3, _⟩ => ⟨S4x8192x1x1x4x64, .f32⟩
  | .hbm, ⟨4, _⟩ => ⟨S4x8192x4x64, .f32⟩
  | .hbm, ⟨5, _⟩ => ⟨S4x8192x1x1x4x64, .f32⟩
  | .hbm, ⟨6, _⟩ => ⟨S4x8192x4x64, .f32⟩
  | .hbm, ⟨7, _⟩ => ⟨S4x8192x1x1x4x64, .f32⟩
  | .hbm, ⟨8, _⟩ => ⟨S4x8192x4x64, .f32⟩
  | .hbm, ⟨9, _⟩ => ⟨S8192, .i32⟩
  | .hbm, ⟨10, _⟩ => ⟨S129, .i32⟩
  | .hbm, ⟨11, _⟩ => ⟨S8192x1, .i32⟩
  | .hbm, ⟨12, _⟩ => ⟨S1x129, .i32⟩
  | .hbm, ⟨13, _⟩ => ⟨S_, .i32⟩
  | .hbm, ⟨14, _⟩ => ⟨S1x129, .i32⟩
  | .hbm, ⟨15, _⟩ => ⟨S1x129, .i32⟩
  | .hbm, ⟨16, _⟩ => ⟨S8192x129, .i32⟩
  | .hbm, ⟨17, _⟩ => ⟨S8192x129, .i32⟩
  | .hbm, ⟨18, _⟩ => ⟨S8192x129, .i32⟩
  | .hbm, ⟨19, _⟩ => ⟨S_, .i32⟩
  | .hbm, ⟨20, _⟩ => ⟨S8192x129, .i32⟩
  | .hbm, ⟨21, _⟩ => ⟨S8192x129, .i1⟩
  | .hbm, ⟨22, _⟩ => ⟨S_, .i32⟩
  | .hbm, ⟨23, _⟩ => ⟨S8192x129, .i32⟩
  | .hbm, ⟨24, _⟩ => ⟨S8192x129, .i32⟩
  | .hbm, ⟨25, _⟩ => ⟨S8192x129x1, .i32⟩
  | .hbm, ⟨26, _⟩ => ⟨S4x8192x129x4x64, .f32⟩
  | .hbm, ⟨27, _⟩ => ⟨S8192x129x1, .i32⟩
  | .hbm, ⟨28, _⟩ => ⟨S4x8192x129x4x64, .f32⟩
  | .hbm, ⟨29, _⟩ => ⟨S4x8192x4x129, .f32⟩
  | .hbm, ⟨30, _⟩ => ⟨S1x8192x1x129, .i1⟩
  | .hbm, ⟨31, _⟩ => ⟨S_, .f32⟩
  | .hbm, ⟨32, _⟩ => ⟨S_, .f32⟩
  | .hbm, ⟨33, _⟩ => ⟨S4x8192x4x129, .i1⟩
  | .hbm, ⟨34, _⟩ => ⟨S4x8192x4x129, .f32⟩
  | .hbm, ⟨35, _⟩ => ⟨S4x8192x4x129, .f32⟩
  | .hbm, ⟨36, _⟩ => ⟨S_, .f32⟩
  | .hbm, ⟨37, _⟩ => ⟨S4x8192x4, .f32⟩
  | .hbm, ⟨38, _⟩ => ⟨S4x8192x4x1, .f32⟩
  | .hbm, ⟨39, _⟩ => ⟨S4x8192x4x129, .f32⟩
  | .hbm, ⟨40, _⟩ => ⟨S4x8192x4x129, .f32⟩
  | .hbm, ⟨41, _⟩ => ⟨S4x8192x4x129, .f32⟩
  | .hbm, ⟨42, _⟩ => ⟨S_, .f32⟩
  | .hbm, ⟨43, _⟩ => ⟨S4x8192x4, .f32⟩
  | .hbm, ⟨44, _⟩ => ⟨S4x8192x4x64, .f32⟩
  | .hbm, ⟨45, _⟩ => ⟨S4x8192x4x1, .f32⟩
  | .hbm, ⟨46, _⟩ => ⟨S4x8192x4x64, .f32⟩
  | .hbm, ⟨47, _⟩ => ⟨S4x8192x4x64, .f32⟩
  | .hbm, ⟨48, _⟩ => ⟨S4x8192x4, .f32⟩
  | .hbm, ⟨49, _⟩ => ⟨S4x8192x4, .f32⟩
  | .hbm, ⟨50, _⟩ => ⟨S4x8192x4, .f32⟩
  | .hbm, ⟨51, _⟩ => ⟨S4x8192x4x1, .f32⟩
  | .hbm, ⟨52, _⟩ => ⟨S4x8192x4x64, .f32⟩
  | .hbm, ⟨53, _⟩ => ⟨S4x8192x256, .f32⟩
  | .hbm, ⟨54, _⟩ => ⟨S4x8192x256, .f32⟩
  | _, _ => ⟨S4x8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c_0 : Ref sig .tc := ⟨.hbm, 19, rfl⟩
abbrev main_v17 : Ref sig .tc := ⟨.hbm, 20, rfl⟩
abbrev main_v18 : Ref sig .tc := ⟨.hbm, 21, rfl⟩
abbrev main_c_1 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_v21 : Ref sig .tc := ⟨.hbm, 26, rfl⟩
abbrev main_call1_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Attn1.lean ====
abbrev S4x8192x2304 : Shape := ⟨3, ![4, 8192, 2304]⟩
abbrev S4x2048x9216 : Shape := ⟨3, ![4, 2048, 9216]⟩
abbrev S4x2048x1024 : Shape := ⟨3, ![4, 2048, 1024]⟩
abbrev S1x512x256 : Shape := ⟨3, ![1, 512, 256]⟩
abbrev S1x128x256 : Shape := ⟨3, ![1, 128, 256]⟩
abbrev S128x256 : Shape := ⟨2, ![128, 256]⟩
abbrev S1x256 : Shape := ⟨2, ![1, 256]⟩
abbrev S256x256 : Shape := ⟨2, ![256, 256]⟩
abbrev S128 : Shape := ⟨1, ![128]⟩
abbrev S128x1 : Shape := ⟨2, ![128, 1]⟩
abbrev S1x256x256 : Shape := ⟨3, ![1, 256, 256]⟩

abbrev nBuf : Space → Nat
  | .hbm => 4
  | .vmem => 14
  | .smem => 0
  | _ => 0

abbrev bufTy : (tb : Table) → Fin (tcTables nBuf tb) → BufTy
  | .hbm, ⟨0, _⟩ => ⟨S4x8192x2304, .bf16⟩
  | .hbm, ⟨1, _⟩ => ⟨S4x2048x9216, .bf16⟩
  | .hbm, ⟨2, _⟩ => ⟨S4x2048x1024, .f32⟩
  | .hbm, ⟨3, _⟩ => ⟨S4x2048x1024, .f32⟩
  | .local _ .vmem, ⟨0, _⟩ => ⟨S1x512x256, .bf16⟩
  | .local _ .vmem, ⟨1, _⟩ => ⟨S1x512x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S4x8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c1_i32 : BitVec 32 := 1#32
  let v1 : BitVec 32 := Scalar.addi v0 c1_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let v3 : BitVec 32 := Scalar.muli arg1 c9_i32
  let c4_i32_0 : BitVec 32 := 4#32
  let v4 : BitVec 32 := Scalar.addi v3 c4_i32_0
  let c0_i32_1 : BitVec 32 := 0#32
  ![arg0.toNat, v2.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c4_i32 : BitVec 32 := 4#32
  let v1 : BitVec 32 := Scalar.addi v0 c4_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let v3 : BitVec 32 := Scalar.muli arg1 c9_i32
  let c7_i32 : BitVec 32 := 7#32
  let v4 : BitVec 32 := Scalar.addi v3 c7_i32
  let c0_i32_0 : BitVec 32 := 0#32
  ![arg0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c7_i32 : BitVec 32 := 7#32
  let v1 : BitVec 32 := Scalar.addi v0 c7_i32
  let c0_i32 : BitVec 32 := 0#32
  ![arg0.toNat, arg2.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Attn1Ideal.lean ====
variable {F : FTy → Type} [FloatOps F] [Named F]
def κ : String → Option EReal := fun
  | "mask" => some ⊥
  | _ => none
-- ==== Ref1Ideal.lean ====
abbrev S4x8192x2304 : Shape := ⟨3, ![4, 8192, 2304]⟩
abbrev S4x8192x3x3x4x64 : Shape := ⟨6, ![4, 8192, 3, 3, 4, 64]⟩
abbrev S4x8192x1x1x4x64 : Shape := ⟨6, ![4, 8192, 1, 1, 4, 64]⟩
abbrev S4x8192x4x64 : Shape := ⟨4, ![4, 8192, 4, 64]⟩
abbrev S8192 : Shape := ⟨1, ![8192]⟩
abbrev S129 : Shape := ⟨1, ![129]⟩
abbrev S8192x1 : Shape := ⟨2, ![8192, 1]⟩
abbrev S1x129 : Shape := ⟨2, ![1, 129]⟩
abbrev S_ : Shape := ⟨0, ![]⟩
abbrev S8192x129 : Shape := ⟨2, ![8192, 129]⟩
abbrev S8192x129x1 : Shape := ⟨3, ![8192, 129, 1]⟩
abbrev S4x8192x129x4x64 : Shape := ⟨5, ![4, 8192, 129, 4, 64]⟩
abbrev S4x8192x4x129 : Shape := ⟨4, ![4, 8192, 4, 129]⟩
abbrev S1x8192x1x129 : Shape := ⟨4, ![1, 8192, 1, 129]⟩
abbrev S4x8192x4 : Shape := ⟨3, ![4, 8192, 4]⟩
abbrev S4x8192x4x1 : Shape := ⟨4, ![4, 8192, 4, 1]⟩
abbrev S4x2048x1024 : Shape := ⟨3, ![4, 2048, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x2304, .bf16⟩
  | .hbm, ⟨1, _⟩ => ⟨S4x8192x2304, .f32⟩
  | .hbm, ⟨2, _⟩ => ⟨S4x8192x3x3x4x64, .f32⟩
  | .hbm, ⟨3, _⟩ => ⟨S4x8192x1x1x4x64, .f32⟩
  | .hbm, ⟨4, _⟩ => ⟨S4x8192x4x64, .f32⟩
  | .hbm, ⟨5, _⟩ => ⟨S4x8192x1x1x4x64, .f32⟩
  | .hbm, ⟨6, _⟩ => ⟨S4x8192x4x64, .f32⟩
  | .hbm, ⟨7, _⟩ => ⟨S4x8192x1x1x4x64, .f32⟩
  | .hbm, ⟨8, _⟩ => ⟨S4x8192x4x64, .f32⟩
  | .hbm, ⟨9, _⟩ => ⟨S8192, .i32⟩
  | .hbm, ⟨10, _⟩ => ⟨S129, .i32⟩
  | .hbm, ⟨11, _⟩ => ⟨S8192x1, .i32⟩
  | .hbm, ⟨12, _⟩ => ⟨S1x129, .i32⟩
  | .hbm, ⟨13, _⟩ => ⟨S_, .i32⟩
  | .hbm, ⟨14, _⟩ => ⟨S1x129, .i32⟩
  | .hbm, ⟨15, _⟩ => ⟨S1x129, .i32⟩
  | .hbm, ⟨16, _⟩ => ⟨S8192x129, .i32⟩
  | .hbm, ⟨17, _⟩ => ⟨S8192x129, .i32⟩
  | .hbm, ⟨18, _⟩ => ⟨S8192x129, .i32⟩
  | .hbm, ⟨19, _⟩ => ⟨S_, .i32⟩
  | .hbm, ⟨20, _⟩ => ⟨S8192x129, .i32⟩
  | .hbm, ⟨21, _⟩ => ⟨S8192x129, .i1⟩
  | .hbm, ⟨22, _⟩ => ⟨S_, .i32⟩
  | .hbm, ⟨23, _⟩ => ⟨S8192x129, .i32⟩
  | .hbm, ⟨24, _⟩ => ⟨S8192x129, .i32⟩
  | .hbm, ⟨25, _⟩ => ⟨S8192x129x1, .i32⟩
  | .hbm, ⟨26, _⟩ => ⟨S4x8192x129x4x64, .f32⟩
  | .hbm, ⟨27, _⟩ => ⟨S8192x129x1, .i32⟩
  | .hbm, ⟨28, _⟩ => ⟨S4x8192x129x4x64, .f32⟩
  | .hbm, ⟨29, _⟩ => ⟨S4x8192x4x129, .f32⟩
  | .hbm, ⟨30, _⟩ => ⟨S1x8192x1x129, .i1⟩
  | .hbm, ⟨31, _⟩ => ⟨S_, .f32⟩
  | .hbm, ⟨32, _⟩ => ⟨S_, .f32⟩
  | .hbm, ⟨33, _⟩ => ⟨S4x8192x4x129, .i1⟩
  | .hbm, ⟨34, _⟩ => ⟨S4x8192x4x129, .f32⟩
  | .hbm, ⟨35, _⟩ => ⟨S4x8192x4x129, .f32⟩
  | .hbm, ⟨36, _⟩ => ⟨S_, .f32⟩
  | .hbm, ⟨37, _⟩ => ⟨S4x8192x4, .f32⟩
  | .hbm, ⟨38, _⟩ => ⟨S4x8192x4x1, .f32⟩
  | .hbm, ⟨39, _⟩ => ⟨S4x8192x4x129, .f32⟩
  | .hbm, ⟨40, _⟩ => ⟨S4x8192x4x129, .f32⟩
  | .hbm, ⟨41, _⟩ => ⟨S4x8192x4x129, .f32⟩
  | .hbm, ⟨42, _⟩ => ⟨S_, .f32⟩
  | .hbm, ⟨43, _⟩ => ⟨S4x8192x4, .f32⟩
  | .hbm, ⟨44, _⟩ => ⟨S4x8192x4x64, .f32⟩
  | .hbm, ⟨45, _⟩ => ⟨S4x8192x4x1, .f32⟩
  | .hbm, ⟨46, _⟩ => ⟨S4x8192x4x64, .f32⟩
  | .hbm, ⟨47, _⟩ => ⟨S4x8192x4x64, .f32⟩
  | .hbm, ⟨48, _⟩ => ⟨S4x8192x4, .f32⟩
  | .hbm, ⟨49, _⟩ => ⟨S4x8192x4, .f32⟩
  | .hbm, ⟨50, _⟩ => ⟨S4x8192x4, .f32⟩
  | .hbm, ⟨51, _⟩ => ⟨S4x8192x4x1, .f32⟩
  | .hbm, ⟨52, _⟩ => ⟨S4x8192x4x64, .f32⟩
  | .hbm, ⟨53, _⟩ => ⟨S4x2048x1024, .f32⟩
  | .hbm, ⟨54, _⟩ => ⟨S4x2048x1024, .f32⟩
  | _, _ => ⟨S4x8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c_0 : Ref sig .tc := ⟨.hbm, 19, rfl⟩
abbrev main_v17 : Ref sig .tc := ⟨.hbm, 20, rfl⟩
abbrev main_v18 : Ref sig .tc := ⟨.hbm, 21, rfl⟩
abbrev main_c_1 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_v21 : Ref sig .tc := ⟨.hbm, 26, rfl⟩
abbrev main_call1_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Attn2.lean ====
abbrev S4x8192x2304 : Shape := ⟨3, ![4, 8192, 2304]⟩
abbrev S4x512x36864 : Shape := ⟨3, ![4, 512, 36864]⟩
abbrev S4x512x4096 : Shape := ⟨3, ![4, 512, 4096]⟩
abbrev S1x512x256 : Shape := ⟨3, ![1, 512, 256]⟩
abbrev S1x128x256 : Shape := ⟨3, ![1, 128, 256]⟩
abbrev S128x256 : Shape := ⟨2, ![128, 256]⟩
abbrev S1x256 : Shape := ⟨2, ![1, 256]⟩
abbrev S256x256 : Shape := ⟨2, ![256, 256]⟩
abbrev S128 : Shape := ⟨1, ![128]⟩
abbrev S128x1 : Shape := ⟨2, ![128, 1]⟩
abbrev S1x256x256 : Shape := ⟨3, ![1, 256, 256]⟩

abbrev nBuf : Space → Nat
  | .hbm => 4
  | .vmem => 14
  | .smem => 0
  | _ => 0

abbrev bufTy : (tb : Table) → Fin (tcTables nBuf tb) → BufTy
  | .hbm, ⟨0, _⟩ => ⟨S4x8192x2304, .bf16⟩
  | .hbm, ⟨1, _⟩ => ⟨S4x512x36864, .bf16⟩
  | .hbm, ⟨2, _⟩ => ⟨S4x512x4096, .f32⟩
  | .hbm, ⟨3, _⟩ => ⟨S4x512x4096, .f32⟩
  | .local _ .vmem, ⟨0, _⟩ => ⟨S1x512x256, .bf16⟩
  | .local _ .vmem, ⟨1, _⟩ => ⟨S1x512x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S4x8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c2_i32 : BitVec 32 := 2#32
  let v1 : BitVec 32 := Scalar.addi v0 c2_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let v3 : BitVec 32 := Scalar.muli arg1 c9_i32
  let c5_i32 : BitVec 32 := 5#32
  let v4 : BitVec 32 := Scalar.addi v3 c5_i32
  let c0_i32_0 : BitVec 32 := 0#32
  ![arg0.toNat, v2.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c5_i32 : BitVec 32 := 5#32
  let v1 : BitVec 32 := Scalar.addi v0 c5_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let v3 : BitVec 32 := Scalar.muli arg1 c9_i32
  let c8_i32 : BitVec 32 := 8#32
  let v4 : BitVec 32 := Scalar.addi v3 c8_i32
  let c0_i32_0 : BitVec 32 := 0#32
  ![arg0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg1 c9_i32
  let c8_i32 : BitVec 32 := 8#32
  let v1 : BitVec 32 := Scalar.addi v0 c8_i32
  let c0_i32 : BitVec 32 := 0#32
  ![arg0.toNat, arg2.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Attn2Ideal.lean ====
variable {F : FTy → Type} [FloatOps F] [Named F]
def κ : String → Option EReal := fun
  | "mask" => some ⊥
  | _ => none
-- ==== Ref2Ideal.lean ====
abbrev S4x8192x2304 : Shape := ⟨3, ![4, 8192, 2304]⟩
abbrev S4x8192x3x3x4x64 : Shape := ⟨6, ![4, 8192, 3, 3, 4, 64]⟩
abbrev S4x8192x1x1x4x64 : Shape := ⟨6, ![4, 8192, 1, 1, 4, 64]⟩
abbrev S4x8192x4x64 : Shape := ⟨4, ![4, 8192, 4, 64]⟩
abbrev S8192 : Shape := ⟨1, ![8192]⟩
abbrev S129 : Shape := ⟨1, ![129]⟩
abbrev S8192x1 : Shape := ⟨2, ![8192, 1]⟩
abbrev S1x129 : Shape := ⟨2, ![1, 129]⟩
abbrev S_ : Shape := ⟨0, ![]⟩
abbrev S8192x129 : Shape := ⟨2, ![8192, 129]⟩
abbrev S8192x129x1 : Shape := ⟨3, ![8192, 129, 1]⟩
abbrev S4x8192x129x4x64 : Shape := ⟨5, ![4, 8192, 129, 4, 64]⟩
abbrev S4x8192x4x129 : Shape := ⟨4, ![4, 8192, 4, 129]⟩
abbrev S1x8192x1x129 : Shape := ⟨4, ![1, 8192, 1, 129]⟩
abbrev S4x8192x4 : Shape := ⟨3, ![4, 8192, 4]⟩
abbrev S4x8192x4x1 : Shape := ⟨4, ![4, 8192, 4, 1]⟩
abbrev S4x512x4096 : Shape := ⟨3, ![4, 512, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x2304, .bf16⟩
  | .hbm, ⟨1, _⟩ => ⟨S4x8192x2304, .f32⟩
  | .hbm, ⟨2, _⟩ => ⟨S4x8192x3x3x4x64, .f32⟩
  | .hbm, ⟨3, _⟩ => ⟨S4x8192x1x1x4x64, .f32⟩
  | .hbm, ⟨4, _⟩ => ⟨S4x8192x4x64, .f32⟩
  | .hbm, ⟨5, _⟩ => ⟨S4x8192x1x1x4x64, .f32⟩
  | .hbm, ⟨6, _⟩ => ⟨S4x8192x4x64, .f32⟩
  | .hbm, ⟨7, _⟩ => ⟨S4x8192x1x1x4x64, .f32⟩
  | .hbm, ⟨8, _⟩ => ⟨S4x8192x4x64, .f32⟩
  | .hbm, ⟨9, _⟩ => ⟨S8192, .i32⟩
  | .hbm, ⟨10, _⟩ => ⟨S129, .i32⟩
  | .hbm, ⟨11, _⟩ => ⟨S8192x1, .i32⟩
  | .hbm, ⟨12, _⟩ => ⟨S1x129, .i32⟩
  | .hbm, ⟨13, _⟩ => ⟨S_, .i32⟩
  | .hbm, ⟨14, _⟩ => ⟨S1x129, .i32⟩
  | .hbm, ⟨15, _⟩ => ⟨S1x129, .i32⟩
  | .hbm, ⟨16, _⟩ => ⟨S8192x129, .i32⟩
  | .hbm, ⟨17, _⟩ => ⟨S8192x129, .i32⟩
  | .hbm, ⟨18, _⟩ => ⟨S8192x129, .i32⟩
  | .hbm, ⟨19, _⟩ => ⟨S_, .i32⟩
  | .hbm, ⟨20, _⟩ => ⟨S8192x129, .i32⟩
  | .hbm, ⟨21, _⟩ => ⟨S8192x129, .i1⟩
  | .hbm, ⟨22, _⟩ => ⟨S_, .i32⟩
  | .hbm, ⟨23, _⟩ => ⟨S8192x129, .i32⟩
  | .hbm, ⟨24, _⟩ => ⟨S8192x129, .i32⟩
  | .hbm, ⟨25, _⟩ => ⟨S8192x129x1, .i32⟩
  | .hbm, ⟨26, _⟩ => ⟨S4x8192x129x4x64, .f32⟩
  | .hbm, ⟨27, _⟩ => ⟨S8192x129x1, .i32⟩
  | .hbm, ⟨28, _⟩ => ⟨S4x8192x129x4x64, .f32⟩
  | .hbm, ⟨29, _⟩ => ⟨S4x8192x4x129, .f32⟩
  | .hbm, ⟨30, _⟩ => ⟨S1x8192x1x129, .i1⟩
  | .hbm, ⟨31, _⟩ => ⟨S_, .f32⟩
  | .hbm, ⟨32, _⟩ => ⟨S_, .f32⟩
  | .hbm, ⟨33, _⟩ => ⟨S4x8192x4x129, .i1⟩
  | .hbm, ⟨34, _⟩ => ⟨S4x8192x4x129, .f32⟩
  | .hbm, ⟨35, _⟩ => ⟨S4x8192x4x129, .f32⟩
  | .hbm, ⟨36, _⟩ => ⟨S_, .f32⟩
  | .hbm, ⟨37, _⟩ => ⟨S4x8192x4, .f32⟩
  | .hbm, ⟨38, _⟩ => ⟨S4x8192x4x1, .f32⟩
  | .hbm, ⟨39, _⟩ => ⟨S4x8192x4x129, .f32⟩
  | .hbm, ⟨40, _⟩ => ⟨S4x8192x4x129, .f32⟩
  | .hbm, ⟨41, _⟩ => ⟨S4x8192x4x129, .f32⟩
  | .hbm, ⟨42, _⟩ => ⟨S_, .f32⟩
  | .hbm, ⟨43, _⟩ => ⟨S4x8192x4, .f32⟩
  | .hbm, ⟨44, _⟩ => ⟨S4x8192x4x64, .f32⟩
  | .hbm, ⟨45, _⟩ => ⟨S4x8192x4x1, .f32⟩
  | .hbm, ⟨46, _⟩ => ⟨S4x8192x4x64, .f32⟩
  | .hbm, ⟨47, _⟩ => ⟨S4x8192x4x64, .f32⟩
  | .hbm, ⟨48, _⟩ => ⟨S4x8192x4, .f32⟩
  | .hbm, ⟨49, _⟩ => ⟨S4x8192x4, .f32⟩
  | .hbm, ⟨50, _⟩ => ⟨S4x8192x4, .f32⟩
  | .hbm, ⟨51, _⟩ => ⟨S4x8192x4x1, .f32⟩
  | .hbm, ⟨52, _⟩ => ⟨S4x8192x4x64, .f32⟩
  | .hbm, ⟨53, _⟩ => ⟨S4x512x4096, .f32⟩
  | .hbm, ⟨54, _⟩ => ⟨S4x512x4096, .f32⟩
  | _, _ => ⟨S4x8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c_0 : Ref sig .tc := ⟨.hbm, 19, rfl⟩
abbrev main_v17 : Ref sig .tc := ⟨.hbm, 20, rfl⟩
abbrev main_v18 : Ref sig .tc := ⟨.hbm, 21, rfl⟩
abbrev main_c_1 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_v21 : Ref sig .tc := ⟨.hbm, 26, rfl⟩
abbrev main_call1_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Ffn.lean ====
abbrev S32768x1024 : Shape := ⟨2, ![32768, 1024]⟩
abbrev S32768x256 : Shape := ⟨2, ![32768, 256]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S256x1024, .bf16⟩
  | .hbm, ⟨7, _⟩ => ⟨S1024x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S256x1024, .bf16⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefFfnIdeal.lean ====
abbrev S32768x1024 : Shape := ⟨2, ![32768, 1024]⟩
abbrev S32768x256 : Shape := ⟨2, ![32768, 256]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 77
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S256x1024, .bf16⟩
  | .hbm, ⟨7, _⟩ => ⟨S1024x1024, .bf16⟩
  | .hbm, ⟨8, _⟩ => ⟨S1x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S1024x4096, .f32⟩
  | .hbm, ⟨25, _⟩ => ⟨S32768x4096, .f32⟩
  | .hbm, ⟨26, _⟩ => ⟨S_, .f32⟩
  | .hbm, ⟨27, _⟩ => ⟨S32768x4096, .f32⟩
  | .hbm, ⟨28, _⟩ => ⟨S32768x4096, .f32⟩
  | .hbm, ⟨29, _⟩ => ⟨S32768x4096, .f32⟩
  | .hbm, ⟨30, _⟩ => ⟨S4096x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S256x1024, .f32⟩
  | .hbm, ⟨49, _⟩ => ⟨S32768x1024, .f32⟩
  | .hbm, ⟨50, _⟩ => ⟨S1024x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Inp.lean ====
abbrev S4x8192x1024 : Shape := ⟨3, ![4, 8192, 1024]⟩
abbrev S1024 : Shape := ⟨1, ![1024]⟩
abbrev S1024x6048 : Shape := ⟨2, ![1024, 6048]⟩
abbrev S1696 : Shape := ⟨1, ![1696]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x512 : Shape := ⟨2, ![8192, 512]⟩
abbrev S1024x32 : Shape := ⟨2, ![1024, 32]⟩
abbrev S1024x96 : Shape := ⟨2, ![1024, 96]⟩
abbrev S1024x128 : Shape := ⟨2, ![1024, 128]⟩
abbrev S1024x384 : Shape := ⟨2, ![1024, 384]⟩
abbrev S96 : Shape := ⟨1, ![96]⟩
abbrev S128 : Shape := ⟨1, ![128]⟩
abbrev S384 : Shape := ⟨1, ![384]⟩
abbrev S1x1024 : Shape := ⟨2, ![1, 1024]⟩
abbrev S1024x1536 : Shape := ⟨2, ![1024, 1536]⟩
abbrev S1024x768 : Shape := ⟨2, ![1024, 768]⟩
abbrev S1024x2048 : Shape := ⟨2, ![1024, 2048]⟩
abbrev S1536 : Shape := ⟨1, ![1536]⟩
abbrev S1x1536 : Shape := ⟨2, ![1, 1536]⟩
abbrev S1x384 : Shape := ⟨2, ![1, 384]⟩
abbrev S4x8192x2304 : Shape := ⟨3, ![4, 8192, 2304]⟩
abbrev S4x8192x1536 : Shape := ⟨3, ![4, 8192, 1536]⟩
abbrev S4x8192x384 : Shape := ⟨3, ![4, 8192, 384]⟩
abbrev S4x8192x2048 : Shape := ⟨3, ![4, 8192, 2048]⟩
abbrev S1x256x1024 : Shape := ⟨3, ![1, 256, 1024]⟩
abbrev S256x512 : Shape := ⟨2, ![256, 512]⟩
abbrev S1x256x2304 : Shape := ⟨3, ![1, 256, 2304]⟩
abbrev S1x256x1536 : Shape := ⟨3, ![1, 256, 1536]⟩
abbrev S1x256x384 : Shape := ⟨3, ![1, 256, 384]⟩
abbrev S1x256x2048 : Shape := ⟨3, ![1, 256, 2048]⟩
abbrev S8x1536 : Shape := ⟨2, ![8, 1536]⟩
abbrev S8x384 : Shape := ⟨2, ![8, 384]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S1x128 : Shape := ⟨2, ![1, 128]⟩
abbrev S256x128 : Shape := ⟨2, ![256, 128]⟩
abbrev S1x256x128 : Shape := ⟨3, ![1, 256, 128]⟩
abbrev S256x768 : Shape := ⟨2, ![256, 768]⟩
abbrev S1x256x768 : Shape := ⟨3, ![1, 256, 768]⟩
abbrev S256x384 : Shape := ⟨2, ![256, 384]⟩
abbrev S256x2048 : Shape := ⟨2, ![256, 2048]⟩

abbrev nBuf : Space → Nat
  | .hbm => 85
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6048, .f32⟩
  | .hbm, ⟨3, _⟩ => ⟨S1696, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x64, .f32⟩
  | .hbm, ⟨27, _⟩ => ⟨S1x8192x1x64, .f32⟩
  | .hbm, ⟨28, _⟩ => ⟨S1x8192x2x64, .f32⟩
  | .hbm, ⟨29, _⟩ => ⟨S8192x128, .f32⟩
  | .hbm, ⟨30, _⟩ => ⟨S8192x32, .f32⟩
  | .hbm, ⟨31, _⟩ => ⟨S8192x64, .f32⟩
  | .hbm, ⟨32, _⟩ => ⟨S1x8192x1x64, .f32⟩
  | .hbm, ⟨33, _⟩ => ⟨S1x8192x2x64, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S8192x128, .f32⟩
  | .hbm, ⟨40, _⟩ => ⟨S8192x128, .f32⟩
  | .hbm, ⟨41, _⟩ => ⟨S8192x512, .f32⟩
  | .hbm, ⟨42, _⟩ => ⟨S1024x32, .f32⟩
  | .hbm, ⟨43, _⟩ => ⟨S1024x32, .f32⟩
  | .hbm, ⟨44, _⟩ => ⟨S1024x96, .f32⟩
  | .hbm, ⟨45, _⟩ => ⟨S_, .i32⟩
  | .hbm, ⟨46, _⟩ => ⟨S_, .f32⟩
  | .hbm, ⟨47, _⟩ => ⟨S1024x128, .f32⟩
  | .hbm, ⟨48, _⟩ => ⟨S_, .i32⟩
  | .hbm, ⟨49, _⟩ => ⟨S_, .f32⟩
  | .hbm, ⟨50, _⟩ => ⟨S1024x128, .f32⟩
  | .hbm, ⟨51, _⟩ => ⟨S_, .i32⟩
  | .hbm, ⟨52, _⟩ => ⟨S_, .f32⟩
  | .hbm, ⟨53, _⟩ => ⟨S1024x128, .f32⟩
  | .hbm, ⟨54, _⟩ => ⟨S1024x384, .f32⟩
  | .hbm, ⟨55, _⟩ => ⟨S32, .f32⟩
  | .hbm, ⟨56, _⟩ => ⟨S32, .f32⟩
  | .hbm, ⟨57, _⟩ => ⟨S96, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S_, .i32⟩
  | .hbm, ⟨62, _⟩ => ⟨S_, .f32⟩
  | .hbm, ⟨63, _⟩ => ⟨S128, .f32⟩
  | .hbm, ⟨64, _⟩ => ⟨S_, .i32⟩
  | .hbm, ⟨65, _⟩ => ⟨S_, .f32⟩
  | .hbm, ⟨66, _⟩ => ⟨S128, .f32⟩
  | .hbm, ⟨67, _⟩ => ⟨S384, .f32⟩
  | .hbm, ⟨68, _⟩ => ⟨S1x1024, .f32⟩
  | .hbm, ⟨69, _⟩ => ⟨S1024x1536, .f32⟩
  | .hbm, ⟨70, _⟩ => ⟨S1024x1536, .bf16⟩
  | .hbm, ⟨71, _⟩ => ⟨S1024x768, .f32⟩
  | .hbm, ⟨72, _⟩ => ⟨S1024x768, .bf16⟩
  | .hbm, ⟨73, _⟩ => ⟨S1024x1536, .f32⟩
  | .hbm, ⟨74, _⟩ => ⟨S1024x1536, .bf16⟩
  | .hbm, ⟨75, _⟩ => ⟨S1024x384, .bf16⟩
  | .hbm, ⟨76, _⟩ => ⟨S1024x2048, .f32⟩
  | .hbm, ⟨77, _⟩ => ⟨S1024x2048, .bf16⟩
  | .hbm, ⟨78, _⟩ => ⟨S1536, .f32⟩
  | .hbm, ⟨79, _⟩ => ⟨S1x1536, .f32⟩
  | .hbm, ⟨80, _⟩ => ⟨S1x384, .f32⟩
  | .hbm, ⟨81, _⟩ => ⟨S4x8192x2304, .bf16⟩
  | .hbm, ⟨82, _⟩ => ⟨S4x8192x1536, .f32⟩
  | .hbm, ⟨83, _⟩ => ⟨S4x8192x384, .f32⟩
  | .hbm, ⟨84, _⟩ => ⟨S4x8192x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1536, .bf16⟩
  | .local _ .vmem, ⟨4, _⟩ => ⟨S1024x768, .bf16⟩
  | .local _ .vmem, ⟨5, _⟩ => ⟨S1024x1536, .bf16⟩
  | .local _ .vmem, ⟨6, _⟩ => ⟨S1024x384, .bf16⟩
  | .local _ .vmem, ⟨7, _⟩ => ⟨S1024x2048, .bf16⟩
  | .local _ .vmem, ⟨8, _⟩ => ⟨S256x512, .f32⟩
  | .local _ .vmem, ⟨9, _⟩ => ⟨S256x512, .f32⟩
  | .local _ .vmem, ⟨10, _⟩ => ⟨S1x1536, .f32⟩
  | .local _ .vmem, ⟨11, _⟩ => ⟨S1x384, .f32⟩
  | .local _ .vmem, ⟨12, _⟩ => ⟨S1x256x2304, .bf16⟩
  | .local _ .vmem, ⟨13, _⟩ => ⟨S1x256x2304, .bf16⟩
  | .local _ .vmem, ⟨14, _⟩ => ⟨S1x256x1536, .f32⟩
  | .local _ .vmem, ⟨15, _⟩ => ⟨S1x256x1536, .f32⟩
  | .local _ .vmem, ⟨16, _⟩ => ⟨S1x256x384, .f32⟩
  | .local _ .vmem, ⟨17, _⟩ => ⟨S1x256x384, .f32⟩
  | .local _ .vmem, ⟨18, _⟩ => ⟨S1x256x2048, .bf16⟩
  | .local _ .vmem, ⟨19, _⟩ => ⟨S1x256x2048, .bf16⟩
  | .local _ .vmem, ⟨20, _⟩ => ⟨S8x1536, .f32⟩
  | .local _ .vmem, ⟨21, _⟩ => ⟨S8x384, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_call0_v0 : Ref sig .tc := ⟨.hbm, 46, rfl⟩
abbrev main_v35 : Ref sig .tc := ⟨.hbm, 47, rfl⟩
abbrev main_c_5 : Ref sig .tc := ⟨.hbm, 48, rfl⟩
abbrev main_call1_v0 : Ref sig .tc := ⟨.hbm, 49, rfl⟩
abbrev main_v36 : Ref sig .tc := ⟨.hbm, 50, rfl⟩
abbrev main_c_6 : Ref sig .tc := ⟨.hbm, 51, rfl⟩
abbrev main_call2_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_call3_v0 : Ref sig .tc := ⟨.hbm, 59, rfl⟩
abbrev main_v42 : Ref sig .tc := ⟨.hbm, 60, rfl⟩
abbrev main_c_8 : Ref sig .tc := ⟨.hbm, 61, rfl⟩
abbrev main_call4_v0 : Ref sig .tc := ⟨.hbm, 62, rfl⟩
abbrev main_v43 : Ref sig .tc := ⟨.hbm, 63, rfl⟩
abbrev main_c_9 : Ref sig .tc := ⟨.hbm, 64, rfl⟩
abbrev main_call5_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59_0 : Ref sig .tc := ⟨.hbm, 81, rfl⟩
abbrev main_v59_1 : Ref sig .tc := ⟨.hbm, 82, rfl⟩
abbrev main_v59_2 : Ref sig .tc := ⟨.hbm, 83, rfl⟩
abbrev main_v59_3 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2304 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RefInpIdeal.lean ====
abbrev S4x8192x1024 : Shape := ⟨3, ![4, 8192, 1024]⟩
abbrev S1024 : Shape := ⟨1, ![1024]⟩
abbrev S1024x6048 : Shape := ⟨2, ![1024, 6048]⟩
abbrev S1696 : Shape := ⟨1, ![1696]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6048 : Shape := ⟨3, ![4, 8192, 6048]⟩
abbrev S4x8192x2304 : Shape := ⟨3, ![4, 8192, 2304]⟩
abbrev S4x8192x1696 : Shape := ⟨3, ![4, 8192, 1696]⟩
abbrev S4x8192x2048 : Shape := ⟨3, ![4, 8192, 2048]⟩
abbrev S4x8192x3x3x4x64 : Shape := ⟨6, ![4, 8192, 3, 3, 4, 64]⟩
abbrev S8192 : Shape := ⟨1, ![8192]⟩
abbrev S4x8192x1x3x4x64 : Shape := ⟨6, ![4, 8192, 1, 3, 4, 64]⟩
abbrev S4x8192x3x4x64 : Shape := ⟨5, ![4, 8192, 3, 4, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x1x32 : Shape := ⟨4, ![8192, 1, 1, 32]⟩
abbrev S4x8192x3x4x32 : Shape := ⟨5, ![4, 8192, 3, 4, 32]⟩
abbrev S1x8192x1x1x32 : Shape := ⟨5, ![1, 8192, 1, 1, 32]⟩
abbrev S4x8191x1696 : Shape := ⟨3, ![4, 8191, 1696]⟩
abbrev S1x1x1696 : Shape := ⟨3, ![1, 1, 1696]⟩
abbrev S4x8192x1536 : Shape := ⟨3, ![4, 8192, 1536]⟩
abbrev S4x8192x32 : Shape := ⟨3, ![4, 8192, 32]⟩
abbrev S4x8192x96 : Shape := ⟨3, ![4, 8192, 96]⟩
abbrev S4x8192x128 : Shape := ⟨3, ![4, 8192, 128]⟩
abbrev S4x8192x384 : Shape := ⟨3, ![4, 8192, 384]⟩

abbrev nBuf : Space → Nat
  | .hbm => 151
  | .vmem => 0
  | .smem => 0
  | _ => 0

abbrev hbmTy0_0 (i : Nat) : BufTy := match i % 128 with
  | 0 => ⟨S4x8192x1024, .f32⟩
  | 1 => ⟨S1024, .f32⟩
  | 2 => ⟨S1024x6048, .f32⟩
  | 3 => ⟨S1696, .f32⟩
  | 4 => ⟨S4x8192x1024, .f32⟩
  | 5 => ⟨S_, .f32⟩
  | 6 => ⟨S4x8192, .f32⟩
  | 7 => ⟨S4x8192x1, .f32⟩
  | 8 => ⟨S_, .f32⟩
  | 9 => ⟨S4x8192x1, .f32⟩
  | 10 => ⟨S4x8192x1, .f32⟩
  | 11 => ⟨S_, .f32⟩
  | 12 => ⟨S4x8192x1, .f32⟩
  | 13 => ⟨S4x8192x1, .f32⟩
  | 14 => ⟨S4x8192x1, .f32⟩
  | 15 => ⟨S4x8192x1024, .f32⟩
  | 16 => ⟨S4x8192x1024, .f32⟩
  | 17 => ⟨S1x1x1024, .f32⟩
  | 18 => ⟨S4x8192x1024, .f32⟩
  | 19 => ⟨S4x8192x1024, .f32⟩
  | 20 => ⟨S4x8192x6048, .f32⟩
  | 21 => ⟨S4x8192x2304, .f32⟩
  | 22 => ⟨S4x8192x1696, .f32⟩
  | 23 => ⟨S4x8192x2048, .f32⟩
  | 24 => ⟨S4x8192x3x3x4x64, .f32⟩
  | 25 => ⟨S8192, .f32⟩
  | 26 => ⟨S4x8192x1x3x4x64, .f32⟩
  | 27 => ⟨S4x8192x3x4x64, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S8192x1, .f32⟩
  | 43 => ⟨S1x32, .f32⟩
  | 44 => ⟨S8192x32, .f32⟩
  | 45 => ⟨S8192x32, .f32⟩
  | 46 => ⟨S8192x32, .f32⟩
  | 47 => ⟨S8192x1x1x32, .f32⟩
  | 48 => ⟨S8192x1x1x32, .f32⟩
  | 49 => ⟨S8192x1x1x32, .f32⟩
  | 50 => ⟨S4x8192x3x4x32, .f32⟩
  | 51 => ⟨S4x8192x3x4x32, .f32⟩
  | 52 => ⟨S1x8192x1x1x32, .f32⟩
  | 53 => ⟨S4x8192x3x4x32, .f32⟩
  | 54 => ⟨S4x8192x3x4x32, .f32⟩
  | 55 => ⟨S1x8192x1x1x32, .f32⟩
  | 56 => ⟨S4x8192x3x4x32, .f32⟩
  | 57 => ⟨S4x8192x3x4x32, .f32⟩
  | 58 => ⟨S4x8192x3x4x32, .f32⟩
  | 59 => ⟨S1x8192x1x1x32, .f32⟩
  | 60 => ⟨S4x8192x3x4x32, .f32⟩
  | 61 => ⟨S4x8192x3x4x32, .f32⟩
  | 62 => ⟨S1x8192x1x1x32, .f32⟩
  | 63 => ⟨S4x8192x3x4x32, .f32⟩
  | 64 => ⟨S4x8192x3x4x32, .f32⟩
  | 65 => ⟨S4x8192x3x4x32, .f32⟩
  | 66 => ⟨S4x8192x3x4x64, .f32⟩
  | 67 => ⟨S_, .f32⟩
  | 68 => ⟨S4x8192x3x4x64, .f32⟩
  | 69 => ⟨S4x8192x3x4x64, .f32⟩
  | 70 => ⟨S4x8192x1x3x4x64, .f32⟩
  | 71 => ⟨S4x8192x3x4x64, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S8192x1, .f32⟩
  | 87 => ⟨S1x32, .f32⟩
  | 88 => ⟨S8192x32, .f32⟩
  | 89 => ⟨S8192x32, .f32⟩
  | 90 => ⟨S8192x32, .f32⟩
  | 91 => ⟨S8192x1x1x32, .f32⟩
  | 92 => ⟨S8192x1x1x32, .f32⟩
  | 93 => ⟨S8192x1x1x32, .f32⟩
  | 94 => ⟨S4x8192x3x4x32, .f32⟩
  | 95 => ⟨S4x8192x3x4x32, .f32⟩
  | 96 => ⟨S1x8192x1x1x32, .f32⟩
  | 97 => ⟨S4x8192x3x4x32, .f32⟩
  | 98 => ⟨S4x8192x3x4x32, .f32⟩
  | 99 => ⟨S1x8192x1x1x32, .f32⟩
  | 100 => ⟨S4x8192x3x4x32, .f32⟩
  | 101 => ⟨S4x8192x3x4x32, .f32⟩
  | 102 => ⟨S4x8192x3x4x32, .f32⟩
  | 103 => ⟨S1x8192x1x1x32, .f32⟩
  | 104 => ⟨S4x8192x3x4x32, .f32⟩
  | 105 => ⟨S4x8192x3x4x32, .f32⟩
  | 106 => ⟨S1x8192x1x1x32, .f32⟩
  | 107 => ⟨S4x8192x3x4x32, .f32⟩
  | 108 => ⟨S4x8192x3x4x32, .f32⟩
  | 109 => ⟨S4x8192x3x4x32, .f32⟩
  | 110 => ⟨S4x8192x3x4x64, .f32⟩
  | 111 => ⟨S4x8192x1x3x4x64, .f32⟩
  | 112 => ⟨S4x8192x3x4x64, .f32⟩
  | 113 => ⟨S4x8192x1x3x4x64, .f32⟩
  | 114 => ⟨S4x8192x1x3x4x64, .f32⟩
  | 115 => ⟨S4x8192x1x3x4x64, .f32⟩
  | 116 => ⟨S4x8192x3x3x4x64, .f32⟩
  | 117 => ⟨S4x8192x2304, .f32⟩
  | 118 => ⟨S4x8191x1696, .f32⟩
  | 119 => ⟨S_, .i32⟩
  | 120 => ⟨S_, .f32⟩
  | 121 => ⟨S4x8192x1696, .f32⟩
  | 122 => ⟨S4x8192x1696, .f32⟩
  | 123 => ⟨S1x1x1696, .f32⟩
  | 124 => ⟨S4x8192x1696, .f32⟩
  | 125 => ⟨S4x8192x1696, .f32⟩
  | 126 => ⟨S4x8192x1696, .f32⟩
  | 127 => ⟨S4x8192x1536, .f32⟩
  | _ => ⟨S4x8192x1024, .f32⟩

abbrev hbmTy0_1 (i : Nat) : BufTy := match i % 128 with
  | 0 => ⟨S4x8192x32, .f32⟩
  | 1 => ⟨S4x8192x32, .f32⟩
  | 2 => ⟨S4x8192x96, .f32⟩
  | 3 => ⟨S_, .i32⟩
  | 4 => ⟨S_, .f32⟩
  | 5 => ⟨S4x8192x128, .f32⟩
  | 6 => ⟨S_, .i32⟩
  | 7 => ⟨S_, .f32⟩
  | 8 => ⟨S4x8192x128, .f32⟩
  | 9 => ⟨S_, .i32⟩
  | 10 => ⟨S_, .f32⟩
  | 11 => ⟨S4x8192x128, .f32⟩
  | 12 => ⟨S4x8192x384, .f32⟩
  | 13 => ⟨S4x8192x2048, .f32⟩
  | 14 => ⟨S4x8192x2048, .f32⟩
  | 15 => ⟨S_, .f32⟩
  | 16 => ⟨S4x8192x2048, .f32⟩
  | 17 => ⟨S4x8192x2048, .f32⟩
  | 18 => ⟨S_, .f32⟩
  | 19 => ⟨S4x8192x2048, .f32⟩
  | 20 => ⟨S4x8192x2048, .f32⟩
  | 21 => ⟨S4x8192x2304, .bf16⟩
  | 22 => ⟨S4x8192x2048, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_7 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_9 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_c : Ref sig .tc := ⟨.hbm, 119, rfl⟩
abbrev main_call0_v0 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_c_11 : Ref sig .tc := ⟨.hbm, 131, rfl⟩
abbrev main_call1_v0 : Ref sig .tc := ⟨.hbm, 132, rfl⟩
abbrev main_v113 : Ref sig .tc := ⟨.hbm, 133, rfl⟩
abbrev main_c_12 : Ref sig .tc := ⟨.hbm, 134, rfl⟩
abbrev main_call2_v0 : Ref sig .tc := ⟨.hbm, 135, rfl⟩
abbrev main_v114 : Ref sig .tc := ⟨.hbm, 136, rfl⟩
abbrev main_c_13 : Ref sig .tc := ⟨.hbm, 137, rfl⟩
abbrev main_call3_v0 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_14 : Ref sig .tc := ⟨.hbm, 143, rfl⟩
abbrev main_v119 : Ref sig .tc := ⟨.hbm, 144, rfl⟩
abbrev main_v120 : Ref sig .tc := ⟨.hbm, 145, rfl⟩
abbrev main_cst_15 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩

abbrev nD : Nat := 1
abbrev τ : Topo := Topo.v7x

variable {F : FTy → Type} [FloatOps F]
-- ==== Mix.lean ====
abbrev S32768x1024 : Shape := ⟨2, ![32768, 1024]⟩
abbrev S32768x256 : Shape := ⟨2, ![32768, 256]⟩
abbrev S32768x512 : Shape := ⟨2, ![32768, 512]⟩
abbrev S32768x2048 : Shape := ⟨2, ![32768, 2048]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S512x256 : Shape := ⟨2, ![512, 256]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S32768x256, .f32⟩
  | .hbm, ⟨7, _⟩ => ⟨S32768x512, .bf16⟩
  | .hbm, ⟨8, _⟩ => ⟨S32768x2048, .bf16⟩
  | .hbm, ⟨9, _⟩ => ⟨S256x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .bf16⟩
  | .local _ .vmem, ⟨15, _⟩ => ⟨S512x512, .bf16⟩
  | .local _ .vmem, ⟨16, _⟩ => ⟨S512x2048, .bf16⟩
  | .local _ .vmem, ⟨17, _⟩ => ⟨S512x2048, .bf16⟩
  | .local _ .vmem, ⟨18, _⟩ => ⟨S256x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefMixIdeal.lean ====
abbrev S32768x1024 : Shape := ⟨2, ![32768, 1024]⟩
abbrev S32768x256 : Shape := ⟨2, ![32768, 256]⟩
abbrev S32768x512 : Shape := ⟨2, ![32768, 512]⟩
abbrev S32768x2048 : Shape := ⟨2, ![32768, 2048]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S1x32768x256 : Shape := ⟨3, ![1, 32768, 256]⟩
abbrev S3x32768x256 : Shape := ⟨3, ![3, 32768, 256]⟩
abbrev S_ : Shape := ⟨0, ![]⟩
abbrev S32768 : Shape := ⟨1, ![32768]⟩
abbrev S32768x1 : Shape := ⟨2, ![32768, 1]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S32768x256, .f32⟩
  | .hbm, ⟨7, _⟩ => ⟨S32768x512, .bf16⟩
  | .hbm, ⟨8, _⟩ => ⟨S32768x2048, .bf16⟩
  | .hbm, ⟨9, _⟩ => ⟨S256x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S1x32768x256, .f32⟩
  | .hbm, ⟨14, _⟩ => ⟨S1x32768x256, .f32⟩
  | .hbm, ⟨15, _⟩ => ⟨S1x32768x256, .f32⟩
  | .hbm, ⟨16, _⟩ => ⟨S3x32768x256, .f32⟩
  | .hbm, ⟨17, _⟩ => ⟨S_, .f32⟩
  | .hbm, ⟨18, _⟩ => ⟨S32768x256, .f32⟩
  | .hbm, ⟨19, _⟩ => ⟨S_, .f32⟩
  | .hbm, ⟨20, _⟩ => ⟨S32768x256, .f32⟩
  | .hbm, ⟨21, _⟩ => ⟨S32768x256, .f32⟩
  | .hbm, ⟨22, _⟩ => ⟨S1x32768x256, .f32⟩
  | .hbm, ⟨23, _⟩ => ⟨S3x32768x256, .f32⟩
  | .hbm, ⟨24, _⟩ => ⟨S3x32768x256, .f32⟩
  | .hbm, ⟨25, _⟩ => ⟨S3x32768x256, .f32⟩
  | .hbm, ⟨26, _⟩ => ⟨S_, .f32⟩
  | .hbm, ⟨27, _⟩ => ⟨S32768x256, .f32⟩
  | .hbm, ⟨28, _⟩ => ⟨S1x32768x256, .f32⟩
  | .hbm, ⟨29, _⟩ => ⟨S3x32768x256, .f32⟩
  | .hbm, ⟨30, _⟩ => ⟨S3x32768x256, .f32⟩
  | .hbm, ⟨31, _⟩ => ⟨S1x32768x256, .f32⟩
  | .hbm, ⟨32, _⟩ => ⟨S32768x256, .f32⟩
  | .hbm, ⟨33, _⟩ => ⟨S32768x256, .f32⟩
  | .hbm, ⟨34, _⟩ => ⟨S1x32768x256, .f32⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S1x32768x256, .f32⟩
  | .hbm, ⟨39, _⟩ => ⟨S32768x256, .f32⟩
  | .hbm, ⟨40, _⟩ => ⟨S32768x256, .f32⟩
  | .hbm, ⟨41, _⟩ => ⟨S32768x256, .f32⟩
  | .hbm, ⟨42, _⟩ => ⟨S32768x2048, .f32⟩
  | .hbm, ⟨43, _⟩ => ⟨S32768x1024, .f32⟩
  | .hbm, ⟨44, _⟩ => ⟨S32768x1024, .f32⟩
  | .hbm, ⟨45, _⟩ => ⟨S256x1024, .f32⟩
  | .hbm, ⟨46, _⟩ => ⟨S32768x1024, .f32⟩
  | .hbm, ⟨47, _⟩ => ⟨S32768x1024, .f32⟩
  | .hbm, ⟨48, _⟩ => ⟨S32768x512, .f32⟩
  | .hbm, ⟨49, _⟩ => ⟨S512x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S1024x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_2 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Proof.Band.Math.lean ====
/- A softmax over a finite family of scores in the extended reals, and what it does not see: scores of minus infinity. -/
module

public import Idealize.ShloMosaic.PureOps.Ideal
public import Idealize.ShloMosaic.PureOps.Ideal.Laws

@[expose] public section

noncomputable section

namespace Cert.Band

open Idealize.ShloMosaic

/-- The largest score, minus infinity when there is none. -/
def top {ι : Type} [Fintype ι] (s : ι → EReal) : EReal := Finset.univ.fold max ⊥ s

/-- The sum of the exponentials of the scores less the largest. -/
def den {ι : Type} [Fintype ι] (s : ι → EReal) : EReal := ∑ i, Ideal.exp (s i - top s)

/-- The softmax-weighted sum of the values `v`. -/
def out {ι : Type} [Fintype ι] (s v : ι → EReal) : EReal := Ideal.div (∑ i, Ideal.exp (s i - top s) * v i) (den s)

/-- The logarithm of the sum of the scores' exponentials. -/
def lse {ι : Type} [Fintype ι] (s : ι → EReal) : EReal := top s + Ideal.log (den s)

/-- The scalar that masks a score is minus infinity, read off its word. -/
theorem ofBits_negInf : Ideal.ofBits .f32 0xFF800000#32 = ⊥ := by simp [Ideal.ofBits, Ideal.ieee]

/-- The largest score is the supremum of the scores. -/
theorem top_eq_sup {ι : Type} [Fintype ι] (s : ι → EReal) : top s = Finset.univ.sup s := rfl

variable {ι κ : Type} [Fintype ι] [Fintype κ] (e : κ → ι) (he : Function.Injective e) (s : ι → EReal) (s' : κ → EReal)
  (h1 : ∀ j, s (e j) = s' j) (h0 : ∀ i, (∀ j, e j ≠ i) → s i = ⊥)

include h1 h0

/-- Scores of minus infinity do not move the largest score. -/
theorem top_reindex : top s = top s' := by
  classical
  rw [top_eq_sup, top_eq_sup]
  apply le_antisymm
  · apply Finset.sup_le
    intro i _
    by_cases hi : ∀ j, e j ≠ i
    · rw [h0 i hi]; exact bot_le
    · push Not at hi
      obtain ⟨j, rfl⟩ := hi
      rw [h1 j]; exact Finset.le_sup (f := s') (Finset.mem_univ j)
  · apply Finset.sup_le
    intro j _
    rw [← h1 j]; exact Finset.le_sup (f := s) (Finset.mem_univ _)

include he

/-- Scores of minus infinity add nothing to a sum weighted by the exponentials. -/
theorem sum_reindex (v : ι → EReal) (v' : κ → EReal) (hv : ∀ j, s' j = ⊥ ∨ v (e j) = v' j) :
    ∑ i, Ideal.exp (s i - top s) * v i = ∑ j, Ideal.exp (s' j - top s') * v' j := by
  rw [top_reindex e s s' h1 h0]
  symm
  apply Finset.sum_of_injOn e (he.injOn) (fun _ _ => Finset.mem_coe.2 (Finset.mem_univ _))
  · intro i _ hi
    rw [h0 i (fun j hj => hi ⟨j, Finset.mem_coe.2 (Finset.mem_univ _), hj⟩), EReal.bot_sub, Ideal.exp_bot, zero_mul]
  · intro j _
    rw [h1 j]
    rcases hv j with h | h
    · rw [h, EReal.bot_sub, Ideal.exp_bot, zero_mul, zero_mul]
    · rw [h]

/-- Scores of minus infinity add nothing to the denominator. -/
theorem den_reindex : den s = den s' := by
  have h := sum_reindex e he s s' h1 h0 (fun _ => 1) (fun _ => 1) (fun _ => .inr rfl)
  simpa [den] using h

/-- The softmax-weighted sum over the larger family is the one over the smaller. -/
theorem out_reindex (v : ι → EReal) (v' : κ → EReal) (hv : ∀ j, s' j = ⊥ ∨ v (e j) = v' j) : out s v = out s' v' := by
  unfold out
  rw [sum_reindex e he s s' h1 h0 v v' hv, den_reindex e he s s' h1 h0]

/-- The log-sum-exp over the larger family is the one over the smaller. -/
theorem lse_reindex : lse s = lse s' := by
  unfold lse
  rw [den_reindex e he s s' h1 h0, top_reindex e s s' h1 h0]

omit he h1 h0

/-- A sum over 256 lanes that is zero off head `h` is the sum over the head's 64 lanes. -/
theorem sum_head (h : Fin 4) (f : Fin 256 → EReal) (hf : ∀ l : Fin 256, l.val / 64 ≠ h.val → f l = 0) :
    ∑ l, f l = ∑ d : Fin 64, f ⟨h.val * 64 + d.val, by omega⟩ := by
  symm
  apply Finset.sum_of_injOn (fun d : Fin 64 => (⟨h.val * 64 + d.val, by omega⟩ : Fin 256))
  · intro a _ b _ hab
    simp only [Fin.mk.injEq] at hab
    exact Fin.ext (by omega)
  · exact fun _ _ => Finset.mem_coe.2 (Finset.mem_univ _)
  · intro l _ hl
    apply hf
    intro hh
    exact hl ⟨⟨l.val % 64, by omega⟩, Finset.mem_coe.2 (Finset.mem_univ _), Fin.ext (by simp only []; omega)⟩
  · intro d _; rfl

end Cert.Band

end
-- ==== Proof.Band.RefCore.lean ====
/- The reference's attention of one window, over any queries, keys, values and positions, read at an index. -/
module

public import proofs.«01_k».proof.Proof.Gen.Ref0Ideal.Read
public import proofs.«01_k».proof.Proof.Band.Math
public import Idealize.ShloMosaic.Lib.Pointwise
public import Idealize.ShloMosaic.Lib.Pipeline.ValueKit

@[expose] public section

set_option maxRecDepth 16384

noncomputable section

namespace Cert.Band

open Cert.Ref0Ideal Cert.Ref0Ideal.Gen Idealize.ShloMosaic Idealize.ShloMosaic.TcCoe

/-- The rows of `x` that a table of token numbers names. -/
def rows (x : FVec Ideal S4x8192x4x64 .f32) (ix : IVec S8192x129 32) : FVec Ideal S4x8192x129x4x64 .f32 :=
  Host.gather gather_S4x8192x4x64_S8192x129x1_S4x8192x129x4x64_034_1_n_n_1_2_41464 x
    (broadcastInDim S8192x129x1 ![0, 1] bcast_S8192x129_S8192x129x1_0_1 ix)

/-- The scores, minus infinity where the position is negative. -/
def scores (q k : FVec Ideal S4x8192x4x64 .f32) (pos ix : IVec S8192x129 32) : FVec Ideal S4x8192x4x129 .f32 :=
  select (broadcastInDim S4x8192x4x129 ![0, 1, 2, 3] bcast_S1x8192x1x129_S4x8192x4x129_0_1_2_3
      (broadcastInDim S1x8192x1x129 ![1, 3] bcast_S8192x129_S1x8192x1x129_1_3
        (cmpi .sge pos (broadcastInDim S8192x129 ![] bcast_S_S8192x129 (constantI S_ 32 0#32)))))
    (Host.dotGeneral dot_S4x8192x4x64_S4x8192x129x4x64_S4x8192x4x129_3_4_n_2_012_013 none q (rows k ix))
    (broadcastInDim S4x8192x4x129 ![] bcast_S_S4x8192x4x129 (constant (F := Ideal) S_ .f32 0xFF800000#32))

/-- Each row's largest score, on a trailing axis of size one. -/
def tops (s : FVec Ideal S4x8192x4x129 .f32) : FVec Ideal S4x8192x4x1 .f32 :=
  broadcastInDim S4x8192x4x1 ![0, 1, 2] bcast_S4x8192x4_S4x8192x4x1_0_1_2
    (Host.reduce FloatOps.maximumf s (constant (F := Ideal) S_ .f32 0xFF800000#32) reducesTo_S4x8192x4x129_S4x8192x4_d3 h_S_)

/-- The exponentials of the scores less their row's largest. -/
def exps (s : FVec Ideal S4x8192x4x129 .f32) : FVec Ideal S4x8192x4x129 .f32 :=
  Host.exp (subf s (broadcastInDim S4x8192x4x129 ![0, 1, 2, 3] bcast_S4x8192x4x1_S4x8192x4x129_0_1_2_3 (tops s)))

/-- Each row's sum of exponentials. -/
def dens (s : FVec Ideal S4x8192x4x129 .f32) : FVec Ideal S4x8192x4 .f32 :=
  Host.reduceAdd (exps s) (constant (F := Ideal) S_ .f32 0x00000000#32) reducesTo_S4x8192x4x129_S4x8192x4_d3 h_S_

/-- The attention's result over the scores and the gathered values. -/
def outs (s : FVec Ideal S4x8192x4x129 .f32) (v : FVec Ideal S4x8192x129x4x64 .f32) : FVec Ideal S4x8192x4x64 .f32 :=
  Host.divf (Host.dotGeneral dot_S4x8192x4x129_S4x8192x129x4x64_S4x8192x4x64_3_2_n_4_012_013 none (exps s) v)
    (broadcastInDim S4x8192x4x64 ![0, 1, 2, 3] bcast_S4x8192x4x1_S4x8192x4x64_0_1_2_3
      (broadcastInDim S4x8192x4x1 ![0, 1, 2] bcast_S4x8192x4_S4x8192x4x1_0_1_2 (dens s)))

/-- An array without its trailing axis of size one. -/
def flat (y : FVec Ideal S4x8192x4x1 .f32) : FVec Ideal S4x8192x4 .f32 := shapeCast _ y shapeCasts_S4x8192x4x1_S4x8192x4

/-- The log-sum-exp of the scores. -/
def logs (s : FVec Ideal S4x8192x4x129 .f32) : FVec Ideal S4x8192x4 .f32 := addf (flat (tops s)) (Host.log (dens s))

/-- The log-sum-exp of the scores, repeated over a head's lanes. -/
def lses (s : FVec Ideal S4x8192x4x129 .f32) : FVec Ideal S4x8192x4x64 .f32 :=
  broadcastInDim S4x8192x4x64 ![0, 1, 2, 3] bcast_S4x8192x4x1_S4x8192x4x64_0_1_2_3
    (broadcastInDim S4x8192x4x1 ![0, 1, 2] bcast_S4x8192x4_S4x8192x4x1_0_1_2
      (logs s))

/-- The result at an index is the softmax-weighted sum. -/
theorem outs_apply (s : FVec Ideal S4x8192x4x129 .f32) (v : FVec Ideal S4x8192x129x4x64 .f32) (b : Fin 4) (t : Fin 8192) (h : Fin 4) (d : Fin 64) :
    outs s v (ix4 b t h d) = out (fun j => s (ix4 b t h j)) (fun j => v (ix5 b t j h d)) := by
  pointwise [outs, dens, exps, tops]
  rw [ofBits_negInf]; rfl

/-- The array without its trailing axis, read at an index. -/
theorem flat_apply (y : FVec Ideal S4x8192x4x1 .f32) (b : Fin 4) (t : Fin 8192) (h : Fin 4) :
    flat y (ix3 b t h) = y (ix4 b t h (0 : Fin 1)) :=
  shapeCast_apply y shapeCasts_S4x8192x4x1_S4x8192x4 (ix3 b t h) (ix4 b t h (0 : Fin 1))
    (by rewrite [Shape.rowMajor_val_four, Shape.rowMajor_val_three]
        show ((b.val * 8192 + t.val) * 4 + h.val) * 1 + 0 = (b.val * 8192 + t.val) * 4 + h.val
        omega)

/-- The largest score at an index. -/
theorem tops_apply (s : FVec Ideal S4x8192x4x129 .f32) (b : Fin 4) (t : Fin 8192) (h : Fin 4) :
    tops s (ix4 b t h (0 : Fin 1)) = top (fun j => s (ix4 b t h j)) := by
  pointwise [tops]
  rw [ofBits_negInf]; rfl

/-- The sum of exponentials at an index. -/
theorem dens_apply (s : FVec Ideal S4x8192x4x129 .f32) (b : Fin 4) (t : Fin 8192) (h : Fin 4) :
    dens s (ix3 b t h) = den (fun j => s (ix4 b t h j)) := by
  pointwise [dens, exps, tops]
  rw [ofBits_negInf]; rfl

/-- A sum with a logarithm, element by element. -/
theorem add_log_apply {S : Shape} (x y : FVec Ideal S .f32) (i : S.Idx) : addf x (Host.log y) i = x i + Ideal.log (y i) := rfl

/-- The log-sum-exp at an index of a row. -/
theorem logs_apply (s : FVec Ideal S4x8192x4x129 .f32) (b : Fin 4) (t : Fin 8192) (h : Fin 4) :
    logs s (ix3 b t h) = lse (fun j => s (ix4 b t h j)) := by
  unfold logs
  rw [add_log_apply, flat_apply, dens_apply, tops_apply, lse]

/-- The log-sum-exp at an index. -/
theorem lses_apply (s : FVec Ideal S4x8192x4x129 .f32) (b : Fin 4) (t : Fin 8192) (h : Fin 4) (d : Fin 64) :
    lses s (ix4 b t h d) = lse (fun j => s (ix4 b t h j)) := by
  pointwise [lses]
  exact logs_apply s b t h

/-- Row `j` that token `t` reads: the table's entry, clipped to the tokens. -/
theorem rows_apply (x : FVec Ideal S4x8192x4x64 .f32) (ix : IVec S8192x129 32) (b : Fin 4) (t : Fin 8192) (j : Fin 129)
    (h : Fin 4) (d : Fin 64) :
    rows x ix (ix5 b t j h d) = x (ix4 b ⟨min (ix (ix2 t j)).toInt.toNat 8191, by omega⟩ h d) := by
  unfold rows Host.gather
  set g := gather_S4x8192x4x64_S8192x129x1_S4x8192x129x4x64_034_1_n_n_1_2_41464
  congr 1
  funext a
  refine Fin.ext ?_
  show g.start _ _ a + g.batchCoord _ a + g.offCoord _ a = _
  rw [GatherDims.batchCoord_eq_zero _ _ _ List.not_mem_nil]
  match a with
  | ⟨0, _⟩ =>
    unfold GatherDims.start
    rw [dif_neg (show (⟨0, by decide⟩ : Fin 4) ∉ g.startIndexMap from fun h => absurd (List.mem_singleton.mp h) (by decide))]
    rw [Nat.zero_add]
    rfl
  | ⟨1, _⟩ =>
    rw [GatherDims.offCoord_eq_zero _ _ _ (fun h => ((GatherDims.mem_sKept _ _).mp h).1 (List.mem_singleton.mpr rfl))]
    unfold GatherDims.start
    rw [dif_pos (show (⟨1, by decide⟩ : Fin 4) ∈ g.startIndexMap from List.mem_singleton.mpr rfl)]
    have hsi : g.siIdx (ix5 b t j h d) ⟨List.idxOf (⟨1, by decide⟩ : Fin 4) g.startIndexMap,
        List.idxOf_lt_length_iff.2 (List.mem_singleton.mpr rfl)⟩ = ix3 t j (0 : Fin 1) := by
      funext b; refine Fin.ext ?_
      match b with
      | ⟨0, _⟩ => rfl
      | ⟨1, _⟩ => rfl
      | ⟨2, _⟩ => rfl
    rw [hsi]
    have hb : broadcastInDim S8192x129x1 ![0, 1] bcast_S8192x129_S8192x129x1_0_1 ix (ix3 t j (0 : Fin 1)) = ix (ix2 t j) := by
      pointwise
    rw [hb]
    rfl
  | ⟨2, _⟩ =>
    unfold GatherDims.start
    rw [dif_neg (show (⟨2, by decide⟩ : Fin 4) ∉ g.startIndexMap from fun h => absurd (List.mem_singleton.mp h) (by decide))]
    rw [Nat.zero_add]
    rfl
  | ⟨3, _⟩ =>
    unfold GatherDims.start
    rw [dif_neg (show (⟨3, by decide⟩ : Fin 4) ∉ g.startIndexMap from fun h => absurd (List.mem_singleton.mp h) (by decide))]
    rw [Nat.zero_add]
    rfl

/-- A score at an index: the inner product over a head's 64 lanes, minus infinity where the position is negative. -/
theorem scores_apply (q k : FVec Ideal S4x8192x4x64 .f32) (pos ix : IVec S8192x129 32) (b : Fin 4) (t : Fin 8192) (h : Fin 4) (j : Fin 129) :
    scores q k pos ix (ix4 b t h j) = Scalar.select (IntOp.cmpi .sge (pos (ix2 t j)) 0#32)
      (∑ d : Fin 64, q (ix4 b t h d) * k (ix4 b ⟨min (ix (ix2 t j)).toInt.toNat 8191, by omega⟩ h d)) ⊥ := by
  pointwise [scores]
  rw [ofBits_negInf]
  simp only [rows_apply]

end Cert.Band

end
-- ==== Proof.Band.Spec.lean ====
/- The attention of one window as a formula of the fused projection's array: token `t` attends to itself and to the
   128 tokens before it at the window's stride, and the reference's result is that formula. -/
module

public import proofs.«01_k».proof.Proof.Band.RefCore
public import Idealize.ShloMosaic.Lib.WordCmp

@[expose] public section

set_option maxRecDepth 16384

noncomputable section

namespace Cert.Band

open Cert.Ref0Ideal Cert.Ref0Ideal.Gen Idealize.ShloMosaic Idealize.ShloMosaic.TcCoe

/-- The fused projection's array, at the reals. -/
abbrev Qkv : Type := FVec Ideal S4x8192x2304 .bf16

/-- Column `col` of token `t` of sequence `b`. -/
def tok (x : Qkv) (b : Fin 4) (t col : ℕ) (ht : t < 8192) (hc : col < 2304) : EReal := x (ix3 b ⟨t, ht⟩ ⟨col, hc⟩)

/-- Head `h`'s score of token `t` against its `j`-th key, at stride `dil` in window `g`. -/
def specS (x : Qkv) (dil : ℕ) (g : Fin 3) (b : Fin 4) (t : ℕ) (ht : t < 8192) (h : Fin 4) (j : Fin 129) : EReal :=
  if dil * j.val ≤ t then
    ∑ d : Fin 64, tok x b t (g.val * 256 + (h.val * 64 + d.val)) ht (by omega)
      * tok x b (t - dil * j.val) (768 + (g.val * 256 + (h.val * 64 + d.val))) (by omega) (by omega)
  else ⊥

/-- The attention's result for token `t` on lane `l` of window `g`. -/
def specO (x : Qkv) (dil : ℕ) (g : Fin 3) (b : Fin 4) (t : ℕ) (ht : t < 8192) (l : Fin 256) : EReal :=
  out (specS x dil g b t ht ⟨l.val / 64, by omega⟩)
    (fun j => tok x b (t - dil * j.val) (1536 + (g.val * 256 + l.val)) (by omega) (by omega))

/-- The scores' log-sum-exp for token `t` on lane `l` of window `g`. -/
def specL (x : Qkv) (dil : ℕ) (g : Fin 3) (b : Fin 4) (t : ℕ) (ht : t < 8192) (l : Fin 256) : EReal :=
  lse (specS x dil g b t ht ⟨l.val / 64, by omega⟩)

/-- The word of a key's position, read as an integer. -/
theorem pos_toInt (t dil j : ℕ) (ht : t < 8192) (hd : dil ≤ 16) (hj : j < 129) :
    (IntOp.subi (BitVec.ofNat 32 t) (IntOp.muli (BitVec.ofNat 32 dil) (BitVec.ofNat 32 j))).toInt = (t : ℤ) - (dil * j : ℕ) := by
  have hb : dil * j ≤ 16 * 128 := Nat.mul_le_mul hd (by omega)
  rw [WordCmp.muli_ofNat]
  show (BitVec.ofNat 32 t - BitVec.ofNat 32 (dil * j)).toInt = _
  generalize dil * j = m at hb
  rw [BitVec.toInt_sub]
  rw [BitVec.toInt_ofNat', BitVec.toInt_ofNat']
  simp only [Int.bmod]
  omega

/-- The larger of a word and zero, read as an integer. -/
theorem max_toInt (w : BitVec 32) : (IntOp.maxsi w 0#32).toInt = max w.toInt 0 := by
  unfold IntOp.maxsi
  by_cases h : (0#32 : BitVec 32).slt w = true
  · rw [if_pos h]
    rw [BitVec.slt, decide_eq_true_eq, BitVec.toInt_zero] at h
    omega
  · rw [if_neg h]
    rw [BitVec.slt, decide_eq_true_eq, BitVec.toInt_zero] at h
    rw [BitVec.toInt_zero]
    omega

/-- The reference's scores are the formula's. -/
theorem scores_spec (x : Qkv) (dil : ℕ) (hd : dil ≤ 16) (g : Fin 3) (q k : FVec Ideal S4x8192x4x64 .f32) (pos ix : IVec S8192x129 32)
    (hq : ∀ b t h d, q (ix4 b t h d) = tok x b t.val (g.val * 256 + (h.val * 64 + d.val)) t.isLt (by omega))
    (hk : ∀ b t h d, k (ix4 b t h d) = tok x b t.val (768 + (g.val * 256 + (h.val * 64 + d.val))) t.isLt (by omega))
    (hpos : ∀ t j, (pos (ix2 t j)).toInt = (t.val : ℤ) - (dil * j.val : ℕ))
    (hix : ∀ t j, (ix (ix2 t j)).toInt.toNat = t.val - dil * j.val)
    (b : Fin 4) (t : Fin 8192) (h : Fin 4) (j : Fin 129) :
    scores q k pos ix (ix4 b t h j) = specS x dil g b t.val t.isLt h j := by
  rw [scores_apply, WordCmp.cmpi_sge_eq, hpos, WordCmp.ofBool_decide_eq_ite]
  unfold specS
  by_cases hv : dil * j.val ≤ t.val
  · rw [if_pos hv, if_pos (by show (0#32 : BitVec 32).toInt ≤ _; simp only [BitVec.toInt_zero]; omega)]
    rw [WordCmp.select_of_eq_one rfl]
    refine Finset.sum_congr rfl fun d _ => ?_
    rw [hq, hk]
    congr 2
    simp only [hix]
    omega
  · rw [if_neg hv, if_neg (by show ¬ (0#32 : BitVec 32).toInt ≤ _; simp only [BitVec.toInt_zero]; omega)]
    rw [WordCmp.select_of_eq_zero rfl]

/-- The reference's result is the formula's. -/
theorem outs_spec (x : Qkv) (dil : ℕ) (hd : dil ≤ 16) (g : Fin 3) (q k v : FVec Ideal S4x8192x4x64 .f32) (pos ix : IVec S8192x129 32)
    (hq : ∀ b t h d, q (ix4 b t h d) = tok x b t.val (g.val * 256 + (h.val * 64 + d.val)) t.isLt (by omega))
    (hk : ∀ b t h d, k (ix4 b t h d) = tok x b t.val (768 + (g.val * 256 + (h.val * 64 + d.val))) t.isLt (by omega))
    (hv : ∀ b t h d, v (ix4 b t h d) = tok x b t.val (1536 + (g.val * 256 + (h.val * 64 + d.val))) t.isLt (by omega))
    (hpos : ∀ t j, (pos (ix2 t j)).toInt = (t.val : ℤ) - (dil * j.val : ℕ))
    (hix : ∀ t j, (ix (ix2 t j)).toInt.toNat = t.val - dil * j.val)
    (b : Fin 4) (t : Fin 8192) (h : Fin 4) (d : Fin 64) :
    outs (scores q k pos ix) (rows v ix) (ix4 b t h d) = specO x dil g b t.val t.isLt ⟨h.val * 64 + d.val, by omega⟩ := by
  rw [outs_apply]
  unfold specO
  congr 1
  · funext j
    rw [scores_spec x dil hd g q k pos ix hq hk hpos hix]
    congr 1
    exact Fin.ext (by show h.val = (h.val * 64 + d.val) / 64; omega)
  · funext j
    rw [rows_apply, hv]
    congr 1
    simp only [hix]
    omega

/-- The reference's log-sum-exp is the formula's. -/
theorem lses_spec (x : Qkv) (dil : ℕ) (hd : dil ≤ 16) (g : Fin 3) (q k : FVec Ideal S4x8192x4x64 .f32) (pos ix : IVec S8192x129 32)
    (hq : ∀ b t h d, q (ix4 b t h d) = tok x b t.val (g.val * 256 + (h.val * 64 + d.val)) t.isLt (by omega))
    (hk : ∀ b t h d, k (ix4 b t h d) = tok x b t.val (768 + (g.val * 256 + (h.val * 64 + d.val))) t.isLt (by omega))
    (hpos : ∀ t j, (pos (ix2 t j)).toInt = (t.val : ℤ) - (dil * j.val : ℕ))
    (hix : ∀ t j, (ix (ix2 t j)).toInt.toNat = t.val - dil * j.val)
    (b : Fin 4) (t : Fin 8192) (h : Fin 4) (d : Fin 64) :
    lses (scores q k pos ix) (ix4 b t h d) = specL x dil g b t.val t.isLt ⟨h.val * 64 + d.val, by omega⟩ := by
  rw [lses_apply]
  unfold specL
  congr 1
  funext j
  rw [scores_spec x dil hd g q k pos ix hq hk hpos hix]
  congr 1
  exact Fin.ext (by show h.val = (h.val * 64 + d.val) / 64; omega)

end Cert.Band

end
-- ==== Proof.Band.KerCore.lean ====
/- What one sub-block of 128 queries computes from its 256 keys and values, over any head masks. -/
module

public import proofs.«01_k».proof.Proof.Gen.Attn0Ideal.Skeleton
public import proofs.«01_k».proof.Proof.Gen.Attn0Ideal
public import proofs.«01_k».proof.Proof.Band.Math
public import Idealize.ShloMosaic.Lib.Pointwise
public import Idealize.ShloMosaic.Lib.Pipeline.ValueKit

@[expose] public section

set_option maxRecDepth 16384

noncomputable section

namespace Cert.Band

open Cert.Attn0Ideal Cert.Attn0Ideal.Gen Idealize.ShloMosaic Idealize.ShloMosaic.TcCoe

/-- A head's lane mask over the 128 rows. -/
def wide (hm : IVec S1x256 1) : IVec S128x256 1 :=
  broadcastTo S128x256 (shapeCast S1x256 hm shapeCasts_S1x256_S1x256) broadcasts_S1x256_S128x256

/-- A head's scores, `mk` where the position is not valid. -/
def subS (mk : EReal) (valid : IVec S128x256 1) (hm : IVec S1x256 1) (q : FVec Ideal S128x256 .bf16) (k : FVec Ideal S256x256 .bf16) :
    FVec Ideal S128x256 .f32 :=
  select valid
    (matmul dot_S128x256_S256x256_S128x256_1_1_0_0_n_n none
      (select (wide hm) q (broadcast S128x256 (Scalar.ofBits (F := Ideal) .bf16 0x0000#16))) k
      (constant S128x256 .f32 0x00000000#32))
    (broadcast (α := Ideal .f32) S128x256 mk)

/-- Each row's largest score. -/
def subM (s : FVec Ideal S128x256 .f32) : FVec Ideal S128x1 .f32 :=
  shapeCast S128x1 (multiReduction .maximumf [1] S128 s 0xFF800000#32 reduces_S128x256_S128 (.inl rfl) rfl) shapeCasts_S128_S128x1

/-- The exponentials of the scores less their row's largest. -/
def subE (s : FVec Ideal S128x256 .f32) : FVec Ideal S128x256 .f32 :=
  exp (subf s (broadcastTo S128x256 (subM s) broadcasts_S128x1_S128x256))

/-- Each row's sum of exponentials. -/
def subD (s : FVec Ideal S128x256 .f32) : FVec Ideal S128x1 .f32 :=
  shapeCast S128x1 (multiReduction .add [1] S128 (subE s) 0x00000000#32 reduces_S128x256_S128 (.inl rfl) rfl) shapeCasts_S128_S128x1

/-- The accumulated result after a head: the head's own on its lanes, what was there elsewhere. -/
def headO (hm : IVec S1x256 1) (s : FVec Ideal S128x256 .f32) (v : FVec Ideal S256x256 .bf16) (acc : FVec Ideal S128x256 .f32) :
    FVec Ideal S128x256 .f32 :=
  select (wide hm)
    (divf (matmul dot_S128x256_S256x256_S128x256_1_0_0_1_n_n none (truncf .bf16 (subE s) bitsLt_bf16_f32) v
        (constant S128x256 .f32 0x00000000#32))
      (broadcastTo S128x256 (subD s) broadcasts_S128x1_S128x256)) acc

/-- The accumulated log-sum-exp after a head. -/
def headL (hm : IVec S1x256 1) (s : FVec Ideal S128x256 .f32) (acc : FVec Ideal S128x256 .f32) : FVec Ideal S128x256 .f32 :=
  select (wide hm)
    (broadcastTo S128x256 (shapeCast S128x1 (addf (subM s) (log (subD s))) shapeCasts_S128x1_S128x1) broadcasts_S128x1_S128x256) acc

/-- The four heads' results. -/
def subO (mk : EReal) (valid : IVec S128x256 1) (hm0 hm1 hm2 hm3 : IVec S1x256 1) (q : FVec Ideal S128x256 .bf16)
    (k v : FVec Ideal S256x256 .bf16) : FVec Ideal S128x256 .f32 :=
  headO hm3 (subS mk valid hm3 q k) v (headO hm2 (subS mk valid hm2 q k) v (headO hm1 (subS mk valid hm1 q k) v
    (headO hm0 (subS mk valid hm0 q k) v (broadcast S128x256 (Scalar.ofBits (F := Ideal) .f32 0x00000000#32)))))

/-- The four heads' log-sum-exps. -/
def subL (mk : EReal) (valid : IVec S128x256 1) (hm0 hm1 hm2 hm3 : IVec S1x256 1) (q : FVec Ideal S128x256 .bf16)
    (k : FVec Ideal S256x256 .bf16) : FVec Ideal S128x256 .f32 :=
  headL hm3 (subS mk valid hm3 q k) (headL hm2 (subS mk valid hm2 q k) (headL hm1 (subS mk valid hm1 q k)
    (headL hm0 (subS mk valid hm0 q k) (broadcast S128x256 (Scalar.ofBits (F := Ideal) .f32 0x00000000#32)))))

/-- One head's step at an index. -/
theorem headO_apply (hm : IVec S1x256 1) (s : FVec Ideal S128x256 .f32) (v : FVec Ideal S256x256 .bf16) (acc : FVec Ideal S128x256 .f32)
    (r : Fin 128) (l : Fin 256) :
    headO hm s v acc (ix2 r l) = Scalar.select (hm (ix2 (0 : Fin 1) l)) (out (fun c => s (ix2 r c)) (fun c => v (ix2 c l))) (acc (ix2 r l)) := by
  pointwise [headO, wide, subD, subE, subM]
  simp only [ofBits_negInf]; rfl

/-- One head's step of the log-sum-exp at an index. -/
theorem headL_apply (hm : IVec S1x256 1) (s : FVec Ideal S128x256 .f32) (acc : FVec Ideal S128x256 .f32)
    (r : Fin 128) (l : Fin 256) :
    headL hm s acc (ix2 r l) = Scalar.select (hm (ix2 (0 : Fin 1) l)) (lse (fun c => s (ix2 r c))) (acc (ix2 r l)) := by
  pointwise [headL, wide, subD, subE, subM]
  simp only [ofBits_negInf]; rfl

/-- A score at an index. -/
theorem subS_apply (mk : EReal) (valid : IVec S128x256 1) (hm : IVec S1x256 1) (q : FVec Ideal S128x256 .bf16) (k : FVec Ideal S256x256 .bf16)
    (h : Fin 4) (hhm : ∀ l : Fin 256, hm (ix2 (0 : Fin 1) l) = if l.val / 64 = h.val then 1#1 else 0#1) (r : Fin 128) (c : Fin 256) :
    subS mk valid hm q k (ix2 r c) = Scalar.select (valid (ix2 r c))
      (∑ d : Fin 64, q (ix2 r ⟨h.val * 64 + d.val, by omega⟩) * k (ix2 c ⟨h.val * 64 + d.val, by omega⟩)) mk := by
  pointwise [subS, wide]
  rw [sum_head h _ (fun l hl => by rw [hhm l, if_neg hl]; rfl)]
  refine congrArg (fun x => Scalar.select (valid (ix2 r c)) x mk) (Finset.sum_congr rfl fun d _ => ?_)
  rw [hhm, if_pos (by show (h.val * 64 + d.val) / 64 = h.val; omega)]
  rfl

/-- What the four masks say, lane by lane. -/
def Heads (hm0 hm1 hm2 hm3 : IVec S1x256 1) : Prop :=
  (∀ l : Fin 256, hm0 (ix2 (0 : Fin 1) l) = if l.val / 64 = 0 then 1#1 else 0#1)
    ∧ (∀ l : Fin 256, hm1 (ix2 (0 : Fin 1) l) = if l.val / 64 = 1 then 1#1 else 0#1)
    ∧ (∀ l : Fin 256, hm2 (ix2 (0 : Fin 1) l) = if l.val / 64 = 2 then 1#1 else 0#1)
    ∧ (∀ l : Fin 256, hm3 (ix2 (0 : Fin 1) l) = if l.val / 64 = 3 then 1#1 else 0#1)

/-- Head `h`'s scores of query row `r`: minus infinity where the position is not valid. -/
def rowS (valid : IVec S128x256 1) (q : FVec Ideal S128x256 .bf16) (k : FVec Ideal S256x256 .bf16) (h : Fin 4) (r : Fin 128)
    (c : Fin 256) : EReal :=
  Scalar.select (valid (ix2 r c))
    (∑ d : Fin 64, q (ix2 r ⟨h.val * 64 + d.val, by omega⟩) * k (ix2 c ⟨h.val * 64 + d.val, by omega⟩)) ⊥

/-- The sub-block's result on a lane of head `h` is that head's softmax-weighted sum. -/
theorem subO_apply (valid : IVec S128x256 1) (hm0 hm1 hm2 hm3 : IVec S1x256 1) (H : Heads hm0 hm1 hm2 hm3)
    (q : FVec Ideal S128x256 .bf16) (k v : FVec Ideal S256x256 .bf16) (r : Fin 128) (h : Fin 4) (l : Fin 256) (hl : l.val / 64 = h.val) :
    subO ⊥ valid hm0 hm1 hm2 hm3 q k v (ix2 r l) = out (rowS valid q k h r) (fun c => v (ix2 c l)) := by
  obtain ⟨H0, H1, H2, H3⟩ := H
  unfold subO
  simp only [headO_apply, H0 l, H1 l, H2 l, H3 l, hl]
  match h with
  | 0 => simp only [subS_apply ⊥ valid hm0 q k 0 H0]; rfl
  | 1 => simp only [subS_apply ⊥ valid hm1 q k 1 H1]; rfl
  | 2 => simp only [subS_apply ⊥ valid hm2 q k 2 H2]; rfl
  | 3 => simp only [subS_apply ⊥ valid hm3 q k 3 H3]; rfl

/-- The sub-block's log-sum-exp on a lane of head `h` is that head's. -/
theorem subL_apply (valid : IVec S128x256 1) (hm0 hm1 hm2 hm3 : IVec S1x256 1) (H : Heads hm0 hm1 hm2 hm3)
    (q : FVec Ideal S128x256 .bf16) (k : FVec Ideal S256x256 .bf16) (r : Fin 128) (h : Fin 4) (l : Fin 256) (hl : l.val / 64 = h.val) :
    subL ⊥ valid hm0 hm1 hm2 hm3 q k (ix2 r l) = lse (rowS valid q k h r) := by
  obtain ⟨H0, H1, H2, H3⟩ := H
  unfold subL
  simp only [headL_apply, H0 l, H1 l, H2 l, H3 l, hl]
  match h with
  | 0 => simp only [subS_apply ⊥ valid hm0 q k 0 H0]; rfl
  | 1 => simp only [subS_apply ⊥ valid hm1 q k 1 H1]; rfl
  | 2 => simp only [subS_apply ⊥ valid hm2 q k 2 H2]; rfl
  | 3 => simp only [subS_apply ⊥ valid hm3 q k 3 H3]; rfl

end Cert.Band

end
-- ==== Proof.Band.KerBlock.lean ====
/- What a grid point of the attention writes: four sub-blocks of 128 query rows, read at a row and a lane. -/
module

public import proofs.«01_k».proof.Proof.Band.KerCore
public import proofs.«01_k».proof.Proof.Gen.Attn0Ideal.Frame
public import Idealize.ShloMosaic.Lib.WordCmp

@[expose] public section

set_option maxRecDepth 16384

noncomputable section

namespace Cert.Band

open Cert.Attn0Ideal Cert.Attn0Ideal.Gen Idealize.ShloMosaic Idealize.ShloMosaic.TcCoe

/-- The lanes' numbers. -/
abbrev lanes : IVec S1x256 32 := iota .tc S1x256 32 [1] iota_S1x256_d1_w32

/-- The kernel's mask of each head's lanes. -/
abbrev mask0 : IVec S1x256 1 := k0_pay4
abbrev mask1 : IVec S1x256 1 := k0_pay6 lanes 64#32 k0_pay5 0#32
abbrev mask2 : IVec S1x256 1 := k0_pay10 (k0_pay7 lanes) (k0_pay8 lanes) (k0_pay9 lanes)
abbrev mask3 : IVec S1x256 1 := k0_pay11 lanes

/-- The kernel's masks are the heads' lanes. -/
theorem heads : Heads mask0 mask1 mask2 mask3 := by
  refine ⟨fun l => ?_, fun l => ?_, fun l => ?_, fun l => ?_⟩
  · pointwise [k0_pay4]; revert l; decide +kernel
  · pointwise [k0_pay6, k0_pay5]; revert l; decide +kernel
  · pointwise [k0_pay10, k0_pay7, k0_pay8, k0_pay9]; revert l; decide +kernel
  · pointwise [k0_pay11]; revert l; decide +kernel

/-- A column less a row, as words, is that difference. -/
theorem diff_toInt (c r : ℕ) (hc : c < 256) (hr : r < 128) : (IntOp.subi (BitVec.ofNat 32 c) (BitVec.ofNat 32 r)).toInt = (c : ℤ) - r := by
  show (BitVec.ofNat 32 c - BitVec.ofNat 32 r).toInt = _
  rw [BitVec.toInt_sub, BitVec.toInt_ofNat', BitVec.toInt_ofNat']
  simp only [Int.bmod]
  omega

/-- The band mask: a key column at most 128 past the query's row. -/
theorem band_apply (r : Fin 128) (c : Fin 256) :
    k0_pay2 (ix2 r c) = if r.val ≤ c.val ∧ c.val ≤ r.val + 128 then 1#1 else 0#1 := by
  pointwise [k0_pay2]
  rw [WordCmp.cmpi_sge_eq, WordCmp.cmpi_sle_eq, diff_toInt c.val r.val c.isLt r.isLt]
  simp only [WordCmp.ofBool_decide_eq_ite, BitVec.toInt_zero, show (128#32 : BitVec 32).toInt = 128 from rfl]
  by_cases h1 : r.val ≤ c.val <;> by_cases h2 : c.val ≤ r.val + 128
  · rw [if_pos (by omega), if_pos (by omega), if_pos ⟨h1, h2⟩]; rfl
  · rw [if_pos (by omega), if_neg (by omega), if_neg (by omega)]; rfl
  · rw [if_neg (by omega), if_pos (by omega), if_neg (by omega)]; rfl
  · rw [if_neg (by omega), if_neg (by omega), if_neg (by omega)]; rfl

/-- The first sub-block's mask, from whether there is a block before this one. -/
def bandFirst (w : BitVec 32) : IVec S128x256 1 :=
  andi k0_pay2 (ori (cmpi .sge (iota .tc S128x256 32 [1] iota_S128x256_d1_w32) (broadcast S128x256 128#32))
    (broadcast S128x256 (Scalar.cmpi .sgt w 0#32)))

/-- The first sub-block's mask: in the band, and in this block or one before it. -/
theorem bandFirst_apply (i : ℕ) (hi : i < 16) (r : Fin 128) (c : Fin 256) :
    bandFirst (BitVec.ofNat 32 i) (ix2 r c) = if (r.val ≤ c.val ∧ c.val ≤ r.val + 128) ∧ (128 ≤ c.val ∨ 0 < i) then 1#1 else 0#1 := by
  pointwise [bandFirst]
  rw [band_apply]
  have e1 : IntOp.cmpi .sge (BitVec.ofNat 32 c.val) 128#32 = if 128 ≤ c.val then 1#1 else 0#1 := by
    revert c; decide +kernel
  have e2 : IntOp.cmpi .sgt (BitVec.ofNat 32 i) 0#32 = if 0 < i then 1#1 else 0#1 := by
    revert i; decide +kernel
  rw [e1]
  show IntOp.andi _ (IntOp.ori _ (IntOp.cmpi .sgt (BitVec.ofNat 32 i) 0#32)) = _
  rw [e2]
  by_cases h1 : r.val ≤ c.val ∧ c.val ≤ r.val + 128 <;> by_cases h2 : 128 ≤ c.val <;> by_cases h3 : 0 < i <;>
    simp only [h1, h2, h3, if_true, if_false, true_and, false_and, or_true, true_or, or_false, and_false, and_true, and_self] <;> decide

/-- Two blocks of 128 keys, one after the other. -/
def pair (a b : Vec Ideal S1x128x256 .bf16) : FVec Ideal S256x256 .bf16 := k0_pay13 a b

/-- What a point writes as its result: its four stores, last first. -/
def blockO (mk : EReal) (w : BitVec 32) (x0 : Vec Ideal S1x512x256 .bf16) (x1 : Vec Ideal S1x128x256 .bf16) (x2 : Vec Ideal S1x512x256 .bf16)
    (x3 : Vec Ideal S1x128x256 .bf16) (x4 : Vec Ideal S1x512x256 .bf16) : Vec Ideal S1x512x256 .f32 :=
  View.canon [
    ⟨r0_6, shapeCast S1x128x256 (subO mk k0_pay2 mask0 mask1 mask2 mask3 (k0_pay12 (View.ld x0 r0_6)) (k0_pay41 (View.ld x2 r0_7)) (k0_pay42 (View.ld x4 r0_7))) shapeCasts_S128x256_S1x128x256⟩,
    ⟨r0_4, shapeCast S1x128x256 (subO mk k0_pay2 mask0 mask1 mask2 mask3 (k0_pay12 (View.ld x0 r0_4)) (k0_pay41 (View.ld x2 r0_5)) (k0_pay42 (View.ld x4 r0_5))) shapeCasts_S128x256_S1x128x256⟩,
    ⟨r0_2, shapeCast S1x128x256 (subO mk k0_pay2 mask0 mask1 mask2 mask3 (k0_pay12 (View.ld x0 r0_2)) (k0_pay41 (View.ld x2 r0_3)) (k0_pay42 (View.ld x4 r0_3))) shapeCasts_S128x256_S1x128x256⟩,
    ⟨r0_0, shapeCast S1x128x256 (subO mk (bandFirst w) mask0 mask1 mask2 mask3 (k0_pay12 (View.ld x0 r0_0)) (k0_pay13 (View.ld x1 r0_1) (View.ld x2 r0_0)) (k0_pay13 (View.ld x3 r0_1) (View.ld x4 r0_0))) shapeCasts_S128x256_S1x128x256⟩]

/-- What a point writes as its log-sum-exps. -/
def blockL (mk : EReal) (w : BitVec 32) (x0 : Vec Ideal S1x512x256 .bf16) (x1 : Vec Ideal S1x128x256 .bf16) (x2 : Vec Ideal S1x512x256 .bf16) :
    Vec Ideal S1x512x256 .f32 :=
  View.canon [
    ⟨r0_6, shapeCast S1x128x256 (subL mk k0_pay2 mask0 mask1 mask2 mask3 (k0_pay12 (View.ld x0 r0_6)) (k0_pay41 (View.ld x2 r0_7))) shapeCasts_S128x256_S1x128x256⟩,
    ⟨r0_4, shapeCast S1x128x256 (subL mk k0_pay2 mask0 mask1 mask2 mask3 (k0_pay12 (View.ld x0 r0_4)) (k0_pay41 (View.ld x2 r0_5))) shapeCasts_S128x256_S1x128x256⟩,
    ⟨r0_2, shapeCast S1x128x256 (subL mk k0_pay2 mask0 mask1 mask2 mask3 (k0_pay12 (View.ld x0 r0_2)) (k0_pay41 (View.ld x2 r0_3))) shapeCasts_S128x256_S1x128x256⟩,
    ⟨r0_0, shapeCast S1x128x256 (subL mk (bandFirst w) mask0 mask1 mask2 mask3 (k0_pay12 (View.ld x0 r0_0)) (k0_pay13 (View.ld x1 r0_1) (View.ld x2 r0_0))) shapeCasts_S128x256_S1x128x256⟩]

/-- Key or value row `p` of a point's 640: the 128 of the block before, then the point's own 512. -/
def keyAt (x1 : Vec Ideal S1x128x256 .bf16) (x2 : Vec Ideal S1x512x256 .bf16) (p : ℕ) (hp : p < 640) (l : Fin 256) : EReal :=
  if h : p < 128 then x1 (ix3 (0 : Fin 1) ⟨p, h⟩ l) else x2 (ix3 (0 : Fin 1) ⟨p - 128, by omega⟩ l)

/-- Head `h`'s score of a block's query row against its `c`-th key. -/
def blockS (i : ℕ) (x0 : Vec Ideal S1x512x256 .bf16) (x1 : Vec Ideal S1x128x256 .bf16) (x2 : Vec Ideal S1x512x256 .bf16)
    (h : Fin 4) (row : Fin 512) (c : Fin 256) : EReal :=
  if (row.val % 128 ≤ c.val ∧ c.val ≤ row.val % 128 + 128) ∧ (128 ≤ row.val / 128 * 128 + c.val ∨ 0 < i) then
    ∑ d : Fin 64, x0 (ix3 (0 : Fin 1) row ⟨h.val * 64 + d.val, by omega⟩)
      * keyAt x1 x2 (row.val / 128 * 128 + c.val) (by omega) ⟨h.val * 64 + d.val, by omega⟩
  else ⊥

/-- The scores of a sub-block that is not the first. -/
theorem rowS_later (i : ℕ) (x0 : Vec Ideal S1x512x256 .bf16) (x1 : Vec Ideal S1x128x256 .bf16) (x2 : Vec Ideal S1x512x256 .bf16)
    (q : FVec Ideal S128x256 .bf16) (k : FVec Ideal S256x256 .bf16) (h : Fin 4) (r : Fin 128) (row : Fin 512) (hr : row.val % 128 = r.val)
    (hs : 128 ≤ row.val)
    (hq : ∀ l, q (ix2 r l) = x0 (ix3 (0 : Fin 1) row l))
    (hk : ∀ (c : Fin 256) l, k (ix2 c l) = keyAt x1 x2 (row.val / 128 * 128 + c.val) (by omega) l) :
    rowS k0_pay2 q k h r = blockS i x0 x1 x2 h row := by
  funext c
  unfold rowS blockS
  rw [band_apply, hr]
  by_cases hb : r.val ≤ c.val ∧ c.val ≤ r.val + 128
  · rw [if_pos hb, if_pos ⟨hb, .inl (by omega)⟩, WordCmp.select_of_eq_one rfl]
    exact Finset.sum_congr rfl fun d _ => by rw [hq, hk]
  · rw [if_neg hb, if_neg (fun h => hb h.1), WordCmp.select_of_eq_zero rfl]

/-- The scores of the first sub-block. -/
theorem rowS_first (i : ℕ) (hi : i < 16) (x0 : Vec Ideal S1x512x256 .bf16) (x1 : Vec Ideal S1x128x256 .bf16) (x2 : Vec Ideal S1x512x256 .bf16)
    (q : FVec Ideal S128x256 .bf16) (k : FVec Ideal S256x256 .bf16) (h : Fin 4) (r : Fin 128) (row : Fin 512) (hr : row.val = r.val)
    (hq : ∀ l, q (ix2 r l) = x0 (ix3 (0 : Fin 1) row l))
    (hk : ∀ (c : Fin 256) l, k (ix2 c l) = keyAt x1 x2 (row.val / 128 * 128 + c.val) (by omega) l) :
    rowS (bandFirst (BitVec.ofNat 32 i)) q k h r = blockS i x0 x1 x2 h row := by
  funext c
  unfold rowS blockS
  have h1 := r.isLt
  by_cases hb : (r.val ≤ c.val ∧ c.val ≤ r.val + 128) ∧ (128 ≤ c.val ∨ 0 < i)
  · rw [bandFirst_apply i hi, if_pos hb, if_pos (by omega), WordCmp.select_of_eq_one rfl]
    exact Finset.sum_congr rfl fun d _ => by rw [hq, hk]
  · rw [bandFirst_apply i hi, if_neg hb, if_neg (by omega), WordCmp.select_of_eq_zero rfl]

/-- Dropping the leading unit axis of a query block. -/
theorem drop_q (x : Vec Ideal S1x128x256 .bf16) (r : Fin 128) (l : Fin 256) : k0_pay12 x (ix2 r l) = x (ix3 (0 : Fin 1) r l) := by
  pointwise [k0_pay12]

/-- Dropping the leading unit axis of a block of 256 keys. -/
theorem drop_k (x : Vec Ideal S1x256x256 .bf16) (c l : Fin 256) : k0_pay41 x (ix2 c l) = x (ix3 (0 : Fin 1) c l) := by
  pointwise [k0_pay41]

/-- Two blocks of 128 keys, read at a row. -/
theorem pair_apply (a b : Vec Ideal S1x128x256 .bf16) (c l : Fin 256) :
    k0_pay13 a b (ix2 c l) = if h : c.val < 128 then a (ix3 (0 : Fin 1) ⟨c.val, h⟩ l) else b (ix3 (0 : Fin 1) ⟨c.val - 128, by omega⟩ l) := by
  pointwise [k0_pay13]

/-- A sub-block's result, stored under a leading unit axis. -/
theorem stored (f : FVec Ideal S128x256 .f32) (x : S1x128x256.Idx) (r : Fin 128) (l : Fin 256) (hr : (x 1).val = r.val) (hl : (x 2).val = l.val) :
    shapeCast S1x128x256 f shapeCasts_S128x256_S1x128x256 x = f (ix2 r l) := by
  have h0 : (x 0).val < 1 := (x 0).isLt
  have e : x = ix3 (0 : Fin 1) r l := by blk_ext
  rw [e]
  pointwise []

/-- A load of 128 rows of a block, read at a row. -/
theorem ld_128 (x : Vec Ideal S1x512x256 .bf16) (off : ℕ) (inb) (r : Fin 128) (row : Fin 512) (l : Fin 256) (h : row.val = off + r.val) :
    View.ld x (Rect.unit (s := S1x512x256) ![0, off, 0] S1x128x256.size inb) (ix3 (0 : Fin 1) r l) = x (ix3 (0 : Fin 1) row l) := by
  refine View.ld_unit_apply_of x _ _ _ _ _ fun a => ?_
  match a with
  | ⟨0, _⟩ => rfl
  | ⟨1, _⟩ => exact h
  | ⟨2, _⟩ => exact (Nat.zero_add _).symm

/-- A load of 256 rows of a block, read at a row. -/
theorem ld_256 (x : Vec Ideal S1x512x256 .bf16) (off : ℕ) (inb) (r : Fin 256) (row : Fin 512) (l : Fin 256) (h : row.val = off + r.val) :
    View.ld x (Rect.unit (s := S1x512x256) ![0, off, 0] S1x256x256.size inb) (ix3 (0 : Fin 1) r l) = x (ix3 (0 : Fin 1) row l) := by
  refine View.ld_unit_apply_of x _ _ _ _ _ fun a => ?_
  match a with
  | ⟨0, _⟩ => rfl
  | ⟨1, _⟩ => exact h
  | ⟨2, _⟩ => exact (Nat.zero_add _).symm

/-- A load of the block before, read at a row. -/
theorem ld_prev (x : Vec Ideal S1x128x256 .bf16) (off : ℕ) (inb) (r : Fin 128) (row : Fin 128) (l : Fin 256) (h : row.val = off + r.val) :
    View.ld x (Rect.unit (s := S1x128x256) ![0, off, 0] S1x128x256.size inb) (ix3 (0 : Fin 1) r l) = x (ix3 (0 : Fin 1) row l) := by
  refine View.ld_unit_apply_of x _ _ _ _ _ fun a => ?_
  match a with
  | ⟨0, _⟩ => rfl
  | ⟨1, _⟩ => exact h
  | ⟨2, _⟩ => exact (Nat.zero_add _).symm

/-- A sub-block that is not the first: its result at a row and lane. -/
theorem later_O (i : ℕ) (x0 : Vec Ideal S1x512x256 .bf16) (x1 : Vec Ideal S1x128x256 .bf16) (x2 : Vec Ideal S1x512x256 .bf16)
    (x3 : Vec Ideal S1x128x256 .bf16) (x4 : Vec Ideal S1x512x256 .bf16) (q : Vec Ideal S1x128x256 .bf16) (k v : Vec Ideal S1x256x256 .bf16)
    (n : ℕ) (hn : 1 ≤ n) (row : Fin 512) (r : Fin 128) (l : Fin 256) (hrow : row.val = n * 128 + r.val)
    (hq : ∀ l, q (ix3 (0 : Fin 1) r l) = x0 (ix3 (0 : Fin 1) row l))
    (hk : ∀ (c : Fin 256) l (h : (n - 1) * 128 + c.val < 512), k (ix3 (0 : Fin 1) c l) = x2 (ix3 (0 : Fin 1) ⟨(n - 1) * 128 + c.val, h⟩ l))
    (hv : ∀ (c : Fin 256) l (h : (n - 1) * 128 + c.val < 512), v (ix3 (0 : Fin 1) c l) = x4 (ix3 (0 : Fin 1) ⟨(n - 1) * 128 + c.val, h⟩ l)) :
    subO ⊥ k0_pay2 mask0 mask1 mask2 mask3 (k0_pay12 q) (k0_pay41 k) (k0_pay42 v) (ix2 r l)
        = out (blockS i x0 x1 x2 ⟨l.val / 64, by omega⟩ row) (fun c => keyAt x3 x4 (row.val / 128 * 128 + c.val) (by omega) l)
      ∧ subL ⊥ k0_pay2 mask0 mask1 mask2 mask3 (k0_pay12 q) (k0_pay41 k) (ix2 r l) = lse (blockS i x0 x1 x2 ⟨l.val / 64, by omega⟩ row) := by
  have key (a : Vec Ideal S1x256x256 .bf16) (b : Vec Ideal S1x128x256 .bf16) (x : Vec Ideal S1x512x256 .bf16)
      (hx : ∀ (c : Fin 256) l (h : (n - 1) * 128 + c.val < 512), a (ix3 (0 : Fin 1) c l) = x (ix3 (0 : Fin 1) ⟨(n - 1) * 128 + c.val, h⟩ l))
      (c l : Fin 256) : k0_pay41 a (ix2 c l) = keyAt b x (row.val / 128 * 128 + c.val) (by omega) l := by
    rw [drop_k, hx c l (by omega)]
    unfold keyAt
    rw [dif_neg (by omega)]
    congr 2
    exact Fin.ext (by show (n - 1) * 128 + c.val = row.val / 128 * 128 + c.val - 128; omega)
  have hs : rowS k0_pay2 (k0_pay12 q) (k0_pay41 k) ⟨l.val / 64, by omega⟩ r = blockS i x0 x1 x2 ⟨l.val / 64, by omega⟩ row :=
    rowS_later i x0 x1 x2 _ _ _ r row (by omega) (by omega) (fun l => by rw [drop_q, hq]) fun c l => key k x1 x2 hk c l
  constructor
  · rw [subO_apply _ _ _ _ _ heads _ _ _ r ⟨l.val / 64, by omega⟩ l rfl, hs]
    congr 1
    funext c
    exact key v x3 x4 hv c l
  · rw [subL_apply _ _ _ _ _ heads _ _ r ⟨l.val / 64, by omega⟩ l rfl, hs]

/-- The first sub-block: its result at a row and lane. -/
theorem first_O (i : ℕ) (hi : i < 16) (x0 : Vec Ideal S1x512x256 .bf16) (x1 : Vec Ideal S1x128x256 .bf16) (x2 : Vec Ideal S1x512x256 .bf16)
    (x3 : Vec Ideal S1x128x256 .bf16) (x4 : Vec Ideal S1x512x256 .bf16) (row : Fin 512) (r : Fin 128) (l : Fin 256) (hrow : row.val = r.val) :
    subO ⊥ (bandFirst (BitVec.ofNat 32 i)) mask0 mask1 mask2 mask3 (k0_pay12 (View.ld x0 r0_0)) (k0_pay13 (View.ld x1 r0_1) (View.ld x2 r0_0))
          (k0_pay13 (View.ld x3 r0_1) (View.ld x4 r0_0)) (ix2 r l)
        = out (blockS i x0 x1 x2 ⟨l.val / 64, by omega⟩ row) (fun c => keyAt x3 x4 (row.val / 128 * 128 + c.val) (by omega) l)
      ∧ subL ⊥ (bandFirst (BitVec.ofNat 32 i)) mask0 mask1 mask2 mask3 (k0_pay12 (View.ld x0 r0_0)) (k0_pay13 (View.ld x1 r0_1) (View.ld x2 r0_0)) (ix2 r l)
        = lse (blockS i x0 x1 x2 ⟨l.val / 64, by omega⟩ row) := by
  have hp (a : Vec Ideal S1x128x256 .bf16) (b : Vec Ideal S1x512x256 .bf16) (c l : Fin 256) :
      k0_pay13 (View.ld a r0_1) (View.ld b r0_0) (ix2 c l) = keyAt a b (row.val / 128 * 128 + c.val) (by omega) l := by
    rw [pair_apply]
    unfold keyAt
    by_cases hc : c.val < 128
    · rw [dif_pos hc, dif_pos (by omega)]
      exact ld_prev _ _ _ _ _ _ (by show row.val / 128 * 128 + c.val = 0 + c.val; omega)
    · rw [dif_neg hc, dif_neg (by omega)]
      exact ld_128 _ _ _ _ _ _ (by show row.val / 128 * 128 + c.val - 128 = 0 + (c.val - 128); omega)
  have hs : rowS (bandFirst (BitVec.ofNat 32 i)) (k0_pay12 (View.ld x0 r0_0)) (k0_pay13 (View.ld x1 r0_1) (View.ld x2 r0_0)) ⟨l.val / 64, by omega⟩ r
      = blockS i x0 x1 x2 ⟨l.val / 64, by omega⟩ row := by
    refine rowS_first i hi x0 x1 x2 _ _ _ r row hrow (fun l => ?_) fun c l => hp _ _ _ _
    rw [drop_q]
    exact ld_128 _ _ _ _ _ _ (by omega)
  constructor
  · rw [subO_apply _ _ _ _ _ heads _ _ _ r ⟨l.val / 64, by omega⟩ l rfl, hs]
    congr 1
    funext c
    exact hp _ _ _ _
  · rw [subL_apply _ _ _ _ _ heads _ _ r ⟨l.val / 64, by omega⟩ l rfl, hs]

/-- A block's result at a row and lane: the softmax's average of the values' rows over the block's scores. -/
theorem blockO_apply (i : ℕ) (hi : i < 16) (x0 : Vec Ideal S1x512x256 .bf16) (x1 : Vec Ideal S1x128x256 .bf16) (x2 : Vec Ideal S1x512x256 .bf16)
    (x3 : Vec Ideal S1x128x256 .bf16) (x4 : Vec Ideal S1x512x256 .bf16) (y : S1x512x256.Idx) (row : Fin 512) (l : Fin 256)
    (hy1 : (y 1).val = row.val) (hy2 : (y 2).val = l.val) :
    blockO ⊥ (BitVec.ofNat 32 i) x0 x1 x2 x3 x4 y = out (blockS i x0 x1 x2 ⟨l.val / 64, by omega⟩ row)
      (fun c => keyAt x3 x4 (row.val / 128 * 128 + c.val) (by omega) l) := by
  unfold blockO
  canon_tiles x h
  · rw [stored _ x ⟨(x 1).val, x1_lt⟩ l rfl (by omega)]
    exact (later_O i x0 x1 x2 x3 x4 (View.ld x0 r0_6) (View.ld x2 r0_7) (View.ld x4 r0_7) 3 (by omega) row ⟨(x 1).val, x1_lt⟩ l
      (by show row.val = 3 * 128 + (x 1).val; omega) (fun l => ld_128 _ _ _ _ _ _ (by show row.val = 384 + (x 1).val; omega))
      (fun c l h => ld_256 _ _ _ _ _ _ rfl) (fun c l h => ld_256 _ _ _ _ _ _ rfl)).1
  · rw [stored _ x ⟨(x 1).val, x1_lt⟩ l rfl (by omega)]
    exact (later_O i x0 x1 x2 x3 x4 (View.ld x0 r0_4) (View.ld x2 r0_5) (View.ld x4 r0_5) 2 (by omega) row ⟨(x 1).val, x1_lt⟩ l
      (by show row.val = 2 * 128 + (x 1).val; omega) (fun l => ld_128 _ _ _ _ _ _ (by show row.val = 256 + (x 1).val; omega))
      (fun c l h => ld_256 _ _ _ _ _ _ rfl) (fun c l h => ld_256 _ _ _ _ _ _ rfl)).1
  · rw [stored _ x ⟨(x 1).val, x1_lt⟩ l rfl (by omega)]
    exact (later_O i x0 x1 x2 x3 x4 (View.ld x0 r0_2) (View.ld x2 r0_3) (View.ld x4 r0_3) 1 (by omega) row ⟨(x 1).val, x1_lt⟩ l
      (by show row.val = 1 * 128 + (x 1).val; omega) (fun l => ld_128 _ _ _ _ _ _ (by show row.val = 128 + (x 1).val; omega))
      (fun c l h => ld_256 _ _ _ _ _ _ rfl) (fun c l h => ld_256 _ _ _ _ _ _ rfl)).1
  · rw [stored _ x ⟨(x 1).val, x1_lt⟩ l rfl (by omega)]
    exact (first_O i hi x0 x1 x2 x3 x4 row ⟨(x 1).val, x1_lt⟩ l (by show row.val = (x 1).val; omega)).1

/-- A block's log-sum-exp at a row and lane. -/
theorem blockL_apply (i : ℕ) (hi : i < 16) (x0 : Vec Ideal S1x512x256 .bf16) (x1 : Vec Ideal S1x128x256 .bf16) (x2 : Vec Ideal S1x512x256 .bf16)
    (x3 : Vec Ideal S1x128x256 .bf16) (x4 : Vec Ideal S1x512x256 .bf16) (y : S1x512x256.Idx) (row : Fin 512) (l : Fin 256)
    (hy1 : (y 1).val = row.val) (hy2 : (y 2).val = l.val) :
    blockL ⊥ (BitVec.ofNat 32 i) x0 x1 x2 y = lse (blockS i x0 x1 x2 ⟨l.val / 64, by omega⟩ row) := by
  unfold blockL
  canon_tiles x h
  · rw [stored _ x ⟨(x 1).val, x1_lt⟩ l rfl (by omega)]
    exact (later_O i x0 x1 x2 x3 x4 (View.ld x0 r0_6) (View.ld x2 r0_7) (View.ld x4 r0_7) 3 (by omega) row ⟨(x 1).val, x1_lt⟩ l
      (by show row.val = 3 * 128 + (x 1).val; omega) (fun l => ld_128 _ _ _ _ _ _ (by show row.val = 384 + (x 1).val; omega))
      (fun c l h => ld_256 _ _ _ _ _ _ rfl) (fun c l h => ld_256 _ _ _ _ _ _ rfl)).2
  · rw [stored _ x ⟨(x 1).val, x1_lt⟩ l rfl (by omega)]
    exact (later_O i x0 x1 x2 x3 x4 (View.ld x0 r0_4) (View.ld x2 r0_5) (View.ld x4 r0_5) 2 (by omega) row ⟨(x 1).val, x1_lt⟩ l
      (by show row.val = 2 * 128 + (x 1).val; omega) (fun l => ld_128 _ _ _ _ _ _ (by show row.val = 256 + (x 1).val; omega))
      (fun c l h => ld_256 _ _ _ _ _ _ rfl) (fun c l h => ld_256 _ _ _ _ _ _ rfl)).2
  · rw [stored _ x ⟨(x 1).val, x1_lt⟩ l rfl (by omega)]
    exact (later_O i x0 x1 x2 x3 x4 (View.ld x0 r0_2) (View.ld x2 r0_3) (View.ld x4 r0_3) 1 (by omega) row ⟨(x 1).val, x1_lt⟩ l
      (by show row.val = 1 * 128 + (x 1).val; omega) (fun l => ld_128 _ _ _ _ _ _ (by show row.val = 128 + (x 1).val; omega))
      (fun c l h => ld_256 _ _ _ _ _ _ rfl) (fun c l h => ld_256 _ _ _ _ _ _ rfl)).2
  · rw [stored _ x ⟨(x 1).val, x1_lt⟩ l rfl (by omega)]
    exact (first_O i hi x0 x1 x2 x3 x4 row ⟨(x 1).val, x1_lt⟩ l (by show row.val = (x 1).val; omega)).2

end Cert.Band

end
-- ==== Proof.Band.Equation.lean ====
/- A block of the kernel computes the formula: its 256 scores are the formula's 129 at the query's own offsets, and
   nothing elsewhere. -/
module

public import proofs.«01_k».proof.Proof.Band.Spec
public import proofs.«01_k».proof.Proof.Band.KerBlock

@[expose] public section

set_option maxRecDepth 16384

noncomputable section

namespace Cert.Band

open Cert.Attn0Ideal Idealize.ShloMosaic

/-- The key column of a query row's `j`-th key. -/
def keyCol (r : ℕ) (hr : r < 128) (j : Fin 129) : Fin 256 := ⟨128 + r - j.val, by omega⟩

theorem keyCol_injective (r : ℕ) (hr : r < 128) : Function.Injective (keyCol r hr) := by
  intro j j' h
  have := congrArg Fin.val h
  simp only [keyCol] at this
  exact Fin.ext (by omega)

/-- Equal positions hold equal values. -/
theorem tok_congr (x : Qkv) (b : Fin 4) {t t' col col' : ℕ} (ht : t < 8192) (ht' : t' < 8192) (hc : col < 2304) (hc' : col' < 2304)
    (e : t = t') (e' : col = col') : tok x b t col ht hc = tok x b t' col' ht' hc' := by subst e e'; rfl

/-- Equal positions have equal results. -/
theorem specO_congr (x : Qkv) (dil : ℕ) (g : Fin 3) {b b' : Fin 4} {t t' : ℕ} {ht : t < 8192} {ht' : t' < 8192} {l l' : Fin 256}
    (eb : b.val = b'.val) (et : t = t') (el : l.val = l'.val) : specO x dil g b t ht l = specO x dil g b' t' ht' l' := by
  obtain rfl := Fin.ext eb; obtain rfl := Fin.ext el; subst et; rfl

/-- Equal positions have equal log-sum-exps. -/
theorem specL_congr (x : Qkv) (dil : ℕ) (g : Fin 3) {b b' : Fin 4} {t t' : ℕ} {ht : t < 8192} {ht' : t' < 8192} {l l' : Fin 256}
    (eb : b.val = b'.val) (et : t = t') (el : l.val = l'.val) : specL x dil g b t ht l = specL x dil g b' t' ht' l' := by
  obtain rfl := Fin.ext eb; obtain rfl := Fin.ext el; subst et; rfl

/-- What the five blocks of a point hold: the rows of the fused projection's array at the point's residue. -/
structure Reads (x : Qkv) (dil : ℕ) (g : Fin 3) (b : Fin 4) (i res : ℕ)
    (x0 : Vec Ideal S1x512x256 .bf16) (x1 : Vec Ideal S1x128x256 .bf16) (x2 : Vec Ideal S1x512x256 .bf16)
    (x3 : Vec Ideal S1x128x256 .bf16) (x4 : Vec Ideal S1x512x256 .bf16) : Prop where
  q : ∀ (row : Fin 512) (l : Fin 256) (ht : (i * 512 + row.val) * dil + res < 8192),
    x0 (ix3 (0 : Fin 1) row l) = tok x b ((i * 512 + row.val) * dil + res) (g.val * 256 + l.val) ht (by omega)
  k : ∀ (row : Fin 512) (l : Fin 256) (ht : (i * 512 + row.val) * dil + res < 8192),
    x2 (ix3 (0 : Fin 1) row l) = tok x b ((i * 512 + row.val) * dil + res) (768 + (g.val * 256 + l.val)) ht (by omega)
  v : ∀ (row : Fin 512) (l : Fin 256) (ht : (i * 512 + row.val) * dil + res < 8192),
    x4 (ix3 (0 : Fin 1) row l) = tok x b ((i * 512 + row.val) * dil + res) (1536 + (g.val * 256 + l.val)) ht (by omega)
  kp : 0 < i → ∀ (p : Fin 128) (l : Fin 256) (ht : (i * 512 + p.val - 128) * dil + res < 8192),
    x1 (ix3 (0 : Fin 1) p l) = tok x b ((i * 512 + p.val - 128) * dil + res) (768 + (g.val * 256 + l.val)) ht (by omega)
  vp : 0 < i → ∀ (p : Fin 128) (l : Fin 256) (ht : (i * 512 + p.val - 128) * dil + res < 8192),
    x3 (ix3 (0 : Fin 1) p l) = tok x b ((i * 512 + p.val - 128) * dil + res) (1536 + (g.val * 256 + l.val)) ht (by omega)

/-- Off its own offsets a query's scores count for nothing. -/
theorem score_off (i : ℕ) (x0 : Vec Ideal S1x512x256 .bf16) (x1 : Vec Ideal S1x128x256 .bf16) (x2 : Vec Ideal S1x512x256 .bf16)
    (row : Fin 512) (h : Fin 4) (c : Fin 256) (hc : ∀ j, keyCol (row.val % 128) (by omega) j ≠ c) : blockS i x0 x1 x2 h row c = ⊥ := by
  unfold blockS
  rw [if_neg]
  intro hv
  refine hc ⟨128 + row.val % 128 - c.val, by omega⟩ (Fin.ext ?_)
  show 128 + row.val % 128 - (128 + row.val % 128 - c.val) = c.val
  omega

section

variable {x : Qkv} {dil : ℕ} {g : Fin 3} {b : Fin 4} {i res : ℕ}
variable {x0 : Vec Ideal S1x512x256 .bf16} {x1 : Vec Ideal S1x128x256 .bf16} {x2 : Vec Ideal S1x512x256 .bf16}
variable {x3 : Vec Ideal S1x128x256 .bf16} {x4 : Vec Ideal S1x512x256 .bf16}
variable (R : Reads x dil g b i res x0 x1 x2 x3 x4) (hres : res < dil) (row : Fin 512) (ht : (i * 512 + row.val) * dil + res < 8192)

include hres in
/-- The `j`-th key exists exactly when its row does. -/
theorem key_iff (n j : ℕ) : dil * j ≤ n * dil + res ↔ j ≤ n := by
  constructor
  · intro h
    by_contra hn
    have h1 : (n + 1) * dil ≤ j * dil := Nat.mul_le_mul_right dil (by omega)
    rw [Nat.mul_comm dil j] at h
    have h2 : (n + 1) * dil = n * dil + dil := Nat.succ_mul n dil
    omega
  · intro h
    have h1 : j * dil ≤ n * dil := Nat.mul_le_mul_right dil h
    rw [Nat.mul_comm dil j]
    omega

/-- The `j`-th key's token. -/
theorem key_tok (n j : ℕ) (h : j ≤ n) : n * dil + res - dil * j = (n - j) * dil + res := by
  obtain ⟨k, rfl⟩ := Nat.exists_eq_add_of_le h
  rw [Nat.add_sub_cancel_left, Nat.add_mul, Nat.mul_comm dil j]
  omega

include ht in
theorem bound (n : ℕ) (h : n ≤ i * 512 + row.val) : n * dil + res < 8192 := by
  have := Nat.mul_le_mul_right dil h
  omega

include R in
/-- A key row of a point, at the `j`-th key of a query. -/
theorem key_read (j : Fin 129) (hj : j.val ≤ i * 512 + row.val) (l : Fin 256) :
    keyAt x1 x2 (row.val / 128 * 128 + (keyCol (row.val % 128) (by omega) j).val) (by omega) l
      = tok x b ((i * 512 + row.val) * dil + res - dil * j.val) (768 + (g.val * 256 + l.val)) (by omega) (by omega) := by
  have hk : row.val / 128 * 128 + (keyCol (row.val % 128) (by omega) j).val = 128 + row.val - j.val := by
    simp only [keyCol]; omega
  have hb := bound (dil := dil) (res := res) row ht (i * 512 + row.val - j.val) (by omega)
  unfold keyAt
  by_cases hp : 128 + row.val - j.val < 128
  · rw [dif_pos (by omega), R.kp (by omega) _ _ (by
      show (i * 512 + (row.val / 128 * 128 + (keyCol (row.val % 128) _ j).val) - 128) * dil + res < 8192
      rw [hk, show i * 512 + (128 + row.val - j.val) - 128 = i * 512 + row.val - j.val by omega]; exact hb)]
    refine tok_congr _ _ _ _ _ _ ?_ rfl
    rw [key_tok _ _ hj]
    show (i * 512 + (row.val / 128 * 128 + (keyCol (row.val % 128) _ j).val) - 128) * dil + res = _
    rw [hk, show i * 512 + (128 + row.val - j.val) - 128 = i * 512 + row.val - j.val by omega]
  · rw [dif_neg (by omega), R.k _ _ (by
      show (i * 512 + (row.val / 128 * 128 + (keyCol (row.val % 128) _ j).val - 128)) * dil + res < 8192
      rw [hk, show i * 512 + (128 + row.val - j.val - 128) = i * 512 + row.val - j.val by omega]; exact hb)]
    refine tok_congr _ _ _ _ _ _ ?_ rfl
    rw [key_tok _ _ hj]
    show (i * 512 + (row.val / 128 * 128 + (keyCol (row.val % 128) _ j).val - 128)) * dil + res = _
    rw [hk, show i * 512 + (128 + row.val - j.val - 128) = i * 512 + row.val - j.val by omega]

/-- The values' blocks as keys' blocks of the array with keys and values exchanged: the same reading. -/
theorem value_read (R : Reads x dil g b i res x0 x1 x2 x3 x4) (j : Fin 129) (hj : j.val ≤ i * 512 + row.val) (l : Fin 256) :
    keyAt x3 x4 (row.val / 128 * 128 + (keyCol (row.val % 128) (by omega) j).val) (by omega) l
      = tok x b ((i * 512 + row.val) * dil + res - dil * j.val) (1536 + (g.val * 256 + l.val)) (by omega) (by omega) := by
  have hk : row.val / 128 * 128 + (keyCol (row.val % 128) (by omega) j).val = 128 + row.val - j.val := by
    simp only [keyCol]; omega
  have hb := bound (dil := dil) (res := res) row ht (i * 512 + row.val - j.val) (by omega)
  unfold keyAt
  by_cases hp : 128 + row.val - j.val < 128
  · rw [dif_pos (by omega), R.vp (by omega) _ _ (by
      show (i * 512 + (row.val / 128 * 128 + (keyCol (row.val % 128) _ j).val) - 128) * dil + res < 8192
      rw [hk, show i * 512 + (128 + row.val - j.val) - 128 = i * 512 + row.val - j.val by omega]; exact hb)]
    refine tok_congr _ _ _ _ _ _ ?_ rfl
    rw [key_tok _ _ hj]
    show (i * 512 + (row.val / 128 * 128 + (keyCol (row.val % 128) _ j).val) - 128) * dil + res = _
    rw [hk, show i * 512 + (128 + row.val - j.val) - 128 = i * 512 + row.val - j.val by omega]
  · rw [dif_neg (by omega), R.v _ _ (by
      show (i * 512 + (row.val / 128 * 128 + (keyCol (row.val % 128) _ j).val - 128)) * dil + res < 8192
      rw [hk, show i * 512 + (128 + row.val - j.val - 128) = i * 512 + row.val - j.val by omega]; exact hb)]
    refine tok_congr _ _ _ _ _ _ ?_ rfl
    rw [key_tok _ _ hj]
    show (i * 512 + (row.val / 128 * 128 + (keyCol (row.val % 128) _ j).val - 128)) * dil + res = _
    rw [hk, show i * 512 + (128 + row.val - j.val - 128) = i * 512 + row.val - j.val by omega]

include R hres in
/-- At its own offsets a query's scores are the formula's. -/
theorem score_at (h : Fin 4) (j : Fin 129) :
    blockS i x0 x1 x2 h row (keyCol (row.val % 128) (by omega) j) = specS x dil g b ((i * 512 + row.val) * dil + res) ht h j := by
  have hk : (keyCol (row.val % 128) (by omega) j).val = 128 + row.val % 128 - j.val := rfl
  have hkey := key_iff hres (i * 512 + row.val) j.val
  unfold blockS specS
  by_cases hj : j.val ≤ i * 512 + row.val
  · rw [if_pos (by omega), if_pos (hkey.2 hj)]
    refine Finset.sum_congr rfl fun d _ => ?_
    rw [R.q _ _ ht, key_read R row ht j hj]
  · rw [if_neg (by omega), if_neg (fun h => hj (hkey.1 h))]

include R hres in
/-- A block's result is the formula's. -/
theorem block_out (l : Fin 256) :
    out (blockS i x0 x1 x2 ⟨l.val / 64, by omega⟩ row) (fun c => keyAt x3 x4 (row.val / 128 * 128 + c.val) (by omega) l)
      = specO x dil g b ((i * 512 + row.val) * dil + res) ht l := by
  unfold specO
  refine out_reindex (keyCol (row.val % 128) (by omega)) (keyCol_injective _ _) _ _ (score_at R hres row ht _) (score_off i x0 x1 x2 row _) _ _ fun j => ?_
  by_cases hj : j.val ≤ i * 512 + row.val
  · exact .inr (value_read row ht R j hj l)
  · refine .inl ?_
    unfold specS
    rw [if_neg (fun h => hj ((key_iff hres _ _).1 h))]

include R hres in
/-- A block's log-sum-exp is the formula's. -/
theorem block_lse (l : Fin 256) :
    lse (blockS i x0 x1 x2 ⟨l.val / 64, by omega⟩ row) = specL x dil g b ((i * 512 + row.val) * dil + res) ht l := by
  unfold specL
  exact lse_reindex (keyCol (row.val % 128) (by omega)) (keyCol_injective _ _) _ _ (score_at R hres row ht _) (score_off i x0 x1 x2 row _)

end

end Cert.Band

end
-- ==== Proof.Band.Ker0.lean ====
/- The attention at stride 1: the kernel's two arrays are the formula's. -/
module

public import proofs.«01_k».proof.Proof.Band.Equation
public import proofs.«01_k».proof.Proof.Gen.Attn0Ideal.Value
public import Idealize.ShloMosaic.Lib.Pipeline.ValueKit
public import Idealize.ShloMosaic.Lib.Claim

@[expose] public section

set_option maxRecDepth 16384

noncomputable section

namespace Cert.Band.Ker0

open Cert.Attn0Ideal Cert.Attn0Ideal.Gen Idealize.ShloMosaic Idealize.ShloMosaic.TcCoe Idealize.SL.Sem
open Idealize.ShloMosaic.Pipeline (Dat)

variable (m : (ℓ : Loc nD τ sig) → Buf (Elt Ideal) ℓ)

/-- The argument array. -/
abbrev X (c : Dev nD) : Qkv := m ((c : Thread nD τ).loc main_arg0)

/-- The formula's result, laid out as the kernel lays it. -/
def GO (x : Qkv) : FVec Ideal S4x8192x256 .f32 := fun y =>
  specO x 1 0 ⟨(y 0).val, (y 0).isLt⟩ ((y 1).val * 1 + (y 2).val / 256)
    (by have h1 : (y 1).val < 8192 := (y 1).isLt; have h2 : (y 2).val < 256 := (y 2).isLt; omega) ⟨(y 2).val % 256, Nat.mod_lt _ (by decide)⟩

/-- The formula's log-sum-exps, laid out as the kernel lays them. -/
def GLse (x : Qkv) : FVec Ideal S4x8192x256 .f32 := fun y =>
  specL x 1 0 ⟨(y 0).val, (y 0).isLt⟩ ((y 1).val * 1 + (y 2).val / 256)
    (by have h1 : (y 1).val < 8192 := (y 1).isLt; have h2 : (y 2).val < 256 := (y 2).isLt; omega) ⟨(y 2).val % 256, Nat.mod_lt _ (by decide)⟩

/-- Which block each window holds at a grid point. -/
theorem idx : ∀ t : Fin cfg0.N,
    win0_0.index t = ![t.val / 16, t.val % 16, 0 * 9 + 0]
    ∧ win0_1.index t = ![t.val / 16, t.val % 16 * 4 - 1, 0 * 9 + 3]
    ∧ win0_2.index t = ![t.val / 16, t.val % 16, 0 * 9 + 3]
    ∧ win0_3.index t = ![t.val / 16, t.val % 16 * 4 - 1, 0 * 9 + 6]
    ∧ win0_4.index t = ![t.val / 16, t.val % 16, 0 * 9 + 6]
    ∧ win0_5.index t = ![t.val / 16, t.val % 16, 0]
    ∧ win0_6.index t = ![t.val / 16, t.val % 16, 0]
    ∧ (grid0.coords t 2).val = t.val % 16 :=
  (by decide +kernel : ∀ t : Fin grid0.N, _)

/-- The array the kernel reads is the argument, regrouped by residue. -/
theorem operand (c : Dev nD) (b : Fin 4) (n : Fin 8192) (col : Fin 2304) :
    (show FVec Ideal S4x8192x2304 .bf16 from V m c main_arg0) (ix3 b n col)
      = tok (X m c) b (n.val * 1 + col.val / 2304) (col.val % 2304) (by omega) (Nat.mod_lt _ (by decide)) := by
  exact tok_congr (X m c) b (by omega) _ (by omega) _ (by omega) (by omega)

/-- The same at an index given by its coordinates. -/
theorem operand_at (c : Dev nD) (i : S4x8192x2304.Idx) (b : Fin 4) (t col : ℕ) (ht : t < 8192) (hc : col < 2304)
    (h0 : (i 0).val = b.val) (h1 : (i 1).val = t / 1) (h2 : (i 2).val = t % 1 * 2304 + col) :
    (show FVec Ideal S4x8192x2304 .bf16 from V m c main_arg0) i = tok (X m c) b t col ht hc := by
  have e : i = ix3 b (⟨t / 1, by omega⟩ : Fin 8192) (⟨t % 1 * 2304 + col, by omega⟩ : Fin 2304) := by blk_ext
  rw [e, operand]
  exact tok_congr _ _ _ _ _ _ (by show t / 1 * 1 + (t % 1 * 2304 + col) / 2304 = t; omega) (by show (t % 1 * 2304 + col) % 2304 = col; omega)

/-- The point's blocks are rows of the array. -/
theorem reads (c : Dev nD) (t : Fin cfg0.N) (ht : t.val < 64) :
    Reads (X m c) 1 0 ⟨t.val / 16, by omega⟩ (t.val % 16) (0) (iblk m c 0 t) (iblk m c 1 t) (iblk m c 2 t) (iblk m c 3 t) (iblk m c 4 t) where
  q row l h := by
    refine operand_at m c ((win0_0.blk t).view.emb (ix3 (0 : Fin 1) row l)) _ _ _ h (by omega) ?_ ?_ ?_ <;> (blk_simp [idx t] <;> (try simp only [Fin.val_zero, Nat.add_zero]) <;> try omega)
  k row l h := by
    refine operand_at m c ((win0_2.blk t).view.emb (ix3 (0 : Fin 1) row l)) _ _ _ h (by omega) ?_ ?_ ?_ <;> (blk_simp [idx t] <;> (try simp only [Fin.val_zero, Nat.add_zero]) <;> try omega)
  v row l h := by
    refine operand_at m c ((win0_4.blk t).view.emb (ix3 (0 : Fin 1) row l)) _ _ _ h (by omega) ?_ ?_ ?_ <;> (blk_simp [idx t] <;> (try simp only [Fin.val_zero, Nat.add_zero]) <;> try omega)
  kp hi p l h := by
    refine operand_at m c ((win0_1.blk t).view.emb (ix3 (0 : Fin 1) p l)) _ _ _ h (by omega) ?_ ?_ ?_ <;> (blk_simp [idx t] <;> (try simp only [Fin.val_zero, Nat.add_zero]) <;> try omega)
  vp hi p l h := by
    refine operand_at m c ((win0_3.blk t).view.emb (ix3 (0 : Fin 1) p l)) _ _ _ h (by omega) ?_ ?_ ?_ <;> (blk_simp [idx t] <;> (try simp only [Fin.val_zero, Nat.add_zero]) <;> try omega)

theorem out5 (i : grid0.Coords) (x0 : Vec Ideal S1x512x256 .bf16) (x1 : Vec Ideal S1x128x256 .bf16) (x2 : Vec Ideal S1x512x256 .bf16)
    (x3 : Vec Ideal S1x128x256 .bf16) (x4 : Vec Ideal S1x512x256 .bf16) : out0_5 i x0 x1 x2 x3 x4 =
    blockO (named κ "mask" 0xF149F2CA#32) (BitVec.ofNat 32 (i 2).val) x0 x1 x2 x3 x4 := rfl

theorem out6 (i : grid0.Coords) (x0 : Vec Ideal S1x512x256 .bf16) (x1 : Vec Ideal S1x128x256 .bf16) (x2 : Vec Ideal S1x512x256 .bf16)
    (x3 : Vec Ideal S1x128x256 .bf16) (x4 : Vec Ideal S1x512x256 .bf16) : out0_6 i x0 x1 x2 x3 x4 =
    blockL (named κ "mask" 0xF149F2CA#32) (BitVec.ofNat 32 (i 2).val) x0 x1 x2 := rfl

/-- The mask constant is the bottom element. -/
theorem mask_bot : named κ "mask" 0xF149F2CA#32 = ⊥ := IdealRules.named_const.ideal_named_scalar _ _ _ _ rfl

/-- The kernel's result array. -/
theorem final5 (c : Dev nD) : (dats m 0 c).arrAt 5 cfg0.N = GO (X m c) := by
  refine (dats m 0 c).arrAt_eq_of_covers 5 _ (by decide +kernel) fun t _ y => ?_
  have ht : t.val < 64 := lt_of_lt_of_eq t.isLt (by decide +kernel)
  blk_simp
  rw [after0_5, out5, mask_bot, (idx t).2.2.2.2.2.2.2]
  have hy0 : (y 0).val < 1 := (y 0).isLt
  have hy1 : (y 1).val < 512 := (y 1).isLt
  have hy2 : (y 2).val < 256 := (y 2).isLt
  have hb : (t.val % 16 * 512 + (y 1).val) * 1 + 0 < 8192 := by omega
  rw [blockO_apply _ (by omega) _ _ _ _ _ y ⟨(y 1).val, hy1⟩ ⟨(y 2).val, hy2⟩ rfl rfl,
    block_out (reads m c t ht) (by omega) ⟨(y 1).val, hy1⟩ hb]
  refine specO_congr _ _ _ ?_ ?_ ?_ <;> (blk_simp [idx t] <;> (try simp only [Fin.val_zero, Nat.add_zero]) <;> try omega)

/-- The kernel's log-sum-exp array. -/
theorem final6 (c : Dev nD) : (dats m 0 c).arrAt 6 cfg0.N = GLse (X m c) := by
  refine (dats m 0 c).arrAt_eq_of_covers 6 _ (by decide +kernel) fun t _ y => ?_
  have ht : t.val < 64 := lt_of_lt_of_eq t.isLt (by decide +kernel)
  blk_simp
  rw [after0_6, out6, mask_bot, (idx t).2.2.2.2.2.2.2]
  have hy0 : (y 0).val < 1 := (y 0).isLt
  have hy1 : (y 1).val < 512 := (y 1).isLt
  have hy2 : (y 2).val < 256 := (y 2).isLt
  have hb : (t.val % 16 * 512 + (y 1).val) * 1 + 0 < 8192 := by omega
  rw [blockL_apply _ (by omega) _ _ _ (iblk m c 3 t) (iblk m c 4 t) y ⟨(y 1).val, hy1⟩ ⟨(y 2).val, hy2⟩ rfl rfl,
    block_lse (reads m c t ht) (by omega) ⟨(y 1).val, hy1⟩ hb]
  refine specL_congr _ _ _ ?_ ?_ ?_ <;> (blk_simp [idx t] <;> (try simp only [Fin.val_zero, Nat.add_zero]) <;> try omega)

end Cert.Band.Ker0

end
-- ==== Proof.Band.Ref0.lean ====
/- The reference of the attention at stride 1: its two results are the formula's, so the kernel's. -/
module

public import proofs.«01_k».proof.Proof.Band.Ker0
public import proofs.«01_k».proof.Proof.Gen.Ref0Ideal.Read

@[expose] public section

set_option maxRecDepth 16384

noncomputable section

namespace Cert.Band.Ref0

open Cert.Ref0Ideal Cert.Ref0Ideal.Gen Cert.Ref0Ideal.Read Idealize.ShloMosaic Idealize.ShloMosaic.TcCoe

variable (x : Qkv)

/-- A query's entry is the array's. -/
theorem query (b : Fin 4) (t : Fin 8192) (h : Fin 4) (d : Fin 64) :
    val_main_v3 (F := Ideal) x (ix4 b t h d) = tok x b t.val ((0 : Fin 3).val * 256 + (h.val * 64 + d.val)) t.isLt (by omega) := by
  refine Eq.trans (b := x (ix3 b t (⟨h.val * 64 + d.val, by omega⟩ : Fin 2304))) ?_ (tok_congr x b t.isLt t.isLt (by omega) _ rfl (by show h.val * 64 + d.val = 0 * 256 + (h.val * 64 + d.val); omega))
  pointwise [val_main_v3, val_main_v2, val_main_v1, val_main_v0]

/-- A key's entry is the array's. -/
theorem key (b : Fin 4) (t : Fin 8192) (h : Fin 4) (d : Fin 64) :
    val_main_v5 (F := Ideal) x (ix4 b t h d) = tok x b t.val (768 + ((0 : Fin 3).val * 256 + (h.val * 64 + d.val))) t.isLt (by omega) := by
  refine Eq.trans (b := x (ix3 b t (⟨768 + h.val * 64 + d.val, by omega⟩ : Fin 2304))) ?_ (tok_congr x b t.isLt t.isLt (by omega) _ rfl (by show 768 + h.val * 64 + d.val = 768 + (0 * 256 + (h.val * 64 + d.val)); omega))
  pointwise [val_main_v5, val_main_v4, val_main_v1, val_main_v0]

/-- A value's entry is the array's. -/
theorem value (b : Fin 4) (t : Fin 8192) (h : Fin 4) (d : Fin 64) :
    val_main_v7 (F := Ideal) x (ix4 b t h d) = tok x b t.val (1536 + ((0 : Fin 3).val * 256 + (h.val * 64 + d.val))) t.isLt (by omega) := by
  refine Eq.trans (b := x (ix3 b t (⟨1536 + h.val * 64 + d.val, by omega⟩ : Fin 2304))) ?_ (tok_congr x b t.isLt t.isLt (by omega) _ rfl (by show 1536 + h.val * 64 + d.val = 1536 + (0 * 256 + (h.val * 64 + d.val)); omega))
  pointwise [val_main_v7, val_main_v6, val_main_v1, val_main_v0]

/-- The word of a key's position. -/
theorem pos (t : Fin 8192) (j : Fin 129) :
    (val_main_v16 (F := Ideal) (ix2 t j)).toInt = (t.val : ℤ) - (1 * j.val : ℕ) := by
  rw [← pos_toInt t.val 1 j.val t.isLt (by decide) j.isLt]
  congr 1

/-- The word of the row a key is read at. -/
theorem clip (t : Fin 8192) (j : Fin 129) :
    (val_main_v20 (F := Ideal) (ix2 t j)).toInt.toNat = t.val - 1 * j.val := by
  rw [show val_main_v20 (F := Ideal) (ix2 t j) = IntOp.maxsi (val_main_v16 (F := Ideal) (ix2 t j)) 0#32 from rfl,
    max_toInt, pos]
  omega

/-- The reference's softmax average, as the core's. -/
theorem v35 : val_main_v35 (F := Ideal) x = outs (scores (val_main_v3 (F := Ideal) x) (val_main_v5 (F := Ideal) x) (val_main_v16 (F := Ideal)) (val_main_v20 (F := Ideal)))
    (rows (val_main_v7 (F := Ideal) x) (val_main_v20 (F := Ideal))) := rfl

/-- The reference's log-sum-exp, as the core's. -/
theorem v40 : val_main_v40 (F := Ideal) x = lses (scores (val_main_v3 (F := Ideal) x) (val_main_v5 (F := Ideal) x) (val_main_v16 (F := Ideal)) (val_main_v20 (F := Ideal))) := rfl

/-- The reference's first result is the formula's. -/
theorem result : val_main_v41 (F := Ideal) x = Ker0.GO x := by
  funext y
  obtain ⟨b, n, l, rfl⟩ : ∃ (b : Fin 4) (n : Fin 8192) (l : Fin 256), y = ix3 b n l := ⟨y 0, y 1, y 2, by blk_ext⟩
  refine Eq.trans (b := val_main_v35 (F := Ideal) x (ix4 b (⟨n.val * 1 + l.val / 256, by omega⟩ : Fin 8192) (⟨l.val / 64 % 4, by omega⟩ : Fin 4) (⟨l.val % 64, by omega⟩ : Fin 64))) ?_ ?_
  · unfold val_main_v41
    generalize val_main_v35 (F := Ideal) x = Y
    pointwise []
    blk_ext
  · rw [v35, outs_spec x 1 (by decide) 0 _ _ _ _ _ (query x) (key x) (value x) pos clip]
    exact specO_congr x 1 0 rfl rfl (by show l.val / 64 % 4 * 64 + l.val % 64 = l.val % 256; omega)

/-- The reference's second result is the formula's. -/
theorem logsum : val_main_v42 (F := Ideal) x = Ker0.GLse x := by
  funext y
  obtain ⟨b, n, l, rfl⟩ : ∃ (b : Fin 4) (n : Fin 8192) (l : Fin 256), y = ix3 b n l := ⟨y 0, y 1, y 2, by blk_ext⟩
  refine Eq.trans (b := val_main_v40 (F := Ideal) x (ix4 b (⟨n.val * 1 + l.val / 256, by omega⟩ : Fin 8192) (⟨l.val / 64 % 4, by omega⟩ : Fin 4) (⟨l.val % 64, by omega⟩ : Fin 64))) ?_ ?_
  · unfold val_main_v42
    generalize val_main_v40 (F := Ideal) x = Y
    pointwise []
    blk_ext
  · rw [v40, lses_spec x 1 (by decide) 0 _ _ _ _ (query x) (key x) pos clip]
    exact specL_congr x 1 0 rfl rfl (by show l.val / 64 % 4 * 64 + l.val % 64 = l.val % 256; omega)

end Cert.Band.Ref0

end
-- ==== Proof.Band.Ker1.lean ====
/- The attention at stride 4: the kernel's two arrays are the formula's. -/
module

public import proofs.«01_k».proof.Proof.Band.Equation
public import proofs.«01_k».proof.Proof.Gen.Attn1Ideal.Value
public import Idealize.ShloMosaic.Lib.Pipeline.ValueKit
public import Idealize.ShloMosaic.Lib.Claim

@[expose] public section

set_option maxRecDepth 16384

noncomputable section

namespace Cert.Band.Ker1

open Cert.Attn1Ideal Cert.Attn1Ideal.Gen Idealize.ShloMosaic Idealize.ShloMosaic.TcCoe Idealize.SL.Sem
open Idealize.ShloMosaic.Pipeline (Dat)

variable (m : (ℓ : Loc nD τ sig) → Buf (Elt Ideal) ℓ)

/-- The argument array. -/
abbrev X (c : Dev nD) : Qkv := m ((c : Thread nD τ).loc main_arg0)

/-- The formula's result, laid out as the kernel lays it. -/
def GO (x : Qkv) : FVec Ideal S4x2048x1024 .f32 := fun y =>
  specO x 4 1 ⟨(y 0).val, (y 0).isLt⟩ ((y 1).val * 4 + (y 2).val / 256)
    (by have h1 : (y 1).val < 2048 := (y 1).isLt; have h2 : (y 2).val < 1024 := (y 2).isLt; omega) ⟨(y 2).val % 256, Nat.mod_lt _ (by decide)⟩

/-- The formula's log-sum-exps, laid out as the kernel lays them. -/
def GLse (x : Qkv) : FVec Ideal S4x2048x1024 .f32 := fun y =>
  specL x 4 1 ⟨(y 0).val, (y 0).isLt⟩ ((y 1).val * 4 + (y 2).val / 256)
    (by have h1 : (y 1).val < 2048 := (y 1).isLt; have h2 : (y 2).val < 1024 := (y 2).isLt; omega) ⟨(y 2).val % 256, Nat.mod_lt _ (by decide)⟩

/-- Which block each window holds at a grid point. -/
theorem idx : ∀ t : Fin cfg0.N,
    win0_0.index t = ![t.val / 16, t.val % 4, t.val / 4 % 4 * 9 + 1]
    ∧ win0_1.index t = ![t.val / 16, t.val % 4 * 4 - 1, t.val / 4 % 4 * 9 + 4]
    ∧ win0_2.index t = ![t.val / 16, t.val % 4, t.val / 4 % 4 * 9 + 4]
    ∧ win0_3.index t = ![t.val / 16, t.val % 4 * 4 - 1, t.val / 4 % 4 * 9 + 7]
    ∧ win0_4.index t = ![t.val / 16, t.val % 4, t.val / 4 % 4 * 9 + 7]
    ∧ win0_5.index t = ![t.val / 16, t.val % 4, t.val / 4 % 4]
    ∧ win0_6.index t = ![t.val / 16, t.val % 4, t.val / 4 % 4]
    ∧ (grid0.coords t 2).val = t.val % 4 :=
  (by decide +kernel : ∀ t : Fin grid0.N, _)

/-- The array the kernel reads is the argument, regrouped by residue. -/
theorem operand (c : Dev nD) (b : Fin 4) (n : Fin 2048) (col : Fin 9216) :
    (show FVec Ideal S4x2048x9216 .bf16 from V m c main_v0) (ix3 b n col)
      = tok (X m c) b (n.val * 4 + col.val / 2304) (col.val % 2304) (by omega) (Nat.mod_lt _ (by decide)) := by
  entry_read
  pointwise []
  rfl

/-- The same at an index given by its coordinates. -/
theorem operand_at (c : Dev nD) (i : S4x2048x9216.Idx) (b : Fin 4) (t col : ℕ) (ht : t < 8192) (hc : col < 2304)
    (h0 : (i 0).val = b.val) (h1 : (i 1).val = t / 4) (h2 : (i 2).val = t % 4 * 2304 + col) :
    (show FVec Ideal S4x2048x9216 .bf16 from V m c main_v0) i = tok (X m c) b t col ht hc := by
  have e : i = ix3 b (⟨t / 4, by omega⟩ : Fin 2048) (⟨t % 4 * 2304 + col, by omega⟩ : Fin 9216) := by blk_ext
  rw [e, operand]
  exact tok_congr _ _ _ _ _ _ (by show t / 4 * 4 + (t % 4 * 2304 + col) / 2304 = t; omega) (by show (t % 4 * 2304 + col) % 2304 = col; omega)

/-- The point's blocks are rows of the array. -/
theorem reads (c : Dev nD) (t : Fin cfg0.N) (ht : t.val < 64) :
    Reads (X m c) 4 1 ⟨t.val / 16, by omega⟩ (t.val % 4) (t.val / 4 % 4) (iblk m c 0 t) (iblk m c 1 t) (iblk m c 2 t) (iblk m c 3 t) (iblk m c 4 t) where
  q row l h := by
    refine operand_at m c ((win0_0.blk t).view.emb (ix3 (0 : Fin 1) row l)) _ _ _ h (by omega) ?_ ?_ ?_ <;> (blk_simp [idx t] <;> (try simp only [Fin.val_zero, Nat.add_zero]) <;> try omega)
  k row l h := by
    refine operand_at m c ((win0_2.blk t).view.emb (ix3 (0 : Fin 1) row l)) _ _ _ h (by omega) ?_ ?_ ?_ <;> (blk_simp [idx t] <;> (try simp only [Fin.val_zero, Nat.add_zero]) <;> try omega)
  v row l h := by
    refine operand_at m c ((win0_4.blk t).view.emb (ix3 (0 : Fin 1) row l)) _ _ _ h (by omega) ?_ ?_ ?_ <;> (blk_simp [idx t] <;> (try simp only [Fin.val_zero, Nat.add_zero]) <;> try omega)
  kp hi p l h := by
    refine operand_at m c ((win0_1.blk t).view.emb (ix3 (0 : Fin 1) p l)) _ _ _ h (by omega) ?_ ?_ ?_ <;> (blk_simp [idx t] <;> (try simp only [Fin.val_zero, Nat.add_zero]) <;> try omega)
  vp hi p l h := by
    refine operand_at m c ((win0_3.blk t).view.emb (ix3 (0 : Fin 1) p l)) _ _ _ h (by omega) ?_ ?_ ?_ <;> (blk_simp [idx t] <;> (try simp only [Fin.val_zero, Nat.add_zero]) <;> try omega)

theorem out5 (i : grid0.Coords) (x0 : Vec Ideal S1x512x256 .bf16) (x1 : Vec Ideal S1x128x256 .bf16) (x2 : Vec Ideal S1x512x256 .bf16)
    (x3 : Vec Ideal S1x128x256 .bf16) (x4 : Vec Ideal S1x512x256 .bf16) : out0_5 i x0 x1 x2 x3 x4 =
    blockO (named κ "mask" 0xF149F2CA#32) (BitVec.ofNat 32 (i 2).val) x0 x1 x2 x3 x4 := rfl

theorem out6 (i : grid0.Coords) (x0 : Vec Ideal S1x512x256 .bf16) (x1 : Vec Ideal S1x128x256 .bf16) (x2 : Vec Ideal S1x512x256 .bf16)
    (x3 : Vec Ideal S1x128x256 .bf16) (x4 : Vec Ideal S1x512x256 .bf16) : out0_6 i x0 x1 x2 x3 x4 =
    blockL (named κ "mask" 0xF149F2CA#32) (BitVec.ofNat 32 (i 2).val) x0 x1 x2 := rfl

/-- The mask constant is the bottom element. -/
theorem mask_bot : named κ "mask" 0xF149F2CA#32 = ⊥ := IdealRules.named_const.ideal_named_scalar _ _ _ _ rfl

/-- The kernel's result array. -/
theorem final5 (c : Dev nD) : (dats m 0 c).arrAt 5 cfg0.N = GO (X m c) := by
  refine (dats m 0 c).arrAt_eq_of_covers 5 _ (by decide +kernel) fun t _ y => ?_
  have ht : t.val < 64 := lt_of_lt_of_eq t.isLt (by decide +kernel)
  blk_simp
  rw [after0_5, out5, mask_bot, (idx t).2.2.2.2.2.2.2]
  have hy0 : (y 0).val < 1 := (y 0).isLt
  have hy1 : (y 1).val < 512 := (y 1).isLt
  have hy2 : (y 2).val < 256 := (y 2).isLt
  have hb : (t.val % 4 * 512 + (y 1).val) * 4 + t.val / 4 % 4 < 8192 := by omega
  rw [blockO_apply _ (by omega) _ _ _ _ _ y ⟨(y 1).val, hy1⟩ ⟨(y 2).val, hy2⟩ rfl rfl,
    block_out (reads m c t ht) (by omega) ⟨(y 1).val, hy1⟩ hb]
  refine specO_congr _ _ _ ?_ ?_ ?_ <;> (blk_simp [idx t] <;> (try simp only [Fin.val_zero, Nat.add_zero]) <;> try omega)

/-- The kernel's log-sum-exp array. -/
theorem final6 (c : Dev nD) : (dats m 0 c).arrAt 6 cfg0.N = GLse (X m c) := by
  refine (dats m 0 c).arrAt_eq_of_covers 6 _ (by decide +kernel) fun t _ y => ?_
  have ht : t.val < 64 := lt_of_lt_of_eq t.isLt (by decide +kernel)
  blk_simp
  rw [after0_6, out6, mask_bot, (idx t).2.2.2.2.2.2.2]
  have hy0 : (y 0).val < 1 := (y 0).isLt
  have hy1 : (y 1).val < 512 := (y 1).isLt
  have hy2 : (y 2).val < 256 := (y 2).isLt
  have hb : (t.val % 4 * 512 + (y 1).val) * 4 + t.val / 4 % 4 < 8192 := by omega
  rw [blockL_apply _ (by omega) _ _ _ (iblk m c 3 t) (iblk m c 4 t) y ⟨(y 1).val, hy1⟩ ⟨(y 2).val, hy2⟩ rfl rfl,
    block_lse (reads m c t ht) (by omega) ⟨(y 1).val, hy1⟩ hb]
  refine specL_congr _ _ _ ?_ ?_ ?_ <;> (blk_simp [idx t] <;> (try simp only [Fin.val_zero, Nat.add_zero]) <;> try omega)

end Cert.Band.Ker1

end
-- ==== Proof.Band.Ref1.lean ====
/- The reference of the attention at stride 4: its two results are the formula's, so the kernel's. -/
module

public import proofs.«01_k».proof.Proof.Band.Ker1
public import proofs.«01_k».proof.Proof.Gen.Ref1Ideal.Read

@[expose] public section

set_option maxRecDepth 16384

noncomputable section

namespace Cert.Band.Ref1

open Cert.Ref1Ideal Cert.Ref1Ideal.Gen Cert.Ref1Ideal.Read Idealize.ShloMosaic Idealize.ShloMosaic.TcCoe

variable (x : Qkv)

/-- A query's entry is the array's. -/
theorem query (b : Fin 4) (t : Fin 8192) (h : Fin 4) (d : Fin 64) :
    val_main_v3 (F := Ideal) x (ix4 b t h d) = tok x b t.val ((1 : Fin 3).val * 256 + (h.val * 64 + d.val)) t.isLt (by omega) := by
  pointwise [val_main_v3, val_main_v2, val_main_v1, val_main_v0]
  exact tok_congr x b _ _ (by omega) _ rfl (by show _ = 1 * 256 + _; omega)

/-- A key's entry is the array's. -/
theorem key (b : Fin 4) (t : Fin 8192) (h : Fin 4) (d : Fin 64) :
    val_main_v5 (F := Ideal) x (ix4 b t h d) = tok x b t.val (768 + ((1 : Fin 3).val * 256 + (h.val * 64 + d.val))) t.isLt (by omega) := by
  pointwise [val_main_v5, val_main_v4, val_main_v1, val_main_v0]
  exact tok_congr x b _ _ (by omega) _ rfl (by show _ = 768 + (1 * 256 + _); omega)

/-- A value's entry is the array's. -/
theorem value (b : Fin 4) (t : Fin 8192) (h : Fin 4) (d : Fin 64) :
    val_main_v7 (F := Ideal) x (ix4 b t h d) = tok x b t.val (1536 + ((1 : Fin 3).val * 256 + (h.val * 64 + d.val))) t.isLt (by omega) := by
  pointwise [val_main_v7, val_main_v6, val_main_v1, val_main_v0]
  exact tok_congr x b _ _ (by omega) _ rfl (by show _ = 1536 + (1 * 256 + _); omega)

/-- The word of a key's position. -/
theorem pos (t : Fin 8192) (j : Fin 129) :
    (val_main_v16 (F := Ideal) (ix2 t j)).toInt = (t.val : ℤ) - (4 * j.val : ℕ) := by
  rw [← pos_toInt t.val 4 j.val t.isLt (by decide) j.isLt]
  congr 1

/-- The word of the row a key is read at. -/
theorem clip (t : Fin 8192) (j : Fin 129) :
    (val_main_v20 (F := Ideal) (ix2 t j)).toInt.toNat = t.val - 4 * j.val := by
  rw [show val_main_v20 (F := Ideal) (ix2 t j) = IntOp.maxsi (val_main_v16 (F := Ideal) (ix2 t j)) 0#32 from rfl,
    max_toInt, pos]
  omega

/-- The reference's softmax average, as the core's. -/
theorem v35 : val_main_v35 (F := Ideal) x = outs (scores (val_main_v3 (F := Ideal) x) (val_main_v5 (F := Ideal) x) (val_main_v16 (F := Ideal)) (val_main_v20 (F := Ideal)))
    (rows (val_main_v7 (F := Ideal) x) (val_main_v20 (F := Ideal))) := rfl

/-- The reference's log-sum-exp, as the core's. -/
theorem v40 : val_main_v40 (F := Ideal) x = lses (scores (val_main_v3 (F := Ideal) x) (val_main_v5 (F := Ideal) x) (val_main_v16 (F := Ideal)) (val_main_v20 (F := Ideal))) := rfl

/-- The reference's first result is the formula's. -/
theorem result : val_main_v41 (F := Ideal) x = Ker1.GO x := by
  funext y
  obtain ⟨b, n, l, rfl⟩ : ∃ (b : Fin 4) (n : Fin 2048) (l : Fin 1024), y = ix3 b n l := ⟨y 0, y 1, y 2, by blk_ext⟩
  refine Eq.trans (b := val_main_v35 (F := Ideal) x (ix4 b (⟨n.val * 4 + l.val / 256, by omega⟩ : Fin 8192) (⟨l.val / 64 % 4, by omega⟩ : Fin 4) (⟨l.val % 64, by omega⟩ : Fin 64))) ?_ ?_
  · unfold val_main_v41
    generalize val_main_v35 (F := Ideal) x = Y
    pointwise []
  · rw [v35, outs_spec x 4 (by decide) 1 _ _ _ _ _ (query x) (key x) (value x) pos clip]
    exact specO_congr x 4 1 rfl rfl (by show l.val / 64 % 4 * 64 + l.val % 64 = l.val % 256; omega)

/-- The reference's second result is the formula's. -/
theorem logsum : val_main_v42 (F := Ideal) x = Ker1.GLse x := by
  funext y
  obtain ⟨b, n, l, rfl⟩ : ∃ (b : Fin 4) (n : Fin 2048) (l : Fin 1024), y = ix3 b n l := ⟨y 0, y 1, y 2, by blk_ext⟩
  refine Eq.trans (b := val_main_v40 (F := Ideal) x (ix4 b (⟨n.val * 4 + l.val / 256, by omega⟩ : Fin 8192) (⟨l.val / 64 % 4, by omega⟩ : Fin 4) (⟨l.val % 64, by omega⟩ : Fin 64))) ?_ ?_
  · unfold val_main_v42
    generalize val_main_v40 (F := Ideal) x = Y
    pointwise []
  · rw [v40, lses_spec x 4 (by decide) 1 _ _ _ _ (query x) (key x) pos clip]
    exact specL_congr x 4 1 rfl rfl (by show l.val / 64 % 4 * 64 + l.val % 64 = l.val % 256; omega)

end Cert.Band.Ref1

end
-- ==== Proof.Band.Ker2.lean ====
/- The attention at stride 16: the kernel's two arrays are the formula's. -/
module

public import proofs.«01_k».proof.Proof.Band.Equation
public import proofs.«01_k».proof.Proof.Gen.Attn2Ideal.Value
public import Idealize.ShloMosaic.Lib.Pipeline.ValueKit
public import Idealize.ShloMosaic.Lib.Claim

@[expose] public section

set_option maxRecDepth 16384

noncomputable section

namespace Cert.Band.Ker2

open Cert.Attn2Ideal Cert.Attn2Ideal.Gen Idealize.ShloMosaic Idealize.ShloMosaic.TcCoe Idealize.SL.Sem
open Idealize.ShloMosaic.Pipeline (Dat)

variable (m : (ℓ : Loc nD τ sig) → Buf (Elt Ideal) ℓ)

/-- The argument array. -/
abbrev X (c : Dev nD) : Qkv := m ((c : Thread nD τ).loc main_arg0)

/-- The formula's result, laid out as the kernel lays it. -/
def GO (x : Qkv) : FVec Ideal S4x512x4096 .f32 := fun y =>
  specO x 16 2 ⟨(y 0).val, (y 0).isLt⟩ ((y 1).val * 16 + (y 2).val / 256)
    (by have h1 : (y 1).val < 512 := (y 1).isLt; have h2 : (y 2).val < 4096 := (y 2).isLt; omega) ⟨(y 2).val % 256, Nat.mod_lt _ (by decide)⟩

/-- The formula's log-sum-exps, laid out as the kernel lays them. -/
def GLse (x : Qkv) : FVec Ideal S4x512x4096 .f32 := fun y =>
  specL x 16 2 ⟨(y 0).val, (y 0).isLt⟩ ((y 1).val * 16 + (y 2).val / 256)
    (by have h1 : (y 1).val < 512 := (y 1).isLt; have h2 : (y 2).val < 4096 := (y 2).isLt; omega) ⟨(y 2).val % 256, Nat.mod_lt _ (by decide)⟩

/-- Which block each window holds at a grid point. -/
theorem idx : ∀ t : Fin cfg0.N,
    win0_0.index t = ![t.val / 16, 0, t.val % 16 * 9 + 2]
    ∧ win0_1.index t = ![t.val / 16, 0, t.val % 16 * 9 + 5]
    ∧ win0_2.index t = ![t.val / 16, 0, t.val % 16 * 9 + 5]
    ∧ win0_3.index t = ![t.val / 16, 0, t.val % 16 * 9 + 8]
    ∧ win0_4.index t = ![t.val / 16, 0, t.val % 16 * 9 + 8]
    ∧ win0_5.index t = ![t.val / 16, 0, t.val % 16]
    ∧ win0_6.index t = ![t.val / 16, 0, t.val % 16]
    ∧ (grid0.coords t 2).val = 0 :=
  (by decide +kernel : ∀ t : Fin grid0.N, _)

/-- The array the kernel reads is the argument, regrouped by residue. -/
theorem operand (c : Dev nD) (b : Fin 4) (n : Fin 512) (col : Fin 36864) :
    (show FVec Ideal S4x512x36864 .bf16 from V m c main_v0) (ix3 b n col)
      = tok (X m c) b (n.val * 16 + col.val / 2304) (col.val % 2304) (by omega) (Nat.mod_lt _ (by decide)) := by
  entry_read
  pointwise []
  rfl

/-- The same at an index given by its coordinates. -/
theorem operand_at (c : Dev nD) (i : S4x512x36864.Idx) (b : Fin 4) (t col : ℕ) (ht : t < 8192) (hc : col < 2304)
    (h0 : (i 0).val = b.val) (h1 : (i 1).val = t / 16) (h2 : (i 2).val = t % 16 * 2304 + col) :
    (show FVec Ideal S4x512x36864 .bf16 from V m c main_v0) i = tok (X m c) b t col ht hc := by
  have e : i = ix3 b (⟨t / 16, by omega⟩ : Fin 512) (⟨t % 16 * 2304 + col, by omega⟩ : Fin 36864) := by blk_ext
  rw [e, operand]
  exact tok_congr _ _ _ _ _ _ (by show t / 16 * 16 + (t % 16 * 2304 + col) / 2304 = t; omega) (by show (t % 16 * 2304 + col) % 2304 = col; omega)

/-- The point's blocks are rows of the array. -/
theorem reads (c : Dev nD) (t : Fin cfg0.N) (ht : t.val < 64) :
    Reads (X m c) 16 2 ⟨t.val / 16, by omega⟩ (0) (t.val % 16) (iblk m c 0 t) (iblk m c 1 t) (iblk m c 2 t) (iblk m c 3 t) (iblk m c 4 t) where
  q row l h := by
    refine operand_at m c ((win0_0.blk t).view.emb (ix3 (0 : Fin 1) row l)) _ _ _ h (by omega) ?_ ?_ ?_ <;> (blk_simp [idx t] <;> (try simp only [Fin.val_zero, Nat.add_zero]) <;> try omega)
  k row l h := by
    refine operand_at m c ((win0_2.blk t).view.emb (ix3 (0 : Fin 1) row l)) _ _ _ h (by omega) ?_ ?_ ?_ <;> (blk_simp [idx t] <;> (try simp only [Fin.val_zero, Nat.add_zero]) <;> try omega)
  v row l h := by
    refine operand_at m c ((win0_4.blk t).view.emb (ix3 (0 : Fin 1) row l)) _ _ _ h (by omega) ?_ ?_ ?_ <;> (blk_simp [idx t] <;> (try simp only [Fin.val_zero, Nat.add_zero]) <;> try omega)
  kp hi p l h := absurd hi (Nat.lt_irrefl 0)
  vp hi p l h := absurd hi (Nat.lt_irrefl 0)

theorem out5 (i : grid0.Coords) (x0 : Vec Ideal S1x512x256 .bf16) (x1 : Vec Ideal S1x128x256 .bf16) (x2 : Vec Ideal S1x512x256 .bf16)
    (x3 : Vec Ideal S1x128x256 .bf16) (x4 : Vec Ideal S1x512x256 .bf16) : out0_5 i x0 x1 x2 x3 x4 =
    blockO (named κ "mask" 0xF149F2CA#32) (BitVec.ofNat 32 (i 2).val) x0 x1 x2 x3 x4 := rfl

theorem out6 (i : grid0.Coords) (x0 : Vec Ideal S1x512x256 .bf16) (x1 : Vec Ideal S1x128x256 .bf16) (x2 : Vec Ideal S1x512x256 .bf16)
    (x3 : Vec Ideal S1x128x256 .bf16) (x4 : Vec Ideal S1x512x256 .bf16) : out0_6 i x0 x1 x2 x3 x4 =
    blockL (named κ "mask" 0xF149F2CA#32) (BitVec.ofNat 32 (i 2).val) x0 x1 x2 := rfl

/-- The mask constant is the bottom element. -/
theorem mask_bot : named κ "mask" 0xF149F2CA#32 = ⊥ := IdealRules.named_const.ideal_named_scalar _ _ _ _ rfl

/-- The kernel's result array. -/
theorem final5 (c : Dev nD) : (dats m 0 c).arrAt 5 cfg0.N = GO (X m c) := by
  refine (dats m 0 c).arrAt_eq_of_covers 5 _ (by decide +kernel) fun t _ y => ?_
  have ht : t.val < 64 := lt_of_lt_of_eq t.isLt (by decide +kernel)
  blk_simp
  rw [after0_5, out5, mask_bot, (idx t).2.2.2.2.2.2.2]
  have hy0 : (y 0).val < 1 := (y 0).isLt
  have hy1 : (y 1).val < 512 := (y 1).isLt
  have hy2 : (y 2).val < 256 := (y 2).isLt
  have hb : (0 * 512 + (y 1).val) * 16 + t.val % 16 < 8192 := by omega
  rw [blockO_apply _ (by omega) _ _ _ _ _ y ⟨(y 1).val, hy1⟩ ⟨(y 2).val, hy2⟩ rfl rfl,
    block_out (reads m c t ht) (by omega) ⟨(y 1).val, hy1⟩ hb]
  refine specO_congr _ _ _ ?_ ?_ ?_ <;> (blk_simp [idx t] <;> (try simp only [Fin.val_zero, Nat.add_zero]) <;> try omega)

/-- The kernel's log-sum-exp array. -/
theorem final6 (c : Dev nD) : (dats m 0 c).arrAt 6 cfg0.N = GLse (X m c) := by
  refine (dats m 0 c).arrAt_eq_of_covers 6 _ (by decide +kernel) fun t _ y => ?_
  have ht : t.val < 64 := lt_of_lt_of_eq t.isLt (by decide +kernel)
  blk_simp
  rw [after0_6, out6, mask_bot, (idx t).2.2.2.2.2.2.2]
  have hy0 : (y 0).val < 1 := (y 0).isLt
  have hy1 : (y 1).val < 512 := (y 1).isLt
  have hy2 : (y 2).val < 256 := (y 2).isLt
  have hb : (0 * 512 + (y 1).val) * 16 + t.val % 16 < 8192 := by omega
  rw [blockL_apply _ (by omega) _ _ _ (iblk m c 3 t) (iblk m c 4 t) y ⟨(y 1).val, hy1⟩ ⟨(y 2).val, hy2⟩ rfl rfl,
    block_lse (reads m c t ht) (by omega) ⟨(y 1).val, hy1⟩ hb]
  refine specL_congr _ _ _ ?_ ?_ ?_ <;> (blk_simp [idx t] <;> (try simp only [Fin.val_zero, Nat.add_zero]) <;> try omega)

end Cert.Band.Ker2

end
-- ==== Proof.Band.Ref2.lean ====
/- The reference of the attention at stride 16: its two results are the formula's, so the kernel's. -/
module

public import proofs.«01_k».proof.Proof.Band.Ker2
public import proofs.«01_k».proof.Proof.Gen.Ref2Ideal.Read

@[expose] public section

set_option maxRecDepth 16384

noncomputable section

namespace Cert.Band.Ref2

open Cert.Ref2Ideal Cert.Ref2Ideal.Gen Cert.Ref2Ideal.Read Idealize.ShloMosaic Idealize.ShloMosaic.TcCoe

variable (x : Qkv)

/-- A query's entry is the array's. -/
theorem query (b : Fin 4) (t : Fin 8192) (h : Fin 4) (d : Fin 64) :
    val_main_v3 (F := Ideal) x (ix4 b t h d) = tok x b t.val ((2 : Fin 3).val * 256 + (h.val * 64 + d.val)) t.isLt (by omega) := by
  pointwise [val_main_v3, val_main_v2, val_main_v1, val_main_v0]
  exact tok_congr x b _ _ (by omega) _ rfl (by show _ = 2 * 256 + _; omega)

/-- A key's entry is the array's. -/
theorem key (b : Fin 4) (t : Fin 8192) (h : Fin 4) (d : Fin 64) :
    val_main_v5 (F := Ideal) x (ix4 b t h d) = tok x b t.val (768 + ((2 : Fin 3).val * 256 + (h.val * 64 + d.val))) t.isLt (by omega) := by
  pointwise [val_main_v5, val_main_v4, val_main_v1, val_main_v0]
  exact tok_congr x b _ _ (by omega) _ rfl (by show _ = 768 + (2 * 256 + _); omega)

/-- A value's entry is the array's. -/
theorem value (b : Fin 4) (t : Fin 8192) (h : Fin 4) (d : Fin 64) :
    val_main_v7 (F := Ideal) x (ix4 b t h d) = tok x b t.val (1536 + ((2 : Fin 3).val * 256 + (h.val * 64 + d.val))) t.isLt (by omega) := by
  pointwise [val_main_v7, val_main_v6, val_main_v1, val_main_v0]
  exact tok_congr x b _ _ (by omega) _ rfl (by show _ = 1536 + (2 * 256 + _); omega)

/-- The word of a key's position. -/
theorem pos (t : Fin 8192) (j : Fin 129) :
    (val_main_v16 (F := Ideal) (ix2 t j)).toInt = (t.val : ℤ) - (16 * j.val : ℕ) := by
  rw [← pos_toInt t.val 16 j.val t.isLt (by decide) j.isLt]
  congr 1

/-- The word of the row a key is read at. -/
theorem clip (t : Fin 8192) (j : Fin 129) :
    (val_main_v20 (F := Ideal) (ix2 t j)).toInt.toNat = t.val - 16 * j.val := by
  rw [show val_main_v20 (F := Ideal) (ix2 t j) = IntOp.maxsi (val_main_v16 (F := Ideal) (ix2 t j)) 0#32 from rfl,
    max_toInt, pos]
  omega

/-- The reference's softmax average, as the core's. -/
theorem v35 : val_main_v35 (F := Ideal) x = outs (scores (val_main_v3 (F := Ideal) x) (val_main_v5 (F := Ideal) x) (val_main_v16 (F := Ideal)) (val_main_v20 (F := Ideal)))
    (rows (val_main_v7 (F := Ideal) x) (val_main_v20 (F := Ideal))) := rfl

/-- The reference's log-sum-exp, as the core's. -/
theorem v40 : val_main_v40 (F := Ideal) x = lses (scores (val_main_v3 (F := Ideal) x) (val_main_v5 (F := Ideal) x) (val_main_v16 (F := Ideal)) (val_main_v20 (F := Ideal))) := rfl

/-- The reference's first result is the formula's. -/
theorem result : val_main_v41 (F := Ideal) x = Ker2.GO x := by
  funext y
  obtain ⟨b, n, l, rfl⟩ : ∃ (b : Fin 4) (n : Fin 512) (l : Fin 4096), y = ix3 b n l := ⟨y 0, y 1, y 2, by blk_ext⟩
  refine Eq.trans (b := val_main_v35 (F := Ideal) x (ix4 b (⟨n.val * 16 + l.val / 256, by omega⟩ : Fin 8192) (⟨l.val / 64 % 4, by omega⟩ : Fin 4) (⟨l.val % 64, by omega⟩ : Fin 64))) ?_ ?_
  · unfold val_main_v41
    generalize val_main_v35 (F := Ideal) x = Y
    pointwise []
  · rw [v35, outs_spec x 16 (by decide) 2 _ _ _ _ _ (query x) (key x) (value x) pos clip]
    exact specO_congr x 16 2 rfl rfl (by show l.val / 64 % 4 * 64 + l.val % 64 = l.val % 256; omega)

/-- The reference's second result is the formula's. -/
theorem logsum : val_main_v42 (F := Ideal) x = Ker2.GLse x := by
  funext y
  obtain ⟨b, n, l, rfl⟩ : ∃ (b : Fin 4) (n : Fin 512) (l : Fin 4096), y = ix3 b n l := ⟨y 0, y 1, y 2, by blk_ext⟩
  refine Eq.trans (b := val_main_v40 (F := Ideal) x (ix4 b (⟨n.val * 16 + l.val / 256, by omega⟩ : Fin 8192) (⟨l.val / 64 % 4, by omega⟩ : Fin 4) (⟨l.val % 64, by omega⟩ : Fin 64))) ?_ ?_
  · unfold val_main_v42
    generalize val_main_v40 (F := Ideal) x = Y
    pointwise []
  · rw [v40, lses_spec x 16 (by decide) 2 _ _ _ _ (query x) (key x) pos clip]
    exact specL_congr x 16 2 rfl rfl (by show l.val / 64 % 4 * 64 + l.val % 64 = l.val % 256; omega)

end Cert.Band.Ref2

end
-- ==== Proof.Ffn.Math.lean ====
/- The feed-forward block and the gated embedding of one token, row by row, over the extended reals. -/
module

public import Idealize.ShloMosaic.Lib.Pipeline.ValueKit
public import Idealize.ShloMosaic.PureOps.Ideal.Laws

@[expose] public section

set_option maxRecDepth 16384

noncomputable section

namespace Cert.FeedForward

open Idealize.ShloMosaic

/-- A row divided by its root mean square, times a gain. -/
def nrm (x g : Fin 1024 → EReal) (k : Fin 1024) : EReal :=
  x k * Ideal.rsqrt (Ideal.div (∑ j, x j * x j) (Ideal.ofBits FTy.f32 1149239296#32) + Ideal.ofBits FTy.f32 897988541#32) * g k

/-- A row times a matrix. -/
def mv {n p : ℕ} (x : Fin n → EReal) (w : Fin n → Fin p → EReal) (k : Fin p) : EReal := ∑ i, x i * w i k

/-- The square of the positive part. -/
def sq {n : ℕ} (x : Fin n → EReal) (k : Fin n) : EReal := max (x k) 0 * max (x k) 0

/-- The two feed-forward products with the squared positive part between. -/
def ff (f : Fin 1024 → EReal) (w1 : Fin 1024 → Fin 4096 → EReal) (w2 : Fin 4096 → Fin 1024 → EReal) : Fin 1024 → EReal :=
  mv (sq (mv f w1)) w2

/-- The row after the feed-forward block. -/
def mid (h g1 : Fin 1024 → EReal) (w1 : Fin 1024 → Fin 4096 → EReal) (w2 : Fin 4096 → Fin 1024 → EReal) (g2 : Fin 1024 → EReal)
    (k : Fin 1024) : EReal :=
  h k + nrm (ff (nrm h g1) w1 w2) g2 k

/-- The embedding's row, gated. -/
def gated (e h : Fin 1024 → EReal) (wg : Fin 1024 → Fin 1024 → EReal) (k : Fin 1024) : EReal :=
  e k * Ideal.logistic (mv h wg k)

/-- The row after the gated embedding. -/
def last (h e : Fin 1024 → EReal) (wg : Fin 1024 → Fin 1024 → EReal) (g : Fin 1024 → EReal) (k : Fin 1024) : EReal :=
  h k + nrm (gated e h wg) g k

/-- A column of a chunk of 1024 hidden units. -/
def part (f : Fin 1024 → EReal) (w1 : Fin 1024 → Fin 4096 → EReal) (w2 : Fin 4096 → Fin 1024 → EReal) (s : Fin 4) (k : Fin 1024) : EReal :=
  mv (sq (mv f fun i (j : Fin 1024) => w1 i ⟨s.val * 1024 + j.val, by omega⟩)) (fun (j : Fin 1024) => w2 ⟨s.val * 1024 + j.val, by omega⟩) k

/-- The hidden units summed chunk by chunk. -/
theorem ff_chunks (f : Fin 1024 → EReal) (w1 : Fin 1024 → Fin 4096 → EReal) (w2 : Fin 4096 → Fin 1024 → EReal) (k : Fin 1024) :
    part f w1 w2 0 k + part f w1 w2 1 k + part f w1 w2 2 k + part f w1 w2 3 k = ff f w1 w2 k := by
  rw [← Fin.sum_univ_four (fun s => part f w1 w2 s k)]
  exact Fin.sum_mul_add_fin 4 1024 (fun j : Fin 4096 => sq (mv f w1) j * w2 j k)

end Cert.FeedForward

end
-- ==== Proof.Ffn.Ker.lean ====
/- The feed-forward kernel: what it stores for a token is the token's formula, so its array is the formula's. -/
module

public import proofs.«01_k».proof.Proof.Ffn.Math
public import proofs.«01_k».proof.Proof.Gen.FfnIdeal.Value
public import Idealize.ShloMosaic.Lib.Claim

@[expose] public section

set_option maxRecDepth 16384

noncomputable section

namespace Cert.FeedForward.Ker

open Cert.FfnIdeal Cert.FfnIdeal.Gen Idealize.ShloMosaic Idealize.ShloMosaic.TcCoe Idealize.SL.Sem
open Idealize.ShloMosaic.Pipeline (Dat)

/-- A whole load is the block. -/
theorem ld_whole {a b : ℕ} {φ : EltTy} (x : Vec Ideal ⟨2, ![a, b]⟩ φ) (inb) :
    View.ld x (Rect.unit (s := ⟨2, ![a, b]⟩) ![0, 0] ![a, b] inb) = x := by
  funext y
  refine View.ld_unit_apply_of x _ _ _ _ _ fun d => ?_
  match d with
  | ⟨0, _⟩ => exact (Nat.zero_add _).symm
  | ⟨1, _⟩ => exact (Nat.zero_add _).symm

/-- A chunk of columns of the first weights. -/
theorem ld_cols (x : Vec Ideal S1024x4096 .bf16) (off : ℕ) (inb) (i j : Fin 1024) (c : Fin 4096) (h : c.val = off + j.val) :
    View.ld x (Rect.unit (s := S1024x4096) ![0, off] S1024x1024.size inb) (ix2 i j) = x (ix2 i c) := by
  refine View.ld_unit_apply_of x _ _ _ _ _ fun d => ?_
  match d with
  | ⟨0, _⟩ => exact (Nat.zero_add _).symm
  | ⟨1, _⟩ => exact h

/-- A chunk of rows of the second weights. -/
theorem ld_rows (x : Vec Ideal S4096x1024 .bf16) (off : ℕ) (inb) (i j : Fin 1024) (c : Fin 4096) (h : c.val = off + i.val) :
    View.ld x (Rect.unit (s := S4096x1024) ![off, 0] S1024x1024.size inb) (ix2 i j) = x (ix2 c j) := by
  refine View.ld_unit_apply_of x _ _ _ _ _ fun d => ?_
  match d with
  | ⟨0, _⟩ => exact h
  | ⟨1, _⟩ => exact (Nat.zero_add _).symm

/-- The normalized block at a row. -/
theorem pay2_apply (x : Vec Ideal S512x1024 .f32) (g : Vec Ideal S1x1024 .f32) (r : Fin 512) (k : Fin 1024) :
    k0_pay2 x g (ix2 r k) = nrm (fun k => x (ix2 r k)) (fun k => g (ix2 0 k)) k := by
  pointwise [k0_pay2]
  rfl

/-- The first two chunks' sum at a row. -/
theorem pay3_apply (x : Vec Ideal S512x1024 .f32) (g : Vec Ideal S1x1024 .f32) (a b c d : Vec Ideal S1024x1024 .bf16) (r : Fin 512) (k : Fin 1024) :
    k0_pay3 x g a b c d (ix2 r k)
      = mv (sq (mv (fun k => k0_pay2 x g (ix2 r k)) fun i j => a (ix2 i j))) (fun i j => b (ix2 i j)) k
        + mv (sq (mv (fun k => k0_pay2 x g (ix2 r k)) fun i j => c (ix2 i j))) (fun i j => d (ix2 i j)) k := by
  unfold k0_pay3
  generalize k0_pay2 x g = f
  pointwise []
  rfl

/-- The running sum with the last two chunks. -/
def sums (f : FVec Ideal S512x1024 .bf16) (v : FVec Ideal S512x1024 .f32) (a b c d : Vec Ideal S1024x1024 .bf16) (r : Fin 512) (k : Fin 1024) : EReal :=
  v (ix2 r k) + mv (sq (mv (fun k => f (ix2 r k)) fun i j => a (ix2 i j))) (fun i j => b (ix2 i j)) k
    + mv (sq (mv (fun k => f (ix2 r k)) fun i j => c (ix2 i j))) (fun i j => d (ix2 i j)) k

/-- The block after the feed-forward at a row. -/
theorem pay4_apply (x : Vec Ideal S512x1024 .f32) (f : FVec Ideal S512x1024 .bf16) (v : FVec Ideal S512x1024 .f32) (a b c d : Vec Ideal S1024x1024 .bf16)
    (g : Vec Ideal S1x1024 .f32) (r : Fin 512) (k : Fin 1024) :
    k0_pay4 x f v a b c d g (ix2 r k) = x (ix2 r k) + nrm (sums f v a b c d r) (fun k => g (ix2 0 k)) k := by
  pointwise [k0_pay4]
  rfl

/-- The embedding's product at a row. -/
theorem pay5_apply (p : Vec Ideal S512x256 .f32) (w : Vec Ideal S256x1024 .bf16) (r : Fin 512) (k : Fin 1024) :
    k0_pay5 p w (ix2 r k) = mv (fun k => p (ix2 r k)) (fun i j => w (ix2 i j)) k := by
  pointwise [k0_pay5]
  rfl

/-- The stored block at a row. -/
theorem pay1_apply (h e : FVec Ideal S512x1024 .f32) (hb : FVec Ideal S512x1024 .bf16) (w : Vec Ideal S1024x1024 .bf16) (g : Vec Ideal S1x1024 .f32)
    (hh : ∀ r k, hb (ix2 r k) = h (ix2 r k)) (r : Fin 512) (k : Fin 1024) :
    k0_pay1 h e hb w g (ix2 r k) = last (fun k => h (ix2 r k)) (fun k => e (ix2 r k)) (fun i j => w (ix2 i j)) (fun k => g (ix2 0 k)) k := by
  pointwise [k0_pay1]
  simp only [hh]
  rfl

/-- A row's formula from the blocks. -/
theorem out_apply (x0 : Vec Ideal S512x1024 .f32) (x1 : Vec Ideal S512x256 .f32) (x2 : Vec Ideal S1x1024 .f32) (x3 : Vec Ideal S1024x4096 .bf16)
    (x4 : Vec Ideal S4096x1024 .bf16) (x5 : Vec Ideal S1x1024 .f32) (x6 : Vec Ideal S256x1024 .bf16) (x7 : Vec Ideal S1024x1024 .bf16)
    (x8 : Vec Ideal S1x1024 .f32) (r : Fin 512) (k : Fin 1024) :
    out0_9 x0 x1 x2 x3 x4 x5 x6 x7 x8 (ix2 r k)
      = last (mid (fun k => x0 (ix2 r k)) (fun k => x2 (ix2 0 k)) (fun i j => x3 (ix2 i j)) (fun i j => x4 (ix2 i j)) (fun k => x5 (ix2 0 k)))
          (mv (fun k => x1 (ix2 r k)) fun i j => x6 (ix2 i j)) (fun i j => x7 (ix2 i j)) (fun k => x8 (ix2 0 k)) k := by
  unfold_out out0_9
  have h4 : ∀ r : Fin 512, sums (k0_pay2 x0 x2) (k0_pay3 x0 x2 (View.ld x3 r0_2) (View.ld x4 r0_3) (View.ld x3 r0_4) (View.ld x4 r0_5))
      (View.ld x3 r0_6) (View.ld x4 r0_7) (View.ld x3 r0_8) (View.ld x4 r0_9) r
      = ff (nrm (fun k => x0 (ix2 r k)) (fun k => x2 (ix2 0 k))) (fun i j => x3 (ix2 i j)) (fun i j => x4 (ix2 i j)) := by
    intro r
    funext k
    rw [← ff_chunks]
    unfold sums
    rw [pay3_apply]
    simp only [pay2_apply]
    have hc : ∀ (s : Fin 4) (i : Fin 1024) (j : Fin 1024) (off : ℕ) (inb), off = s.val * 1024 →
        View.ld x3 (Rect.unit (s := S1024x4096) ![0, off] S1024x1024.size inb) (ix2 i j) = x3 (ix2 i ⟨s.val * 1024 + j.val, by omega⟩) :=
      fun s i j off inb e => ld_cols x3 off inb i j _ (by rw [e])
    have hr : ∀ (s : Fin 4) (i : Fin 1024) (j : Fin 1024) (off : ℕ) (inb), off = s.val * 1024 →
        View.ld x4 (Rect.unit (s := S4096x1024) ![off, 0] S1024x1024.size inb) (ix2 i j) = x4 (ix2 ⟨s.val * 1024 + i.val, by omega⟩ j) :=
      fun s i j off inb e => ld_rows x4 off inb i j _ (by rw [e])
    simp only [hc 0 _ _ 0 _ rfl, hc 1 _ _ 1024 _ rfl, hc 2 _ _ 2048 _ rfl, hc 3 _ _ 3072 _ rfl,
      hr 0 _ _ 0 _ rfl, hr 1 _ _ 1024 _ rfl, hr 2 _ _ 2048 _ rfl, hr 3 _ _ 3072 _ rfl]
    rfl
  have w0 : View.ld x0 r0_0 = x0 := ld_whole x0 _
  have w1 : View.ld x1 r0_10 = x1 := ld_whole x1 _
  have w2 : View.ld x2 r0_1 = x2 := ld_whole x2 _
  have w5 : View.ld x5 r0_1 = x5 := ld_whole x5 _
  have w6 : View.ld x6 r0_11 = x6 := ld_whole x6 _
  have w7 : View.ld x7 r0_12 = x7 := ld_whole x7 _
  have w8 : View.ld x8 r0_1 = x8 := ld_whole x8 _
  simp only [w0, w1, w2, w5, w6, w7, w8]
  canon_tiles x h
  obtain rfl : x = ix2 r k := by
    funext d
    match d with
    | ⟨0, _⟩ => exact Fin.ext h0.symm
    | ⟨1, _⟩ => exact Fin.ext h1.symm
  refine (pay1_apply _ _ _ _ _ ?_ r k).trans ?_
  · exact fun r k => rfl
  simp only [pay4_apply, pay5_apply, h4]
  rfl

variable (m : (ℓ : Loc nD τ sig) → Buf (Elt Ideal) ℓ)

/-- The layer's row formula over the call's arrays. -/
def G (h : FVec Ideal S32768x1024 .f32) (p : FVec Ideal S32768x256 .f32) (g1 : FVec Ideal S1x1024 .f32) (w1 : FVec Ideal S1024x4096 .bf16)
    (w2 : FVec Ideal S4096x1024 .bf16) (g2 : FVec Ideal S1x1024 .f32) (wp : FVec Ideal S256x1024 .bf16) (wg : FVec Ideal S1024x1024 .bf16)
    (g3 : FVec Ideal S1x1024 .f32) : FVec Ideal S32768x1024 .f32 := fun y =>
  last (mid (fun k => h (ix2 (y 0) k)) (fun k => g1 (ix2 0 k)) (fun i j => w1 (ix2 i j)) (fun i j => w2 (ix2 i j)) (fun k => g2 (ix2 0 k)))
    (mv (fun k => p (ix2 (y 0) k)) fun i j => wp (ix2 i j)) (fun i j => wg (ix2 i j)) (fun k => g3 (ix2 0 k)) (y 1)

/-- Which block each window holds at a grid point. -/
theorem idx : ∀ t : Fin cfg0.N,
    win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![t.val, 0] :=
  (by decide +kernel : ∀ t : Fin grid0.N, _)

/-- The formula over the memory's arrays. -/
abbrev GM (c : Dev nD) : FVec Ideal S32768x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The kernel's result array. -/
theorem final (c : Dev nD) : (dats m 0 c).arrAt 9 cfg0.N = GM m c := by
  refine (dats m 0 c).arrAt_eq_of_covers 9 _ (by decide +kernel) fun t _ y => ?_
  have ht : t.val < 64 := lt_of_lt_of_eq t.isLt (by decide +kernel)
  blk_simp
  rw [after0_9]
  obtain ⟨r, k, rfl⟩ : ∃ (r : Fin 512) (k : Fin 1024), y = ix2 r k := ⟨y 0, y 1, by blk_ext⟩
  rw [out_apply]
  have hR : t.val * 512 + r.val < 32768 := by omega
  have e0 : ∀ k : Fin 1024, iblk m c 0 t (ix2 r k) = m ((c : Thread nD τ).loc main_arg0) (ix2 (⟨t.val * 512 + r.val, hR⟩ : Fin 32768) k) := by
    intro k; blk_point [iblk, V, idx t]
  have e1 : ∀ k : Fin 256, iblk m c 1 t (ix2 r k) = m ((c : Thread nD τ).loc main_arg1) (ix2 (⟨t.val * 512 + r.val, hR⟩ : Fin 32768) k) := by
    intro k; blk_point [iblk, V, idx t]
  have e2 : ∀ k : Fin 1024, iblk m c 2 t (ix2 0 k) = m ((c : Thread nD τ).loc main_arg2) (ix2 0 k) := by
    intro k; blk_point [iblk, V, idx t]
  have e3 : ∀ i j, iblk m c 3 t (ix2 i j) = m ((c : Thread nD τ).loc main_arg3) (ix2 i j) := by
    intro i j; blk_point [iblk, V, idx t]
  have e4 : ∀ i j, iblk m c 4 t (ix2 i j) = m ((c : Thread nD τ).loc main_arg4) (ix2 i j) := by
    intro i j; blk_point [iblk, V, idx t]
  have e5 : ∀ k : Fin 1024, iblk m c 5 t (ix2 0 k) = m ((c : Thread nD τ).loc main_arg5) (ix2 0 k) := by
    intro k; blk_point [iblk, V, idx t]
  have e6 : ∀ i j, iblk m c 6 t (ix2 i j) = m ((c : Thread nD τ).loc main_arg6) (ix2 i j) := by
    intro i j; blk_point [iblk, V, idx t]
  have e7 : ∀ i j, iblk m c 7 t (ix2 i j) = m ((c : Thread nD τ).loc main_arg7) (ix2 i j) := by
    intro i j; blk_point [iblk, V, idx t]
  have e8 : ∀ k : Fin 1024, iblk m c 8 t (ix2 0 k) = m ((c : Thread nD τ).loc main_arg8) (ix2 0 k) := by
    intro k; blk_point [iblk, V, idx t]
  have ey : ((View.whole main_v0).slice (win0_9.rect t)).emb (ix2 r k) = ix2 (⟨t.val * 512 + r.val, hR⟩ : Fin 32768) k := by
    blk_ext
    · rw [(idx t).2.2.2.2.2.2.2.2.2]; rfl
    · rw [(idx t).2.2.2.2.2.2.2.2.2]; exact Nat.zero_add _
  simp only [e0, e1, e2, e3, e4, e5, e6, e7, e8]
  exact (congrArg (GM m c) ey).symm

end Cert.FeedForward.Ker

end
-- ==== Proof.Ffn.Ref.lean ====
/- The reference of the feed-forward call, read at an element: the token's formula. -/
module

public import proofs.«01_k».proof.Proof.Ffn.Ker
public import proofs.«01_k».proof.Proof.Gen.RefFfnIdeal.Run
public import proofs.«01_k».proof.Proof.Gen.RefFfnIdeal.Read

@[expose] public section

set_option maxRecDepth 16384

noncomputable section

namespace Cert.FeedForward.Ref

open Cert.RefFfnIdeal Cert.RefFfnIdeal.Read Idealize.ShloMosaic Idealize.ShloMosaic.TcCoe

variable (x0 : FVec Ideal S32768x1024 .f32) (x1 : FVec Ideal S32768x256 .f32) (x2 : FVec Ideal S1x1024 .f32) (x3 : FVec Ideal S1024x4096 .bf16)
  (x4 : FVec Ideal S4096x1024 .bf16) (x5 : FVec Ideal S1x1024 .f32) (x6 : FVec Ideal S256x1024 .bf16) (x7 : FVec Ideal S1024x1024 .bf16)
  (x8 : FVec Ideal S1x1024 .f32)

/-- The first normalization. -/
theorem v11 (r : Fin 32768) (k : Fin 1024) :
    val_main_v11 (F := Ideal) x0 x2 (ix2 r k) = nrm (fun k => x0 (ix2 r k)) (fun k => x2 (ix2 0 k)) k := by
  pointwise [val_main_v11, val_main_v10, val_main_v9, val_main_v8, val_main_v7, val_main_v6, val_main_v5, val_main_cst_1, val_main_v4,
    val_main_v3, val_main_cst_0, val_main_v2, val_main_v1, val_main_cst, val_main_v0]
  rfl

/-- The two products with the squared positive part between. -/
theorem v17 (r : Fin 32768) (k : Fin 1024) :
    val_main_v17 (F := Ideal) x0 x2 x3 x4 (ix2 r k)
      = ff (fun k => val_main_v11 (F := Ideal) x0 x2 (ix2 r k)) (fun i j => x3 (ix2 i j)) (fun i j => x4 (ix2 i j)) k := by
  unfold val_main_v17 val_main_v16 val_main_v15 val_main_v14 val_main_call0_v0 val_main_call0_cst val_main_v13 val_main_v12
  generalize val_main_v11 (F := Ideal) x0 x2 = f
  pointwise []
  rfl

/-- The row after the feed-forward block. -/
theorem v30 (r : Fin 32768) (k : Fin 1024) :
    val_main_v30 (F := Ideal) x0 x2 x3 x4 x5 (ix2 r k)
      = x0 (ix2 r k) + nrm (fun k => val_main_v17 (F := Ideal) x0 x2 x3 x4 (ix2 r k)) (fun k => x5 (ix2 0 k)) k := by
  unfold val_main_v30 val_main_v29 val_main_v28 val_main_v27 val_main_v26 val_main_v25 val_main_v24 val_main_v23 val_main_cst_4 val_main_v22
    val_main_v21 val_main_cst_3 val_main_v20 val_main_v19 val_main_cst_2 val_main_v18
  generalize val_main_v17 (F := Ideal) x0 x2 x3 x4 = f
  pointwise []
  rfl

/-- The gated embedding. -/
theorem v41 (r : Fin 32768) (k : Fin 1024) :
    val_main_v41 (F := Ideal) x0 x1 x2 x3 x4 x5 x6 x7 (ix2 r k)
      = gated (mv (fun k => x1 (ix2 r k)) fun i j => x6 (ix2 i j)) (fun k => val_main_v30 (F := Ideal) x0 x2 x3 x4 x5 (ix2 r k)) (fun i j => x7 (ix2 i j)) k := by
  unfold val_main_v41 val_main_v40 val_main_v39 val_main_cst_6 val_main_v38 val_main_v37 val_main_cst_5 val_main_v36 val_main_v35 val_main_v34
    val_main_v33 val_main_v32 val_main_v31
  generalize val_main_v30 (F := Ideal) x0 x2 x3 x4 x5 = f
  pointwise []
  rfl

/-- The result. -/
theorem v54 (r : Fin 32768) (k : Fin 1024) :
    val_main_v54 (F := Ideal) x0 x1 x2 x3 x4 x5 x6 x7 x8 (ix2 r k)
      = val_main_v30 (F := Ideal) x0 x2 x3 x4 x5 (ix2 r k)
        + nrm (fun k => val_main_v41 (F := Ideal) x0 x1 x2 x3 x4 x5 x6 x7 (ix2 r k)) (fun k => x8 (ix2 0 k)) k := by
  unfold val_main_v54 val_main_v53 val_main_v52 val_main_v51 val_main_v50 val_main_v49 val_main_v48 val_main_v47 val_main_cst_9 val_main_v46
    val_main_v45 val_main_cst_8 val_main_v44 val_main_v43 val_main_cst_7 val_main_v42
  generalize val_main_v41 (F := Ideal) x0 x1 x2 x3 x4 x5 x6 x7 = e
  generalize val_main_v30 (F := Ideal) x0 x2 x3 x4 x5 = f
  pointwise []
  rfl

/-- The reference's array is the formula's. -/
theorem result : val_main_v54 (F := Ideal) x0 x1 x2 x3 x4 x5 x6 x7 x8 = Ker.G x0 x1 x2 x3 x4 x5 x6 x7 x8 := by
  funext y
  obtain ⟨r, k, rfl⟩ : ∃ (r : Fin 32768) (k : Fin 1024), y = ix2 r k := ⟨y 0, y 1, by blk_ext⟩
  rw [v54]
  simp only [v41, v30, v17, v11]
  rfl

end Cert.FeedForward.Ref

end
-- ==== Proof.Inp.Math.lean ====
/- The projection of one token and its neighbour, column by column, over the extended reals. -/
module

public import proofs.«01_k».proof.Proof.Ffn.Math

@[expose] public section

set_option maxRecDepth 16384

noncomputable section

namespace Cert.Projection

open Idealize.ShloMosaic Cert.FeedForward

/-- A row of heads turned by the lane tables: a lane times its first entry plus its partner in the other half of the head times its second. -/
def turn (z : Fin 1536 → EReal) (co si : Fin 128 → EReal) (j : Fin 1536) : EReal :=
  z j * co ⟨j.val % 128, Nat.mod_lt _ (by decide)⟩
    + (if h : j.val % 64 < 32 then z ⟨j.val + 32, by omega⟩ else z ⟨j.val - 32, by omega⟩) * si ⟨j.val % 128, Nat.mod_lt _ (by decide)⟩

/-- A value moved towards its neighbour's. -/
def lerp (z p mu : EReal) : EReal := z + (p - z) * mu

/-- The angle of position `s` at frequency `d`: the position times `10000` to the power `-2 d / 64`. -/
def ang (s d : ℕ) : EReal :=
  (FloatOps.sitofp (F := Ideal) .f32 (BitVec.ofNat 32 s) : EReal) * Ideal.pow (Ideal.ofBits .f32 1176256512#32)
    (Ideal.div (-(Ideal.ofBits .f32 1073741824#32 * (FloatOps.sitofp (F := Ideal) .f32 (BitVec.ofNat 32 d) : EReal))) (Ideal.ofBits .f32 1115684864#32))

/-- The cosine of position `s` at frequency `d`. -/
def cs (s : Fin 8192) (d : Fin 32) : EReal := Ideal.cos (ang s.val d.val)

/-- The sine of position `s` at frequency `d`. -/
def sn (s : Fin 8192) (d : Fin 32) : EReal := Ideal.sin (ang s.val d.val)

/-- The factor of the scores: one eighth. -/
def c8 : EReal := Ideal.ofBits .f32 1040187392#32

/-- One lane of a head, rotated with its partner in the other half of the head. -/
def rot (z : Fin 1536 → EReal) (co si : Fin 32 → EReal) (j : Fin 1536) : EReal :=
  if h : j.val % 64 < 32 then z j * co ⟨j.val % 64, h⟩ - z ⟨j.val + 32, by omega⟩ * si ⟨j.val % 64, h⟩
  else z j * co ⟨j.val % 64 - 32, by omega⟩ + z ⟨j.val - 32, by omega⟩ * si ⟨j.val % 64 - 32, by omega⟩

/-- The three parts of the attention columns: queries rotated and scaled, keys rotated, values as they are. -/
def heads (z : Fin 6048 → EReal) (co si : Fin 32 → EReal) (j : Fin 2304) : EReal :=
  if h : j.val < 1536 then
    if j.val < 768 then rot (fun l => z ⟨l.val, by omega⟩) co si ⟨j.val, h⟩ * c8 else rot (fun l => z ⟨l.val, by omega⟩) co si ⟨j.val, h⟩
  else z ⟨j.val, by omega⟩

/-- Three narrow rows (32, 32 and 96 columns), each in a slot of 128 columns whose rest is zero. -/
def slots (z : Fin 160 → EReal) (j : Fin 384) : EReal :=
  if h : j.val < 128 then if h' : j.val < 32 then z ⟨j.val, by omega⟩ else 0
  else if h1 : j.val < 256 then if h' : j.val - 128 < 32 then z ⟨32 + (j.val - 128), by omega⟩ else 0
  else if h' : j.val - 256 < 96 then z ⟨64 + (j.val - 256), by omega⟩ else 0

/-- The cosines of a position, tiled over the 128 lanes of two heads. -/
def coT (s : Fin 8192) (l : Fin 128) : EReal := cs s ⟨l.val % 32, Nat.mod_lt _ (by decide)⟩

/-- The sines of a position, tiled over the 128 lanes of two heads, negated in the first half of each head. -/
def siT (s : Fin 8192) (l : Fin 128) : EReal :=
  if l.val % 64 < 32 then -sn s ⟨l.val % 32, Nat.mod_lt _ (by decide)⟩ else sn s ⟨l.val % 32, Nat.mod_lt _ (by decide)⟩

/-- A row of 384 columns is three narrow rows in slots when each of its slots is. -/
theorem slots_of (z : Fin 160 → EReal) (f : Fin 384 → EReal) (h0 : ∀ l : Fin 128, f ⟨l.val, by omega⟩ = if h : l.val < 32 then z ⟨l.val, by omega⟩ else 0)
    (h1 : ∀ l : Fin 128, f ⟨128 + l.val, by omega⟩ = if h : l.val < 32 then z ⟨32 + l.val, by omega⟩ else 0)
    (h2 : ∀ l : Fin 128, f ⟨256 + l.val, by omega⟩ = if h : l.val < 96 then z ⟨64 + l.val, by omega⟩ else 0) (j : Fin 384) : f j = slots z j := by
  have en : ∀ (n n' : ℕ) (h h'), n = n' → f ⟨n, h⟩ = f ⟨n', h'⟩ := by
    intro n n' h h' q; subst q; rfl
  unfold slots
  by_cases a : j.val < 128
  · rw [dif_pos a]; exact h0 ⟨j.val, a⟩
  · rw [dif_neg a]
    by_cases b : j.val < 256
    · rw [dif_pos b]; exact (en _ _ _ _ (by simp only []; omega)).trans (h1 ⟨j.val - 128, by omega⟩)
    · rw [dif_neg b]; exact (en _ _ _ _ (by simp only []; omega)).trans (h2 ⟨j.val - 256, by omega⟩)

/-- A token's projected columns: its normalized row times the weights. -/
def cols (x : Fin 4 → Fin 8192 → Fin 1024 → EReal) (g : Fin 1024 → EReal) (w : Fin 1024 → Fin 6048 → EReal) (b : Fin 4) (s : Fin 8192) : Fin 6048 → EReal :=
  mv (nrm (x b s) g) w

/-- A column moved towards the row before it, which is zero at the first row. -/
def shifted (z : Fin 8192 → Fin 6048 → EReal) (mu : Fin 1696 → EReal) (s : Fin 8192) (j : Fin 1696) : EReal :=
  lerp (z s ⟨2304 + j.val, by omega⟩) (if h : 1 ≤ s.val then z ⟨s.val - 1, by omega⟩ ⟨2304 + j.val, by omega⟩ else 0) (mu j)

end Cert.Projection

end
-- ==== Proof.Inp.RefA.lean ====
/- The reference of the projection call, read at an element. -/
module

public import proofs.«01_k».proof.Proof.Inp.Math
public import proofs.«01_k».proof.Proof.Gen.RefInpIdeal.Run
public import proofs.«01_k».proof.Proof.Gen.RefInpIdeal.Read
public import Idealize.ShloMosaic.Lib.Claim

@[expose] public section

set_option maxRecDepth 16384

noncomputable section

namespace Cert.Projection.Ref

open Cert.RefInpIdeal Cert.RefInpIdeal.Read Idealize.ShloMosaic Idealize.ShloMosaic.TcCoe Cert.FeedForward

variable (x0 : FVec Ideal S4x8192x1024 .f32) (x1 : FVec Ideal S1024 .f32) (x2 : FVec Ideal S1024x6048 .f32) (x3 : FVec Ideal S1696 .f32)

/-- The cosines of the queries. -/
theorem v37 (s : Fin 8192) (d : Fin 32) : val_main_v37 (F := Ideal) (ix4 s 0 0 d) = cs s d := by
  pointwise [val_main_v37, val_main_v36, val_main_v35, val_main_v34, val_main_v33, val_main_v32, val_main_v31, val_main_v30, val_main_v29,
    val_main_cst_5, val_main_v28, val_main_v27, val_main_cst_4, val_main_v26, val_main_v25, val_main_v24, val_main_cst_3, val_main_v23, val_main_v22, val_main_cst_2, val_main_v21, val_main_v18]
  rfl

/-- The sines of the queries. -/
theorem v38 (s : Fin 8192) (d : Fin 32) : val_main_v38 (F := Ideal) (ix4 s 0 0 d) = sn s d := by
  pointwise [val_main_v38, val_main_v36, val_main_v35, val_main_v34, val_main_v33, val_main_v32, val_main_v31, val_main_v30, val_main_v29,
    val_main_cst_5, val_main_v28, val_main_v27, val_main_cst_4, val_main_v26, val_main_v25, val_main_v24, val_main_cst_3, val_main_v23, val_main_v22, val_main_cst_2, val_main_v21, val_main_v18]
  rfl

/-- The cosines of the keys. -/
theorem v76 (s : Fin 8192) (d : Fin 32) : val_main_v76 (F := Ideal) (ix4 s 0 0 d) = cs s d := by
  pointwise [val_main_v76, val_main_v75, val_main_v74, val_main_v73, val_main_v72, val_main_v71, val_main_v70, val_main_v69, val_main_v68,
    val_main_v67, val_main_v66, val_main_v65, val_main_v64, val_main_v63, val_main_v62, val_main_v61, val_main_v60, val_main_cst_7, val_main_cst_8, val_main_cst_9, val_main_cst_10, val_main_v18]
  rfl

/-- The sines of the keys. -/
theorem v77 (s : Fin 8192) (d : Fin 32) : val_main_v77 (F := Ideal) (ix4 s 0 0 d) = sn s d := by
  pointwise [val_main_v77, val_main_v75, val_main_v74, val_main_v73, val_main_v72, val_main_v71, val_main_v70, val_main_v69, val_main_v68,
    val_main_v67, val_main_v66, val_main_v65, val_main_v64, val_main_v63, val_main_v62, val_main_v61, val_main_v60, val_main_cst_7, val_main_cst_8, val_main_cst_9, val_main_cst_10, val_main_v18]
  rfl

/-- The query columns, head by head. -/
theorem v20 (b : Fin 4) (s : Fin 8192) (g : Fin 3) (h : Fin 4) (d : Fin 64) :
    val_main_v20 (F := Ideal) x0 x1 x2 (ix5 b s g h d) = val_main_v13 (F := Ideal) x0 x1 x2 (ix3 b s ⟨g.val * 256 + h.val * 64 + d.val, by omega⟩) := by
  unfold val_main_v20 val_main_v19 val_main_v17 val_main_v14
  generalize val_main_v13 (F := Ideal) x0 x1 x2 = f
  pointwise []

/-- The key columns, head by head. -/
theorem v59 (b : Fin 4) (s : Fin 8192) (g : Fin 3) (h : Fin 4) (d : Fin 64) :
    val_main_v59 (F := Ideal) x0 x1 x2 (ix5 b s g h d) = val_main_v13 (F := Ideal) x0 x1 x2 (ix3 b s ⟨768 + (g.val * 256 + h.val * 64 + d.val), by omega⟩) := by
  unfold val_main_v59 val_main_v58 val_main_v17 val_main_v14
  generalize val_main_v13 (F := Ideal) x0 x1 x2 = f
  pointwise []
  exact congrArg (fun n => f (ix3 b s n)) (Fin.ext (by simp only []; omega))

/-- The value columns, head by head. -/
theorem v96 (b : Fin 4) (s : Fin 8192) (g : Fin 3) (h : Fin 4) (d : Fin 64) :
    val_main_v96 (F := Ideal) x0 x1 x2 (ix5 b s g h d) = val_main_v13 (F := Ideal) x0 x1 x2 (ix3 b s ⟨1536 + (g.val * 256 + h.val * 64 + d.val), by omega⟩) := by
  unfold val_main_v96 val_main_v95 val_main_v17 val_main_v14
  generalize val_main_v13 (F := Ideal) x0 x1 x2 = f
  pointwise []
  exact congrArg (fun n => f (ix3 b s n)) (Fin.ext (by simp only []; omega))

end Cert.Projection.Ref

end
-- ==== Proof.Inp.RefB.lean ====
/- The reference of the projection call, read at an element. -/
module

public import proofs.«01_k».proof.Proof.Inp.RefA
public import proofs.«01_k».proof.Proof.Gen.RefInpIdeal.Run
public import proofs.«01_k».proof.Proof.Gen.RefInpIdeal.Read
public import Idealize.ShloMosaic.Lib.Claim

@[expose] public section

set_option maxRecDepth 16384

noncomputable section

namespace Cert.Projection.Ref

open Cert.RefInpIdeal Cert.RefInpIdeal.Read Idealize.ShloMosaic Idealize.ShloMosaic.TcCoe Cert.FeedForward

variable (x0 : FVec Ideal S4x8192x1024 .f32) (x1 : FVec Ideal S1024 .f32) (x2 : FVec Ideal S1024x6048 .f32) (x3 : FVec Ideal S1696 .f32)

variable (b : Fin 4) (s : Fin 8192) (g : Fin 3) (h : Fin 4) (d : Fin 32)

/-- The first half of a head. -/
theorem first (f : FVec Ideal S4x8192x3x4x64 .f32) : f (idx_main_v39 (ix5 b s g h d)) = f (ix5 b s g h ⟨d.val, by omega⟩) :=
  congrArg f (funext fun a => match a with | ⟨0, _⟩ => rfl | ⟨1, _⟩ => rfl | ⟨2, _⟩ => rfl | ⟨3, _⟩ => rfl | ⟨4, _⟩ => rfl)

/-- The second half of a head. -/
theorem second (f : FVec Ideal S4x8192x3x4x64 .f32) : f (idx_main_v40 (ix5 b s g h d)) = f (ix5 b s g h ⟨32 + d.val, by omega⟩) :=
  congrArg f (funext fun a => match a with | ⟨0, _⟩ => rfl | ⟨1, _⟩ => rfl | ⟨2, _⟩ => rfl | ⟨3, _⟩ => rfl | ⟨4, _⟩ => rfl)

/-- The tables do not depend on the sequence, the group or the head. -/
theorem table (f : FVec Ideal S8192x1x1x32 .f32) : f (idx_main_v41 (idx_main_v42 (ix5 b s g h d))) = f (ix4 s 0 0 d) :=
  congrArg f (funext fun a => match a with | ⟨0, _⟩ => rfl | ⟨1, _⟩ => rfl | ⟨2, _⟩ => rfl | ⟨3, _⟩ => rfl)

/-- The first halves of the rotated queries. -/
theorem v47 : val_main_v47 (F := Ideal) x0 x1 x2 (ix5 b s g h d)
      = (val_main_v20 (F := Ideal) x0 x1 x2 (ix5 b s g h ⟨d.val, by omega⟩) * val_main_v37 (F := Ideal) (ix4 s 0 0 d)
        - val_main_v20 (F := Ideal) x0 x1 x2 (ix5 b s g h ⟨32 + d.val, by omega⟩) * val_main_v38 (F := Ideal) (ix4 s 0 0 d) : EReal) := by
  rw [val_main_v47_apply, val_main_v43_apply, val_main_v46_apply, val_main_v39_apply, val_main_v40_apply, val_main_v42_apply, val_main_v41_apply,
    val_main_v45_apply, val_main_v44_apply]
  generalize val_main_v20 (F := Ideal) x0 x1 x2 = f
  generalize val_main_v37 (F := Ideal) = co
  generalize val_main_v38 (F := Ideal) = si
  rw [← first b s g h d f, ← second b s g h d f, ← table b s g h d co, ← table b s g h d si]
  rfl

/-- The second halves of the rotated queries. -/
theorem v54 : val_main_v54 (F := Ideal) x0 x1 x2 (ix5 b s g h d)
      = (val_main_v20 (F := Ideal) x0 x1 x2 (ix5 b s g h ⟨32 + d.val, by omega⟩) * val_main_v37 (F := Ideal) (ix4 s 0 0 d)
        + val_main_v20 (F := Ideal) x0 x1 x2 (ix5 b s g h ⟨d.val, by omega⟩) * val_main_v38 (F := Ideal) (ix4 s 0 0 d) : EReal) := by
  rw [val_main_v54_apply, val_main_v50_apply, val_main_v53_apply, val_main_v39_apply, val_main_v40_apply, val_main_v49_apply, val_main_v48_apply,
    val_main_v52_apply, val_main_v51_apply]
  generalize val_main_v20 (F := Ideal) x0 x1 x2 = f
  generalize val_main_v37 (F := Ideal) = co
  generalize val_main_v38 (F := Ideal) = si
  rw [← first b s g h d f, ← second b s g h d f, ← table b s g h d co, ← table b s g h d si]
  rfl

/-- The first halves of the rotated keys. -/
theorem v86 : val_main_v86 (F := Ideal) x0 x1 x2 (ix5 b s g h d)
      = (val_main_v59 (F := Ideal) x0 x1 x2 (ix5 b s g h ⟨d.val, by omega⟩) * val_main_v76 (F := Ideal) (ix4 s 0 0 d)
        - val_main_v59 (F := Ideal) x0 x1 x2 (ix5 b s g h ⟨32 + d.val, by omega⟩) * val_main_v77 (F := Ideal) (ix4 s 0 0 d) : EReal) := by
  rw [val_main_v86_apply, val_main_v82_apply, val_main_v85_apply, val_main_v78_apply, val_main_v79_apply, val_main_v81_apply, val_main_v80_apply,
    val_main_v84_apply, val_main_v83_apply]
  generalize val_main_v59 (F := Ideal) x0 x1 x2 = f
  generalize val_main_v76 (F := Ideal) = co
  generalize val_main_v77 (F := Ideal) = si
  rw [← first b s g h d f, ← second b s g h d f, ← table b s g h d co, ← table b s g h d si]
  rfl

/-- The second halves of the rotated keys. -/
theorem v93 : val_main_v93 (F := Ideal) x0 x1 x2 (ix5 b s g h d)
      = (val_main_v59 (F := Ideal) x0 x1 x2 (ix5 b s g h ⟨32 + d.val, by omega⟩) * val_main_v76 (F := Ideal) (ix4 s 0 0 d)
        + val_main_v59 (F := Ideal) x0 x1 x2 (ix5 b s g h ⟨d.val, by omega⟩) * val_main_v77 (F := Ideal) (ix4 s 0 0 d) : EReal) := by
  rw [val_main_v93_apply, val_main_v89_apply, val_main_v92_apply, val_main_v78_apply, val_main_v79_apply, val_main_v88_apply, val_main_v87_apply,
    val_main_v91_apply, val_main_v90_apply]
  generalize val_main_v59 (F := Ideal) x0 x1 x2 = f
  generalize val_main_v76 (F := Ideal) = co
  generalize val_main_v77 (F := Ideal) = si
  rw [← first b s g h d f, ← second b s g h d f, ← table b s g h d co, ← table b s g h d si]
  rfl

end Cert.Projection.Ref

end
-- ==== Proof.Inp.RefC.lean ====
/- The reference of the projection call, read at an element. -/
module

public import proofs.«01_k».proof.Proof.Inp.RefA
public import proofs.«01_k».proof.Proof.Gen.RefInpIdeal.Run
public import proofs.«01_k».proof.Proof.Gen.RefInpIdeal.Read
public import Idealize.ShloMosaic.Lib.Claim

@[expose] public section

set_option maxRecDepth 16384

noncomputable section

namespace Cert.Projection.Ref

open Cert.RefInpIdeal Cert.RefInpIdeal.Read Idealize.ShloMosaic Idealize.ShloMosaic.TcCoe Cert.FeedForward

variable (x0 : FVec Ideal S4x8192x1024 .f32) (x1 : FVec Ideal S1024 .f32) (x2 : FVec Ideal S1024x6048 .f32) (x3 : FVec Ideal S1696 .f32)

/-- Two halves of heads put side by side: the first. -/
theorem halves_left (f g' : FVec Ideal S4x8192x3x4x32 .f32) (b : Fin 4) (s : Fin 8192) (g : Fin 3) (h : Fin 4) (d : Fin 64)
    (hc : Shape.Concatenates [S4x8192x3x4x32, S4x8192x3x4x32] S4x8192x3x4x64 4) (hd : d.val < 32) :
    concatenate S4x8192x3x4x64 4 [⟨S4x8192x3x4x32, f⟩, ⟨S4x8192x3x4x32, g'⟩] hc (ix5 b s g h d)
      = f (ix5 b s g h ⟨d.val, hd⟩) := by
  refine concatenate_pair_apply_left 4 f g' hc (ix5 b s g h d) rfl (ix5 b s g h ⟨d.val, hd⟩) fun a => ?_
  match a with
  | ⟨0, _⟩ => rfl
  | ⟨1, _⟩ => rfl
  | ⟨2, _⟩ => rfl
  | ⟨3, _⟩ => rfl
  | ⟨4, _⟩ => rfl

/-- Two halves of heads put side by side: the second. -/
theorem halves_right (f g' : FVec Ideal S4x8192x3x4x32 .f32) (b : Fin 4) (s : Fin 8192) (g : Fin 3) (h : Fin 4) (d : Fin 64)
    (hc : Shape.Concatenates [S4x8192x3x4x32, S4x8192x3x4x32] S4x8192x3x4x64 4) (hd : ¬ d.val < 32) :
    concatenate S4x8192x3x4x64 4 [⟨S4x8192x3x4x32, f⟩, ⟨S4x8192x3x4x32, g'⟩] hc (ix5 b s g h d)
      = g' (ix5 b s g h ⟨d.val - 32, by omega⟩) := by
  refine concatenate_pair_apply_right 4 f g' hc (ix5 b s g h d) rfl rfl (ix5 b s g h ⟨d.val - 32, by omega⟩) (fun a ha => ?_) (Nat.sub_add_cancel (Nat.le_of_not_lt hd))
  match a with
  | ⟨0, _⟩ => rfl
  | ⟨1, _⟩ => rfl
  | ⟨2, _⟩ => rfl
  | ⟨3, _⟩ => rfl
  | ⟨4, _⟩ => exact absurd rfl ha

/-- The three parts put one after the other. -/
theorem parts (x y z : FVec Ideal S4x8192x1x3x4x64 .f32) (b : Fin 4) (s : Fin 8192) (p : Fin 3) (g : Fin 3) (h : Fin 4) (d : Fin 64)
    (hc : Shape.Concatenates [S4x8192x1x3x4x64, S4x8192x1x3x4x64, S4x8192x1x3x4x64] S4x8192x3x3x4x64 2) :
    concatenate S4x8192x3x3x4x64 2 [⟨S4x8192x1x3x4x64, x⟩, ⟨S4x8192x1x3x4x64, y⟩, ⟨S4x8192x1x3x4x64, z⟩] hc (ix6 b s p g h d)
      = (if p.val = 0 then x else if p.val = 1 then y else z) (ix6 b s 0 g h d) := by
  have key : ∀ (k : Nat) (hk : k < 3) (w : FVec Ideal S4x8192x1x3x4x64 .f32),
      [(⟨S4x8192x1x3x4x64, x⟩ : (s : Shape) × (s.Idx → EReal)), ⟨S4x8192x1x3x4x64, y⟩, ⟨S4x8192x1x3x4x64, z⟩][k] = ⟨S4x8192x1x3x4x64, w⟩ → p.val = k →
      concatenate S4x8192x3x3x4x64 2 [⟨S4x8192x1x3x4x64, x⟩, ⟨S4x8192x1x3x4x64, y⟩, ⟨S4x8192x1x3x4x64, z⟩] hc (ix6 b s p g h d) = w (ix6 b s 0 g h d) := by
    intro k hk w hw hp
    refine concatenate_apply_piece (t := S4x8192x3x3x4x64) 2 [⟨S4x8192x1x3x4x64, x⟩, ⟨S4x8192x1x3x4x64, y⟩, ⟨S4x8192x1x3x4x64, z⟩] hc (ix6 b s p g h d) k hk S4x8192x1x3x4x64 w hw rfl k ?_ (ix6 b s 0 g h d) (fun a ha => ?_) ?_
    · match k, hk with
      | 0, _ => rfl
      | 1, _ => rfl
      | 2, _ => rfl
    · match a with
      | ⟨0, _⟩ => rfl
      | ⟨1, _⟩ => rfl
      | ⟨2, _⟩ => exact absurd rfl ha
      | ⟨3, _⟩ => rfl
      | ⟨4, _⟩ => rfl
      | ⟨5, _⟩ => rfl
    · exact hp.symm
  match p with
  | ⟨0, _⟩ => exact key 0 (by decide) x rfl rfl
  | ⟨1, _⟩ => exact key 1 (by decide) y rfl rfl
  | ⟨2, _⟩ => exact key 2 (by decide) z rfl rfl

end Cert.Projection.Ref

end
-- ==== Proof.Inp.RefD.lean ====
/- The reference of the projection call, read at an element. -/
module

public import proofs.«01_k».proof.Proof.Inp.RefB
public import proofs.«01_k».proof.Proof.Inp.RefC
public import proofs.«01_k».proof.Proof.Gen.RefInpIdeal.Run
public import proofs.«01_k».proof.Proof.Gen.RefInpIdeal.Read
public import Idealize.ShloMosaic.Lib.Claim

@[expose] public section

set_option maxRecDepth 16384

noncomputable section

namespace Cert.Projection.Ref

open Cert.RefInpIdeal Cert.RefInpIdeal.Read Idealize.ShloMosaic Idealize.ShloMosaic.TcCoe Cert.FeedForward

variable (x0 : FVec Ideal S4x8192x1024 .f32) (x1 : FVec Ideal S1024 .f32) (x2 : FVec Ideal S1024x6048 .f32) (x3 : FVec Ideal S1696 .f32)

/-- The row's columns, projected. -/
def row (b : Fin 4) (s : Fin 8192) (j : Fin 6048) : EReal := val_main_v13 (F := Ideal) x0 x1 x2 (ix3 b s j)

/-- The rotated queries, lane by lane. -/
theorem v57 (b : Fin 4) (s : Fin 8192) (g : Fin 3) (h : Fin 4) (d : Fin 64) :
    val_main_v57 (F := Ideal) x0 x1 x2 (ix5 b s g h d)
      = rot (fun l => row x0 x1 x2 b s ⟨l.val, by omega⟩) (cs s) (sn s) ⟨g.val * 256 + h.val * 64 + d.val, by omega⟩ * c8 := by
  have e : val_main_v57 (F := Ideal) x0 x1 x2 (ix5 b s g h d) = (val_main_v55 (F := Ideal) x0 x1 x2 (ix5 b s g h d) * c8 : EReal) := by
    rw [val_main_v57_apply, val_main_v56_apply]; rfl
  rw [e]
  refine congrArg (· * c8) ?_
  have hm : (g.val * 256 + h.val * 64 + d.val) % 64 = d.val := by omega
  unfold val_main_v55
  by_cases hd : d.val < 32
  · rw [halves_left _ _ b s g h d _ hd, v47, v20, v20, v37, v38]
    rw [rot, dif_pos (lt_of_eq_of_lt hm hd)]
    simp only [row, hm]
    refine congrArg₂ (· - ·) rfl (congrArg₂ (· * ·) (congrArg (fun n => val_main_v13 (F := Ideal) x0 x1 x2 (ix3 b s n)) (Fin.ext ?_)) rfl)
    simp only []; omega
  · rw [halves_right _ _ b s g h d _ hd, v54, v20, v20, v37, v38]
    rw [rot, dif_neg (fun q => hd (lt_of_eq_of_lt hm.symm q))]
    simp only [row, hm]
    refine congrArg₂ (· + ·) (congrArg₂ (· * ·) (congrArg (fun n => val_main_v13 (F := Ideal) x0 x1 x2 (ix3 b s n)) (Fin.ext ?_)) rfl)
      (congrArg₂ (· * ·) (congrArg (fun n => val_main_v13 (F := Ideal) x0 x1 x2 (ix3 b s n)) (Fin.ext ?_)) rfl)
    · simp only []; omega
    · simp only []; omega

/-- The rotated keys, lane by lane. -/
theorem v94 (b : Fin 4) (s : Fin 8192) (g : Fin 3) (h : Fin 4) (d : Fin 64) :
    val_main_v94 (F := Ideal) x0 x1 x2 (ix5 b s g h d)
      = rot (fun l => row x0 x1 x2 b s ⟨l.val, by omega⟩) (cs s) (sn s) ⟨768 + (g.val * 256 + h.val * 64 + d.val), by omega⟩ := by
  have hm : (768 + (g.val * 256 + h.val * 64 + d.val)) % 64 = d.val := by omega
  unfold val_main_v94
  by_cases hd : d.val < 32
  · rw [halves_left _ _ b s g h d _ hd, v86, v59, v59, v76, v77]
    rw [rot, dif_pos (lt_of_eq_of_lt hm hd)]
    simp only [row, hm]
    refine congrArg₂ (· - ·) rfl (congrArg₂ (· * ·) (congrArg (fun n => val_main_v13 (F := Ideal) x0 x1 x2 (ix3 b s n)) (Fin.ext ?_)) rfl)
    simp only []; omega
  · rw [halves_right _ _ b s g h d _ hd, v93, v59, v59, v76, v77]
    rw [rot, dif_neg (fun q => hd (lt_of_eq_of_lt hm.symm q))]
    simp only [row, hm]
    refine congrArg₂ (· + ·) (congrArg₂ (· * ·) (congrArg (fun n => val_main_v13 (F := Ideal) x0 x1 x2 (ix3 b s n)) (Fin.ext ?_)) rfl)
      (congrArg₂ (· * ·) (congrArg (fun n => val_main_v13 (F := Ideal) x0 x1 x2 (ix3 b s n)) (Fin.ext ?_)) rfl)
    · simp only []; omega
    · simp only []; omega

/-- The three parts, read at a head's lane. -/
theorem v100 (b : Fin 4) (s : Fin 8192) (p g : Fin 3) (h : Fin 4) (d : Fin 64) :
    val_main_v100 (F := Ideal) x0 x1 x2 (ix6 b s p g h d)
      = heads (row x0 x1 x2 b s) (cs s) (sn s) ⟨p.val * 768 + (g.val * 256 + h.val * 64 + d.val), by omega⟩ := by
  unfold val_main_v100
  rw [parts]
  have hp : p.val = 0 ∨ p.val = 1 ∨ p.val = 2 := by omega
  rcases hp with hp | hp | hp
  · rw [if_pos hp, val_main_v97_apply]
    have ei : idx_main_v97 (ix6 b s 0 g h d) = ix5 b s g h d := funext fun a => match a with | ⟨0, _⟩ => rfl | ⟨1, _⟩ => rfl | ⟨2, _⟩ => rfl | ⟨3, _⟩ => rfl | ⟨4, _⟩ => rfl
    rw [ei, v57, heads, dif_pos (by simp only []; omega), if_pos (by simp only []; omega)]
    refine congrArg (fun n => rot (fun l => row x0 x1 x2 b s ⟨l.val, by omega⟩) (cs s) (sn s) n * c8) (Fin.ext ?_)
    simp only []; omega
  · rw [if_neg (by omega), if_pos hp, val_main_v98_apply]
    have ei : idx_main_v98 (ix6 b s 0 g h d) = ix5 b s g h d := funext fun a => match a with | ⟨0, _⟩ => rfl | ⟨1, _⟩ => rfl | ⟨2, _⟩ => rfl | ⟨3, _⟩ => rfl | ⟨4, _⟩ => rfl
    rw [ei, v94, heads, dif_pos (by simp only []; omega), if_neg (by simp only []; omega)]
    refine congrArg (fun n => rot (fun l => row x0 x1 x2 b s ⟨l.val, by omega⟩) (cs s) (sn s) n) (Fin.ext ?_)
    simp only []; omega
  · rw [if_neg (by omega), if_neg (by omega), val_main_v99_apply]
    have ei : idx_main_v99 (ix6 b s 0 g h d) = ix5 b s g h d := funext fun a => match a with | ⟨0, _⟩ => rfl | ⟨1, _⟩ => rfl | ⟨2, _⟩ => rfl | ⟨3, _⟩ => rfl | ⟨4, _⟩ => rfl
    rw [ei, v96, heads, dif_neg (by simp only []; omega)]
    refine congrArg (fun n => row x0 x1 x2 b s n) (Fin.ext ?_)
    simp only []; omega

/-- The three parts side by side, flattened. -/
theorem v101 (b : Fin 4) (s : Fin 8192) (j : Fin 2304) :
    val_main_v101 (F := Ideal) x0 x1 x2 (ix3 b s j)
      = val_main_v100 (F := Ideal) x0 x1 x2 (ix6 b s ⟨j.val / 768, by omega⟩ ⟨j.val / 256 % 3, by omega⟩ ⟨j.val / 64 % 4, by omega⟩ ⟨j.val % 64, by omega⟩) := by
  unfold val_main_v101
  generalize val_main_v100 (F := Ideal) x0 x1 x2 = f
  pointwise []

/-- A column put together from its part, group, head and lane. -/
theorem column (j : ℕ) : j / 768 * 768 + (j / 256 % 3 * 256 + j / 64 % 4 * 64 + j % 64) = j := by
  have h1 : j / 256 = j / 64 / 4 := (Nat.div_div_eq_div_mul j 64 4).symm
  have h2 : j / 768 = j / 256 / 3 := (Nat.div_div_eq_div_mul j 256 3).symm
  have a := Nat.div_add_mod j 64
  have b := Nat.div_add_mod (j / 64) 4
  have c := Nat.div_add_mod (j / 256) 3
  omega

/-- The attention result: the three parts side by side. -/
theorem v123 (b : Fin 4) (s : Fin 8192) (j : Fin 2304) :
    val_main_v123 (F := Ideal) x0 x1 x2 (ix3 b s j) = heads (row x0 x1 x2 b s) (cs s) (sn s) j := by
  have e : val_main_v123 (F := Ideal) x0 x1 x2 (ix3 b s j) = (val_main_v101 (F := Ideal) x0 x1 x2 (ix3 b s j) : EReal) := by
    rw [val_main_v123_apply]
    generalize val_main_v101 (F := Ideal) x0 x1 x2 = f
    rfl
  rw [e, v101, v100]
  have key : ∀ (n : ℕ) (hn : n < 2304), n = j.val → heads (row x0 x1 x2 b s) (cs s) (sn s) ⟨n, hn⟩ = heads (row x0 x1 x2 b s) (cs s) (sn s) j := by
    intro n hn q; subst q; rfl
  exact key _ _ (column j.val)

end Cert.Projection.Ref

end
-- ==== Proof.Inp.RefE.lean ====
/- The reference of the projection call, read at an element. -/
module

public import proofs.«01_k».proof.Proof.Inp.Math
public import proofs.«01_k».proof.Proof.Gen.RefInpIdeal.Run
public import proofs.«01_k».proof.Proof.Gen.RefInpIdeal.Read
public import Idealize.ShloMosaic.Lib.Claim

@[expose] public section

set_option maxRecDepth 16384

noncomputable section

namespace Cert.Projection.Ref

open Cert.RefInpIdeal Cert.RefInpIdeal.Read Idealize.ShloMosaic Idealize.ShloMosaic.TcCoe Cert.FeedForward

variable (x0 : FVec Ideal S4x8192x1024 .f32) (x1 : FVec Ideal S1024 .f32) (x2 : FVec Ideal S1024x6048 .f32) (x3 : FVec Ideal S1696 .f32)

/-- The normalized row. -/
theorem v12 (b : Fin 4) (s : Fin 8192) (k : Fin 1024) :
    val_main_v12 (F := Ideal) x0 x1 (ix3 b s k) = nrm (fun k => x0 (ix3 b s k)) (fun k => x1 (ix1 k)) k := by
  pointwise [val_main_v12, val_main_v11, val_main_v10, val_main_v9, val_main_v8, val_main_v7, val_main_v6, val_main_v5, val_main_cst_1, val_main_v4,
    val_main_v3, val_main_cst_0, val_main_v2, val_main_v1, val_main_cst, val_main_v0]
  rfl

/-- The projected row. -/
theorem v13 (b : Fin 4) (s : Fin 8192) (j : Fin 6048) :
    val_main_v13 (F := Ideal) x0 x1 x2 (ix3 b s j) = mv (nrm (fun k => x0 (ix3 b s k)) (fun k => x1 (ix1 k))) (fun i j => x2 (ix2 i j)) j := by
  have e : nrm (fun k => x0 (ix3 b s k)) (fun k => x1 (ix1 k)) = fun k => val_main_v12 (F := Ideal) x0 x1 (ix3 b s k) := funext fun k => (v12 x0 x1 b s k).symm
  rw [e]
  unfold val_main_v13
  generalize val_main_v12 (F := Ideal) x0 x1 = f
  pointwise []
  rfl

/-- The gates. -/
theorem v124 (b : Fin 4) (s : Fin 8192) (j : Fin 2048) :
    val_main_v124 (F := Ideal) x0 x1 x2 (ix3 b s j) = Ideal.logistic (val_main_v13 (F := Ideal) x0 x1 x2 (ix3 b s ⟨4000 + j.val, by omega⟩)) := by
  unfold val_main_v124 val_main_v122 val_main_v121 val_main_v120 val_main_v119 val_main_v118 val_main_v117 val_main_cst_14 val_main_cst_15 val_main_v16
  generalize val_main_v13 (F := Ideal) x0 x1 x2 = f
  pointwise []
  rfl

/-- The shifted columns: each moved towards the row before it, which is zero at the first row. -/
theorem v108 (b : Fin 4) (s : Fin 8192) (j : Fin 1696) :
    val_main_v108 (F := Ideal) x0 x1 x2 x3 (ix3 b s j)
      = lerp (val_main_v13 (F := Ideal) x0 x1 x2 (ix3 b s ⟨2304 + j.val, by omega⟩))
          (if h : 1 ≤ s.val then val_main_v13 (F := Ideal) x0 x1 x2 (ix3 b ⟨s.val - 1, by omega⟩ ⟨2304 + j.val, by omega⟩) else 0) (x3 (ix1 j)) := by
  unfold val_main_v108 val_main_v107 val_main_v106 val_main_v105 val_main_v104 val_main_v103 val_main_call0_v0 val_main_c val_main_v102 val_main_v15
  generalize val_main_v13 (F := Ideal) x0 x1 x2 = f
  pointwise []
  have e0 : (FloatOps.sitofp (F := Ideal) .f32 0#32 : EReal) = 0 := by
    show (((0#32).toInt : ℝ) : EReal) = 0
    simp
  by_cases h : 1 ≤ s.val
  · rw [dif_pos h, dif_pos ⟨h, by omega⟩]; rfl
  · rw [dif_neg h, dif_neg (fun q => h q.1), e0]; rfl

/-- The shifted columns of the first result. -/
theorem v109 (b : Fin 4) (s : Fin 8192) (j : Fin 1536) :
    val_main_v109 (F := Ideal) x0 x1 x2 x3 (ix3 b s j) = val_main_v108 (F := Ideal) x0 x1 x2 x3 (ix3 b s ⟨j.val, by omega⟩) := by
  unfold val_main_v109
  generalize val_main_v108 (F := Ideal) x0 x1 x2 x3 = f
  pointwise []

end Cert.Projection.Ref

end
-- ==== Proof.Inp.RefF.lean ====
/- The reference of the projection call, read at an element. -/
module

public import proofs.«01_k».proof.Proof.Inp.Math
public import proofs.«01_k».proof.Proof.Gen.RefInpIdeal.Run
public import proofs.«01_k».proof.Proof.Gen.RefInpIdeal.Read
public import Idealize.ShloMosaic.Lib.Claim

@[expose] public section

set_option maxRecDepth 16384

noncomputable section

namespace Cert.Projection.Ref

open Cert.RefInpIdeal Cert.RefInpIdeal.Read Idealize.ShloMosaic Idealize.ShloMosaic.TcCoe Cert.FeedForward

variable (x0 : FVec Ideal S4x8192x1024 .f32) (x1 : FVec Ideal S1024 .f32) (x2 : FVec Ideal S1024x6048 .f32) (x3 : FVec Ideal S1696 .f32)

/-- A narrow row in its slot. -/
theorem v113 (b : Fin 4) (s : Fin 8192) (j : Fin 128) :
    val_main_v113 (F := Ideal) x0 x1 x2 x3 (ix3 b s j)
      = if h : j.val < 32 then val_main_v108 (F := Ideal) x0 x1 x2 x3 (ix3 b s ⟨1536 + j.val, by omega⟩) else (0 : EReal) := by
  have e0 : (FloatOps.sitofp (F := Ideal) .f32 0#32 : EReal) = 0 := by
    show (((0#32).toInt : ℝ) : EReal) = 0
    simp
  rw [← e0]
  unfold val_main_v113 val_main_call1_v0 val_main_c_11 val_main_v110
  generalize val_main_v108 (F := Ideal) x0 x1 x2 x3 = f
  pointwise []

/-- A narrow row in its slot. -/
theorem v114 (b : Fin 4) (s : Fin 8192) (j : Fin 128) :
    val_main_v114 (F := Ideal) x0 x1 x2 x3 (ix3 b s j)
      = if h : j.val < 32 then val_main_v108 (F := Ideal) x0 x1 x2 x3 (ix3 b s ⟨1568 + j.val, by omega⟩) else (0 : EReal) := by
  have e0 : (FloatOps.sitofp (F := Ideal) .f32 0#32 : EReal) = 0 := by
    show (((0#32).toInt : ℝ) : EReal) = 0
    simp
  rw [← e0]
  unfold val_main_v114 val_main_call2_v0 val_main_c_12 val_main_v111
  generalize val_main_v108 (F := Ideal) x0 x1 x2 x3 = f
  pointwise []

/-- A narrow row in its slot. -/
theorem v115 (b : Fin 4) (s : Fin 8192) (j : Fin 128) :
    val_main_v115 (F := Ideal) x0 x1 x2 x3 (ix3 b s j)
      = if h : j.val < 96 then val_main_v108 (F := Ideal) x0 x1 x2 x3 (ix3 b s ⟨1600 + j.val, by omega⟩) else (0 : EReal) := by
  have e0 : (FloatOps.sitofp (F := Ideal) .f32 0#32 : EReal) = 0 := by
    show (((0#32).toInt : ℝ) : EReal) = 0
    simp
  rw [← e0]
  unfold val_main_v115 val_main_call3_v0 val_main_c_13 val_main_v112
  generalize val_main_v108 (F := Ideal) x0 x1 x2 x3 = f
  pointwise []

/-- The three slots put side by side. -/
theorem three (x y z : FVec Ideal S4x8192x128 .f32) (b : Fin 4) (s : Fin 8192) (j : Fin 384)
    (hc : Shape.Concatenates [S4x8192x128, S4x8192x128, S4x8192x128] S4x8192x384 2) :
    concatenate S4x8192x384 2 [⟨S4x8192x128, x⟩, ⟨S4x8192x128, y⟩, ⟨S4x8192x128, z⟩] hc (ix3 b s j)
      = if h : j.val < 128 then x (ix3 b s ⟨j.val, h⟩) else if h1 : j.val < 256 then y (ix3 b s ⟨j.val - 128, by omega⟩) else z (ix3 b s ⟨j.val - 256, by omega⟩) := by
  have key : ∀ (k : Nat) (hk : k < 3) (w : FVec Ideal S4x8192x128 .f32) (l : Fin 128),
      [(⟨S4x8192x128, x⟩ : (s : Shape) × (s.Idx → EReal)), ⟨S4x8192x128, y⟩, ⟨S4x8192x128, z⟩][k] = ⟨S4x8192x128, w⟩ → k * 128 + l.val = j.val →
      concatenate S4x8192x384 2 [⟨S4x8192x128, x⟩, ⟨S4x8192x128, y⟩, ⟨S4x8192x128, z⟩] hc (ix3 b s j) = w (ix3 b s l) := by
    intro k hk w l hw hp
    refine concatenate_apply_piece (t := S4x8192x384) 2 [⟨S4x8192x128, x⟩, ⟨S4x8192x128, y⟩, ⟨S4x8192x128, z⟩] hc (ix3 b s j) k hk S4x8192x128 w hw rfl (k * 128) ?_
      (ix3 b s l) (fun a ha => ?_) hp
    · match k, hk with
      | 0, _ => rfl
      | 1, _ => rfl
      | 2, _ => rfl
    · match a with
      | ⟨0, _⟩ => rfl
      | ⟨1, _⟩ => rfl
      | ⟨2, _⟩ => exact absurd rfl ha
  by_cases h : j.val < 128
  · rw [dif_pos h]; exact key 0 (by decide) x _ rfl (by simp only []; omega)
  · rw [dif_neg h]
    by_cases h1 : j.val < 256
    · rw [dif_pos h1]; exact key 1 (by decide) y _ rfl (by simp only []; omega)
    · rw [dif_neg h1]; exact key 2 (by decide) z _ rfl (by simp only []; omega)

/-- The low-rank columns, each of the three in its own slot of 128. -/
theorem v116 (b : Fin 4) (s : Fin 8192) (j : Fin 384) :
    val_main_v116 (F := Ideal) x0 x1 x2 x3 (ix3 b s j)
      = slots (fun l => val_main_v108 (F := Ideal) x0 x1 x2 x3 (ix3 b s ⟨1536 + l.val, by omega⟩)) j := by
  unfold val_main_v116
  rw [three]
  unfold slots
  split
  · rw [v113]
  · split
    · rw [v114]
      simp only [← Nat.add_assoc]
    · rw [v115]
      simp only [← Nat.add_assoc]

end Cert.Projection.Ref

end
-- ==== Proof.Inp.Ref.lean ====
/- The reference of the projection call: its four results. -/
module

public import proofs.«01_k».proof.Proof.Inp.RefD
public import proofs.«01_k».proof.Proof.Inp.RefE
public import proofs.«01_k».proof.Proof.Inp.RefF

@[expose] public section

set_option maxRecDepth 16384

noncomputable section

namespace Cert.Projection.Ref

open Cert.RefInpIdeal Cert.RefInpIdeal.Read Idealize.ShloMosaic Idealize.ShloMosaic.TcCoe Cert.FeedForward

variable (x0 : FVec Ideal S4x8192x1024 .f32) (x1 : FVec Ideal S1024 .f32) (x2 : FVec Ideal S1024x6048 .f32) (x3 : FVec Ideal S1696 .f32)

/-- The projected columns of every token. -/
def zx (b : Fin 4) (s : Fin 8192) (j : Fin 6048) : EReal :=
  cols (fun b s k => x0 (ix3 b s k)) (fun k => x1 (ix1 k)) (fun i j => x2 (ix2 i j)) b s j

/-- The reference's projected columns. -/
theorem row_eq (b : Fin 4) (s : Fin 8192) (j : Fin 6048) : val_main_v13 (F := Ideal) x0 x1 x2 (ix3 b s j) = zx x0 x1 x2 b s j :=
  v13 x0 x1 x2 b s j

/-- The reference's shifted columns. -/
theorem shifted_eq (b : Fin 4) (s : Fin 8192) (j : Fin 1696) :
    val_main_v108 (F := Ideal) x0 x1 x2 x3 (ix3 b s j) = shifted (zx x0 x1 x2 b) (fun j => x3 (ix1 j)) s j := by
  rw [v108]
  simp only [row_eq]
  rfl

/-- The attention columns. -/
theorem result0 : val_main_v123 (F := Ideal) x0 x1 x2 = fun i => heads (zx x0 x1 x2 (i 0) (i 1)) (cs (i 1)) (sn (i 1)) (i 2) := by
  funext y
  obtain ⟨b, s, j, rfl⟩ : ∃ (b : Fin 4) (s : Fin 8192) (j : Fin 2304), y = ix3 b s j := ⟨y 0, y 1, y 2, by blk_ext⟩
  rw [v123]
  have e : row x0 x1 x2 b s = zx x0 x1 x2 b s := funext fun j => row_eq x0 x1 x2 b s j
  rw [e]
  rfl

/-- The shifted columns. -/
theorem result1 : val_main_v109 (F := Ideal) x0 x1 x2 x3
    = fun i => shifted (zx x0 x1 x2 (i 0)) (fun j => x3 (ix1 j)) (i 1) ⟨(i 2).val, Nat.lt_of_lt_of_le (m := 1536) (i 2).isLt (by decide)⟩ := by
  funext y
  obtain ⟨b, s, j, rfl⟩ : ∃ (b : Fin 4) (s : Fin 8192) (j : Fin 1536), y = ix3 b s j := ⟨y 0, y 1, y 2, by blk_ext⟩
  rw [v109, shifted_eq]
  rfl

/-- The low-rank columns, shifted. -/
theorem result2 : val_main_v116 (F := Ideal) x0 x1 x2 x3
    = fun i => slots (fun l => shifted (zx x0 x1 x2 (i 0)) (fun j => x3 (ix1 j)) (i 1) ⟨1536 + l.val, by omega⟩) (i 2) := by
  funext y
  obtain ⟨b, s, j, rfl⟩ : ∃ (b : Fin 4) (s : Fin 8192) (j : Fin 384), y = ix3 b s j := ⟨y 0, y 1, y 2, by blk_ext⟩
  rw [v116]
  simp only [shifted_eq]
  rfl

/-- The gates. -/
theorem result3 : val_main_v124 (F := Ideal) x0 x1 x2
    = fun i => Ideal.logistic (zx x0 x1 x2 (i 0) (i 1) ⟨4000 + (i 2).val, Nat.add_lt_add_left (m := 2048) (i 2).isLt 4000⟩) := by
  funext y
  obtain ⟨b, s, j, rfl⟩ : ∃ (b : Fin 4) (s : Fin 8192) (j : Fin 2048), y = ix3 b s j := ⟨y 0, y 1, y 2, by blk_ext⟩
  rw [v124, row_eq]
  rfl

end Cert.Projection.Ref

end
-- ==== Proof.Inp.Pay.lean ====
/- The projection kernel's stored values, read at an element. -/
module

public import proofs.«01_k».proof.Proof.Inp.Math
public import proofs.«01_k».proof.Proof.Gen.InpIdeal.Skeleton
public import Idealize.ShloMosaic.Lib.Claim

@[expose] public section

set_option maxRecDepth 16384

noncomputable section

namespace Cert.Projection.Ker

open Cert.InpIdeal Cert.InpIdeal.Gen Idealize.ShloMosaic Idealize.ShloMosaic.TcCoe Cert.FeedForward

/-- The lane mask of the first halves of the heads. -/
theorem mask_apply : ∀ l : Fin 128, (k0_pay5 (ix2 0 l) = 1#1) ↔ l.val % 64 < 32 := by
  decide +kernel

/-- The mask of the tile's first row. -/
theorem row_apply : ∀ r : Fin 256, k0_pay28 (ix2 r 0) = 1#1 ↔ r.val = 0 := by
  decide +kernel

/-- A lane of a chunk of two heads, its partner chosen by the mask. -/
theorem turn_lane (z : Fin 1536 → EReal) (co si : Fin 128 → EReal) (o : ℕ) (l : Fin 128) (j j' j₁ j₂ : Fin 1536) (ho : o % 128 = 0)
    (hj : j.val = o + l.val) (hj' : j'.val = j.val) (h₁ : j₁.val = o + (l.val + 128 - 96) % 128) (h₂ : j₂.val = o + (l.val + 128 - 32) % 128) :
    z j' * co l + Scalar.select (k0_pay5 (ix2 0 l)) (z j₁) (z j₂) * si l = turn z co si j := by
  have hl := l.isLt
  have e : (⟨j.val % 128, Nat.mod_lt _ (by decide)⟩ : Fin 128) = l := Fin.ext (by show j.val % 128 = l.val; omega)
  obtain rfl : j' = j := Fin.ext hj'
  unfold turn Scalar.select
  rw [e]
  by_cases h : l.val % 64 < 32
  · have a : (⟨j'.val + 32, by omega⟩ : Fin 1536) = j₁ := Fin.ext (by show j'.val + 32 = j₁.val; omega)
    rw [if_pos (by have := (mask_apply l).2 h; simp [this]), dif_pos (by omega), a]
  · have a : (⟨j'.val - 32, by omega⟩ : Fin 1536) = j₂ := Fin.ext (by show j'.val - 32 = j₂.val; omega)
    rw [if_neg (by have := fun q => h ((mask_apply l).1 q); simpa using this), dif_neg (by omega), a]

/-- The normalized block at a row. -/
theorem pay3_apply (x : Vec Ideal S1x256x1024 .f32) (g : Vec Ideal S1x1024 .f32) (r : Fin 256) (k : Fin 1024) :
    k0_pay3 x g (ix2 r k) = nrm (fun k => x (ix3 0 r k)) (fun k => g (ix2 0 k)) k := by
  pointwise [k0_pay3]
  rfl

/-- The query and key columns at a row. -/
theorem pay4_apply (x : Vec Ideal S1x256x1024 .f32) (g : Vec Ideal S1x1024 .f32) (w : Vec Ideal S1024x1536 .bf16) (r : Fin 256) (j : Fin 1536) :
    k0_pay4 x g w (ix2 r j) = mv (nrm (fun k => x (ix3 0 r k)) (fun k => g (ix2 0 k))) (fun i j => w (ix2 i j)) j := by
  have e : nrm (fun k => x (ix3 0 r k)) (fun k => g (ix2 0 k)) = fun k => k0_pay3 x g (ix2 r k) := funext fun k => (pay3_apply x g r k).symm
  rw [e]
  unfold k0_pay4
  generalize k0_pay3 x g = f
  pointwise []
  rfl

/-- The value columns at a row. -/
theorem pay27_apply (f : FVec Ideal S256x1024 .bf16) (w : Vec Ideal S1024x768 .bf16) (r : Fin 256) (j : Fin 768) :
    k0_pay27 f w (ix3 0 r j) = mv (fun k => f (ix2 r k)) (fun i j => w (ix2 i j)) j := by
  pointwise [k0_pay27]
  rfl

/-- The gate columns at a row. -/
theorem pay2_apply (f : FVec Ideal S256x1024 .bf16) (w : Vec Ideal S1024x2048 .bf16) (r : Fin 256) (j : Fin 2048) :
    k0_pay2 f w (ix3 0 r j) = Ideal.logistic (mv (fun k => f (ix2 r k)) (fun i j => w (ix2 i j)) j) := by
  pointwise [k0_pay2]
  rfl

/-- The shifted columns before the shift. -/
theorem pay31_apply (f : FVec Ideal S256x1024 .bf16) (w : Vec Ideal S1024x1536 .bf16) (r : Fin 256) (j : Fin 1536) :
    k0_pay31 f w (ix2 r j) = mv (fun k => f (ix2 r k)) (fun i j => w (ix2 i j)) j := by
  pointwise [k0_pay31]
  rfl

/-- The low-rank columns before the shift. -/
theorem pay35_apply (f : FVec Ideal S256x1024 .bf16) (w : Vec Ideal S1024x384 .bf16) (r : Fin 256) (j : Fin 384) :
    k0_pay35 f w (ix2 r j) = mv (fun k => f (ix2 r k)) (fun i j => w (ix2 i j)) j := by
  pointwise [k0_pay35]
  rfl

/-- The row kept for the next tile. -/
theorem pay33_apply (z : FVec Ideal S256x1536 .f32) (j : Fin 1536) : k0_pay33 z (ix2 0 j) = z (ix2 255 j) := by
  pointwise [k0_pay33]

/-- The low-rank row kept for the next tile. -/
theorem pay36_apply (f : FVec Ideal S256x1024 .bf16) (w : Vec Ideal S1024x384 .bf16) (j : Fin 384) :
    k0_pay36 f w (ix2 0 j) = k0_pay35 f w (ix2 255 j) := by
  unfold k0_pay36
  generalize k0_pay35 f w = z
  pointwise []

/-- The row before: the kept row before the tile's first, else the row above. -/
def above {n : ℕ} (z : Fin 256 → Fin n → EReal) (p : Fin n → EReal) (r : Fin 256) (j : Fin n) : EReal :=
  if r.val = 0 then p j else z ⟨(r.val + 256 - 1) % 256, Nat.mod_lt _ (by decide)⟩ j

/-- The choice between the kept row and the row above. -/
theorem above_row {n : ℕ} (z : Fin 256 → Fin n → EReal) (p : Fin n → EReal) (r : Fin 256) (j : Fin n) :
    Scalar.select (k0_pay28 (ix2 r 0)) (p j) (z ⟨(r.val + 256 - 1) % 256, Nat.mod_lt _ (by decide)⟩ j) = above z p r j := by
  unfold above Scalar.select
  by_cases h : r.val = 0
  · rw [if_pos h, if_pos (by have := (row_apply r).2 h; simp [this])]
  · rw [if_neg h, if_neg (by have := fun q => h ((row_apply r).1 q); simpa using this)]

/-- The shifted columns at a row. -/
theorem pay34_apply (z : FVec Ideal S256x1536 .f32) (mu p : Vec Ideal S1x1536 .f32) (r : Fin 256) (j : Fin 1536) :
    k0_pay34 k0_pay28 z (k0_pay32 mu) p (ix3 0 r j)
      = lerp (z (ix2 r j)) (above (fun r j => z (ix2 r j)) (fun j => p (ix2 0 j)) r j) (mu (ix2 0 j)) := by
  rw [← above_row]
  unfold k0_pay34 k0_pay32
  generalize k0_pay28 = k
  pointwise []
  rfl

/-- The low-rank columns at a row. -/
theorem pay37_apply (f : FVec Ideal S256x1024 .bf16) (w : Vec Ideal S1024x384 .bf16) (mu p : Vec Ideal S1x384 .f32) (r : Fin 256) (j : Fin 384) :
    k0_pay1 (k0_pay37 f k0_pay28 w mu p) (ix3 0 r j)
      = lerp (k0_pay35 f w (ix2 r j)) (above (fun r j => k0_pay35 f w (ix2 r j)) (fun j => p (ix2 0 j)) r j) (mu (ix2 0 j)) := by
  rw [← above_row]
  unfold k0_pay1 k0_pay37
  generalize k0_pay28 = k
  generalize k0_pay35 f w = z
  pointwise []
  rfl

/-- The kept rows start at zero. -/
theorem pay29_apply (r : Fin 8) (j : Fin 1536) : k0_pay29 (F := Ideal) (ix2 r j) = 0 := by
  pointwise [k0_pay29]

/-- The low-rank kept rows start at zero. -/
theorem pay30_apply (r : Fin 8) (j : Fin 384) : k0_pay30 (F := Ideal) (ix2 r j) = 0 := by
  pointwise [k0_pay30]

end Cert.Projection.Ker

end
-- ==== Proof.Inp.Facts.lean ====
/- Facts of the projection's mathematics: rotations by lane tables, slots, and shifts. -/
module

public import proofs.«01_k».proof.Proof.Inp.Math

@[expose] public section

set_option maxRecDepth 16384

noncomputable section

namespace Cert.Projection

open Idealize.ShloMosaic Cert.FeedForward

/-- A row times weights laid in slots is the products laid in slots. -/
theorem mv_slots {n : ℕ} (x : Fin n → EReal) (w : Fin n → Fin 160 → EReal) (j : Fin 384) :
    mv x (fun i j => slots (w i) j) j = slots (fun l => mv x w l) j := by
  unfold mv slots
  split_ifs <;> simp [*]

/-- Shifting rows laid in slots shifts the rows. -/
theorem lerp_slots (z p mu : Fin 160 → EReal) (j : Fin 384) :
    lerp (slots z j) (slots p j) (slots mu j) = slots (fun l => lerp (z l) (p l) (mu l)) j := by
  unfold slots lerp
  split_ifs <;> simp [*]

/-- A row of zeros laid in slots is zero. -/
theorem zero_slots (j : Fin 384) : slots (fun _ => 0) j = 0 := by
  unfold slots
  split_ifs <;> rfl

/-- The scale of the queries is one eighth. -/
theorem c8_eq : c8 = (((1 : ℝ) / 8 : ℝ) : EReal) := by
  unfold c8
  simp [Ideal.ofBits, Ideal.ieee, -EReal.coe_mul]
  norm_num

/-- The scale of the queries distributes over a sum. -/
theorem c8_distrib (a b : EReal) : (a + b) * c8 = a * c8 + b * c8 := by
  rw [c8_eq]
  exact EReal.right_distrib_of_nonneg_of_ne_top (by exact_mod_cast (by norm_num : (0 : ℝ) ≤ 1 / 8)) (EReal.coe_ne_top _) a b

/-- Turning by the lane tables of a position is rotating by its cosines and sines. -/
theorem turn_rot (z : Fin 1536 → EReal) (s : Fin 8192) (j : Fin 1536) : turn z (coT s) (siT s) j = rot z (cs s) (sn s) j := by
  have ec : ∀ (n n' : ℕ) (h h'), n = n' → cs s ⟨n, h⟩ = cs s ⟨n', h'⟩ := by
    intro n n' h h' q; subst q; rfl
  have es : ∀ (n n' : ℕ) (h h'), n = n' → sn s ⟨n, h⟩ = sn s ⟨n', h'⟩ := by
    intro n n' h h' q; subst q; rfl
  unfold turn rot coT siT
  by_cases h : j.val % 64 < 32
  · rw [dif_pos h, dif_pos h, if_pos (by show j.val % 128 % 64 < 32; omega), sub_eq_add_neg, mul_neg]
    rw [ec _ (j.val % 64) _ h (by show j.val % 128 % 32 = _; omega), es _ (j.val % 64) _ h (by show j.val % 128 % 32 = _; omega)]
  · rw [dif_neg h, dif_neg h, if_neg (by show ¬ j.val % 128 % 64 < 32; omega)]
    rw [ec _ (j.val % 64 - 32) _ (by omega) (by show j.val % 128 % 32 = _; omega), es _ (j.val % 64 - 32) _ (by omega) (by show j.val % 128 % 32 = _; omega)]

/-- Turning by scaled lane tables scales the turned lane. -/
theorem turn_scaled (z : Fin 1536 → EReal) (s : Fin 8192) (j : Fin 1536) :
    turn z (fun l => coT s l * c8) (fun l => siT s l * c8) j = rot z (cs s) (sn s) j * c8 := by
  rw [← turn_rot]
  unfold turn
  rw [c8_distrib, mul_assoc, mul_assoc]

end Cert.Projection

end
-- ==== Proof.Inp.Host.lean ====
/- The projection call's arrays, cut from the arguments before the call, read at an element. -/
module

public import proofs.«01_k».proof.Proof.Inp.Math
public import proofs.«01_k».proof.Proof.Gen.InpIdeal.Frame.Runs
public import Idealize.ShloMosaic.Lib.Claim

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD)

/-- The norm's scale as a row. -/
theorem at_v46 (k : Fin 1024) : (V m c main_v46 : Vec Ideal S1x1024 .f32) (ix2 0 k) = (m ((c : Thread nD τ).loc main_arg1) : Vec Ideal S1024 .f32) (ix1 k) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  entry_read
  pointwise

/-- The weights of the queries and keys. -/
theorem at_v48 (i : Fin 1024) (j : Fin 1536) : (V m c main_v48 : Vec Ideal S1024x1536 .bf16) (ix2 i j)
    = (m ((c : Thread nD τ).loc main_arg2) : Vec Ideal S1024x6048 .f32) (ix2 i ⟨j.val, by omega⟩) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  entry_read
  pointwise

/-- The weights of the values. -/
theorem at_v50 (i : Fin 1024) (j : Fin 768) : (V m c main_v50 : Vec Ideal S1024x768 .bf16) (ix2 i j)
    = (m ((c : Thread nD τ).loc main_arg2) : Vec Ideal S1024x6048 .f32) (ix2 i ⟨1536 + j.val, by omega⟩) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  entry_read
  pointwise

/-- The weights of the shifted columns. -/
theorem at_v52 (i : Fin 1024) (j : Fin 1536) : (V m c main_v52 : Vec Ideal S1024x1536 .bf16) (ix2 i j)
    = (m ((c : Thread nD τ).loc main_arg2) : Vec Ideal S1024x6048 .f32) (ix2 i ⟨2304 + j.val, by omega⟩) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  entry_read
  pointwise

/-- The weights of the gates. -/
theorem at_v55 (i : Fin 1024) (j : Fin 2048) : (V m c main_v55 : Vec Ideal S1024x2048 .bf16) (ix2 i j)
    = (m ((c : Thread nD τ).loc main_arg2) : Vec Ideal S1024x6048 .f32) (ix2 i ⟨4000 + j.val, by omega⟩) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  entry_read
  pointwise

/-- The shift factors as a row. -/
theorem at_v57 (j : Fin 1536) : (V m c main_v57 : Vec Ideal S1x1536 .f32) (ix2 0 j)
    = (m ((c : Thread nD τ).loc main_arg3) : Vec Ideal S1696 .f32) (ix1 ⟨j.val, by omega⟩) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  entry_read
  pointwise

end Cert.Projection.Ker

end
-- ==== Proof.Inp.Cat.lean ====
/- The projection call's arrays, cut from the arguments before the call, read at an element. -/
module

public import proofs.«01_k».proof.Proof.Inp.Math
public import proofs.«01_k».proof.Proof.Gen.InpIdeal.Frame.Runs
public import Idealize.ShloMosaic.Lib.Claim
public import Idealize.ShloMosaic.Lib.StableHlo.RunRead

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD)

/-- Three rows of 128 put one after the other. -/
theorem cat3 (x y z : S128.Idx → EReal)  (l : Fin 128) (hc : Shape.Concatenates [S128, S128, S128] S384 0) :
    concatenate S384 0 [⟨S128, x⟩, ⟨S128, y⟩, ⟨S128, z⟩] hc (ix1 ⟨l.val, by omega⟩) = x (ix1 l) ∧ concatenate S384 0 [⟨S128, x⟩, ⟨S128, y⟩, ⟨S128, z⟩] hc (ix1 ⟨128 + l.val, by omega⟩) = y (ix1 l) ∧ concatenate S384 0 [⟨S128, x⟩, ⟨S128, y⟩, ⟨S128, z⟩] hc (ix1 ⟨256 + l.val, by omega⟩) = z (ix1 l) := by
  have key : ∀ (k : Nat) (hk : k < 3) (u : S128.Idx → EReal) (j : Fin 384),
      [(⟨S128, x⟩ : (s : Shape) × (s.Idx → EReal)), ⟨S128, y⟩, ⟨S128, z⟩][k] = ⟨S128, u⟩ → k * 128 + l.val = j.val →
      concatenate S384 0 [⟨S128, x⟩, ⟨S128, y⟩, ⟨S128, z⟩] hc (ix1 j) = u (ix1 l) := by
    intro k hk u j hw hp
    refine concatenate_apply_piece (t := S384) 0 [⟨S128, x⟩, ⟨S128, y⟩, ⟨S128, z⟩] hc (ix1 j) k hk S128 u hw rfl (k * 128) ?_
      (ix1 l) (fun a ha => ?_) hp
    · match k, hk with
      | 0, _ => rfl
      | 1, _ => rfl
      | 2, _ => rfl
    · match a with
      | ⟨0, _⟩ => exact absurd rfl ha
  exact ⟨key 0 (by decide) x _ rfl (by simp only []; omega), key 1 (by decide) y _ rfl (by simp only []), key 2 (by decide) z _ rfl (by simp only [])⟩

/-- Three arrays of 128 columns put side by side. -/
theorem cat3w (x y z : S1024x128.Idx → EReal) (i : Fin 1024) (l : Fin 128) (hc : Shape.Concatenates [S1024x128, S1024x128, S1024x128] S1024x384 1) :
    concatenate S1024x384 1 [⟨S1024x128, x⟩, ⟨S1024x128, y⟩, ⟨S1024x128, z⟩] hc (ix2 i ⟨l.val, by omega⟩) = x (ix2 i l) ∧ concatenate S1024x384 1 [⟨S1024x128, x⟩, ⟨S1024x128, y⟩, ⟨S1024x128, z⟩] hc (ix2 i ⟨128 + l.val, by omega⟩) = y (ix2 i l) ∧ concatenate S1024x384 1 [⟨S1024x128, x⟩, ⟨S1024x128, y⟩, ⟨S1024x128, z⟩] hc (ix2 i ⟨256 + l.val, by omega⟩) = z (ix2 i l) := by
  have key : ∀ (k : Nat) (hk : k < 3) (u : S1024x128.Idx → EReal) (j : Fin 384),
      [(⟨S1024x128, x⟩ : (s : Shape) × (s.Idx → EReal)), ⟨S1024x128, y⟩, ⟨S1024x128, z⟩][k] = ⟨S1024x128, u⟩ → k * 128 + l.val = j.val →
      concatenate S1024x384 1 [⟨S1024x128, x⟩, ⟨S1024x128, y⟩, ⟨S1024x128, z⟩] hc (ix2 i j) = u (ix2 i l) := by
    intro k hk u j hw hp
    refine concatenate_apply_piece (t := S1024x384) 1 [⟨S1024x128, x⟩, ⟨S1024x128, y⟩, ⟨S1024x128, z⟩] hc (ix2 i j) k hk S1024x128 u hw rfl (k * 128) ?_
      (ix2 i l) (fun a ha => ?_) hp
    · match k, hk with
      | 0, _ => rfl
      | 1, _ => rfl
      | 2, _ => rfl
    · match a with
      | ⟨0, _⟩ => rfl
      | ⟨1, _⟩ => exact absurd rfl ha
  exact ⟨key 0 (by decide) x _ rfl (by simp only []; omega), key 1 (by decide) y _ rfl (by simp only []), key 2 (by decide) z _ rfl (by simp only [])⟩

/-- Four tables of 128 columns put side by side. -/
theorem cat4 (x y z w : S8192x128.Idx → EReal) (s : Fin 8192) (l : Fin 128) (hc : Shape.Concatenates [S8192x128, S8192x128, S8192x128, S8192x128] S8192x512 1) :
    concatenate S8192x512 1 [⟨S8192x128, x⟩, ⟨S8192x128, y⟩, ⟨S8192x128, z⟩, ⟨S8192x128, w⟩] hc (ix2 s ⟨l.val, by omega⟩) = x (ix2 s l) ∧ concatenate S8192x512 1 [⟨S8192x128, x⟩, ⟨S8192x128, y⟩, ⟨S8192x128, z⟩, ⟨S8192x128, w⟩] hc (ix2 s ⟨128 + l.val, by omega⟩) = y (ix2 s l) ∧ concatenate S8192x512 1 [⟨S8192x128, x⟩, ⟨S8192x128, y⟩, ⟨S8192x128, z⟩, ⟨S8192x128, w⟩] hc (ix2 s ⟨256 + l.val, by omega⟩) = z (ix2 s l) ∧ concatenate S8192x512 1 [⟨S8192x128, x⟩, ⟨S8192x128, y⟩, ⟨S8192x128, z⟩, ⟨S8192x128, w⟩] hc (ix2 s ⟨384 + l.val, by omega⟩) = w (ix2 s l) := by
  have key : ∀ (k : Nat) (hk : k < 4) (u : S8192x128.Idx → EReal) (j : Fin 512),
      [(⟨S8192x128, x⟩ : (s : Shape) × (s.Idx → EReal)), ⟨S8192x128, y⟩, ⟨S8192x128, z⟩, ⟨S8192x128, w⟩][k] = ⟨S8192x128, u⟩ → k * 128 + l.val = j.val →
      concatenate S8192x512 1 [⟨S8192x128, x⟩, ⟨S8192x128, y⟩, ⟨S8192x128, z⟩, ⟨S8192x128, w⟩] hc (ix2 s j) = u (ix2 s l) := by
    intro k hk u j hw hp
    refine concatenate_apply_piece (t := S8192x512) 1 [⟨S8192x128, x⟩, ⟨S8192x128, y⟩, ⟨S8192x128, z⟩, ⟨S8192x128, w⟩] hc (ix2 s j) k hk S8192x128 u hw rfl (k * 128) ?_
      (ix2 s l) (fun a ha => ?_) hp
    · match k, hk with
      | 0, _ => rfl
      | 1, _ => rfl
      | 2, _ => rfl
      | 3, _ => rfl
    · match a with
      | ⟨0, _⟩ => rfl
      | ⟨1, _⟩ => exact absurd rfl ha
  exact ⟨key 0 (by decide) x _ rfl (by simp only []; omega), key 1 (by decide) y _ rfl (by simp only []), key 2 (by decide) z _ rfl (by simp only []), key 3 (by decide) w _ rfl (by simp only [])⟩

/-- Two tables of 32 columns put side by side. -/
theorem cat2 (x y : S8192x32.Idx → EReal) (s : Fin 8192) (l : Fin 32) (hc : Shape.Concatenates [S8192x32, S8192x32] S8192x64 1) :
    concatenate S8192x64 1 [⟨S8192x32, x⟩, ⟨S8192x32, y⟩] hc (ix2 s ⟨l.val, by omega⟩) = x (ix2 s l) ∧ concatenate S8192x64 1 [⟨S8192x32, x⟩, ⟨S8192x32, y⟩] hc (ix2 s ⟨32 + l.val, by omega⟩) = y (ix2 s l) := by
  have key : ∀ (k : Nat) (hk : k < 2) (u : S8192x32.Idx → EReal) (j : Fin 64),
      [(⟨S8192x32, x⟩ : (s : Shape) × (s.Idx → EReal)), ⟨S8192x32, y⟩][k] = ⟨S8192x32, u⟩ → k * 32 + l.val = j.val →
      concatenate S8192x64 1 [⟨S8192x32, x⟩, ⟨S8192x32, y⟩] hc (ix2 s j) = u (ix2 s l) := by
    intro k hk u j hw hp
    refine concatenate_apply_piece (t := S8192x64) 1 [⟨S8192x32, x⟩, ⟨S8192x32, y⟩] hc (ix2 s j) k hk S8192x32 u hw rfl (k * 32) ?_
      (ix2 s l) (fun a ha => ?_) hp
    · match k, hk with
      | 0, _ => rfl
      | 1, _ => rfl
    · match a with
      | ⟨0, _⟩ => rfl
      | ⟨1, _⟩ => exact absurd rfl ha
  exact ⟨key 0 (by decide) x _ rfl (by simp only []; omega), key 1 (by decide) y _ rfl (by simp only [])⟩

end Cert.Projection.Ker

end
-- ==== Proof.Inp.Lora.lean ====
/- The projection call's arrays, cut from the arguments before the call, read at an element. -/
module

public import proofs.«01_k».proof.Proof.Inp.Cat
public import proofs.«01_k».proof.Proof.Gen.InpIdeal.Frame.Runs
public import Idealize.ShloMosaic.Lib.Claim
public import Idealize.ShloMosaic.Lib.StableHlo.RunRead

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD)

/-- The converted integer zero. -/
theorem zero_word : (FloatOps.sitofp (F := Ideal) .f32 0#32 : EReal) = 0 := by
  show (((0#32).toInt : ℝ) : EReal) = 0
  simp

/-- The shift factors of the low-rank columns, each of the three in its own slot. -/
theorem at_v58 (j : Fin 384) : (V m c main_v58 : Vec Ideal S1x384 .f32) (ix2 0 j)
    = slots (fun l => (m ((c : Thread nD τ).loc main_arg3) : Vec Ideal S1696 .f32) (ix1 ⟨1536 + l.val, by omega⟩)) j := by
  have e : ∀ (f : S384.Idx → EReal) (h) (j : Fin 384), broadcastInDim S1x384 ![1] h f (ix2 0 j) = f (ix1 j) := by
    intro f h j
    pointwise []
  refine slots_of _ (fun j => (V m c main_v58 : Vec Ideal S1x384 .f32) (ix2 0 j)) (fun l => ?_) (fun l => ?_) (fun l => ?_) j
  · simp only [V, hostOps0, hostOps0_1, hostOps0_2, hostOps0_3, hostOps0_4, hostOps0_5, hostOps0_6, hostOps0_7, hostOps0_8, hostOps0_9, hostOps0_10,
      hostOps0_11, hostOps0_12, List.flatten_cons, List.flatten_nil, List.append_nil, List.cons_append, List.nil_append]
    after_reads_simp
    rw [e]
    refine (cat3 _ _ _ l _).1.trans ?_
    first
      | change (StableHlo.upto _ _ _ (Proc.devRef .tc main_v42) : Vec Ideal S128 .f32) _ = _
      | change (HloOp.result _ _ (Proc.devRef .tc main_v42) : Vec Ideal S128 .f32) _ = _
    after_reads_simp
    change (pad S128 ![0] ![96] ![0] (extractStridedSlice S32 ![1536] (m ((c : Thread nD τ).loc main_arg3)) slices_S1696_S32_1536)
        (sitofp (F := Ideal) .f32 (constantI S_ 32 0#32)) pads_S32_S128_0960 h_S_ : Vec Ideal S128 .f32) (ix1 l) = _
    pointwise []
    rw [zero_word]
  · simp only [V, hostOps0, hostOps0_1, hostOps0_2, hostOps0_3, hostOps0_4, hostOps0_5, hostOps0_6, hostOps0_7, hostOps0_8, hostOps0_9, hostOps0_10,
      hostOps0_11, hostOps0_12, List.flatten_cons, List.flatten_nil, List.append_nil, List.cons_append, List.nil_append]
    after_reads_simp
    rw [e]
    refine (cat3 _ _ _ l _).2.1.trans ?_
    first
      | change (StableHlo.upto _ _ _ (Proc.devRef .tc main_v43) : Vec Ideal S128 .f32) _ = _
      | change (HloOp.result _ _ (Proc.devRef .tc main_v43) : Vec Ideal S128 .f32) _ = _
    after_reads_simp
    change (pad S128 ![0] ![96] ![0] (extractStridedSlice S32 ![1568] (m ((c : Thread nD τ).loc main_arg3)) slices_S1696_S32_1568)
        (sitofp (F := Ideal) .f32 (constantI S_ 32 0#32)) pads_S32_S128_0960 h_S_ : Vec Ideal S128 .f32) (ix1 l) = _
    pointwise []
    rw [zero_word]
    simp only [← Nat.add_assoc, Nat.reduceAdd]
  · simp only [V, hostOps0, hostOps0_1, hostOps0_2, hostOps0_3, hostOps0_4, hostOps0_5, hostOps0_6, hostOps0_7, hostOps0_8, hostOps0_9, hostOps0_10,
      hostOps0_11, hostOps0_12, List.flatten_cons, List.flatten_nil, List.append_nil, List.cons_append, List.nil_append]
    after_reads_simp
    rw [e]
    refine (cat3 _ _ _ l _).2.2.trans ?_
    first
      | change (StableHlo.upto _ _ _ (Proc.devRef .tc main_v44) : Vec Ideal S128 .f32) _ = _
      | change (HloOp.result _ _ (Proc.devRef .tc main_v44) : Vec Ideal S128 .f32) _ = _
    after_reads_simp
    change (pad S128 ![0] ![32] ![0] (extractStridedSlice S96 ![1600] (m ((c : Thread nD τ).loc main_arg3)) slices_S1696_S96_1600)
        (sitofp (F := Ideal) .f32 (constantI S_ 32 0#32)) pads_S96_S128_0320 h_S_ : Vec Ideal S128 .f32) (ix1 l) = _
    pointwise []
    rw [zero_word]
    simp only [← Nat.add_assoc, Nat.reduceAdd]

/-- The weights of the low-rank columns, each of the three in its own slot. -/
theorem at_v53 (i : Fin 1024) (j : Fin 384) : (V m c main_v53 : Vec Ideal S1024x384 .bf16) (ix2 i j)
    = slots (fun l => (m ((c : Thread nD τ).loc main_arg2) : Vec Ideal S1024x6048 .f32) (ix2 i ⟨3840 + l.val, by omega⟩)) j := by
  have e : ∀ (f : FVec Ideal S1024x384 .f32) (h) (j : Fin 384), truncf (F := Ideal) .bf16 f h (ix2 i j) = f (ix2 i j) := fun f h j => rfl
  refine slots_of _ (fun j => (V m c main_v53 : Vec Ideal S1024x384 .bf16) (ix2 i j)) (fun l => ?_) (fun l => ?_) (fun l => ?_) j
  · simp only [V, hostOps0, hostOps0_1, hostOps0_2, hostOps0_3, hostOps0_4, hostOps0_5, hostOps0_6, hostOps0_7, hostOps0_8, hostOps0_9, hostOps0_10,
      hostOps0_11, hostOps0_12, List.flatten_cons, List.flatten_nil, List.append_nil, List.cons_append, List.nil_append]
    after_reads_simp
    refine (e _ _ _).trans ?_
    refine (cat3w _ _ _ i l _).1.trans ?_
    first
      | change (StableHlo.upto _ _ _ (Proc.devRef .tc main_v35) : Vec Ideal S1024x128 .f32) _ = _
      | change (HloOp.result _ _ (Proc.devRef .tc main_v35) : Vec Ideal S1024x128 .f32) _ = _
    after_reads_simp
    change (pad S1024x128 ![0, 0] ![0, 96] ![0, 0] (extractStridedSlice S1024x32 ![0, 3840] (m ((c : Thread nD τ).loc main_arg2)) slices_S1024x6048_S1024x32_0_3840)
        (sitofp (F := Ideal) .f32 (constantI S_ 32 0#32)) pads_S1024x32_S1024x128_000_0960 h_S_ : Vec Ideal S1024x128 .f32) (ix2 i l) = _
    pointwise []
    rw [zero_word]
  · simp only [V, hostOps0, hostOps0_1, hostOps0_2, hostOps0_3, hostOps0_4, hostOps0_5, hostOps0_6, hostOps0_7, hostOps0_8, hostOps0_9, hostOps0_10,
      hostOps0_11, hostOps0_12, List.flatten_cons, List.flatten_nil, List.append_nil, List.cons_append, List.nil_append]
    after_reads_simp
    refine (e _ _ _).trans ?_
    refine (cat3w _ _ _ i l _).2.1.trans ?_
    first
      | change (StableHlo.upto _ _ _ (Proc.devRef .tc main_v36) : Vec Ideal S1024x128 .f32) _ = _
      | change (HloOp.result _ _ (Proc.devRef .tc main_v36) : Vec Ideal S1024x128 .f32) _ = _
    after_reads_simp
    change (pad S1024x128 ![0, 0] ![0, 96] ![0, 0] (extractStridedSlice S1024x32 ![0, 3872] (m ((c : Thread nD τ).loc main_arg2)) slices_S1024x6048_S1024x32_0_3872)
        (sitofp (F := Ideal) .f32 (constantI S_ 32 0#32)) pads_S1024x32_S1024x128_000_0960 h_S_ : Vec Ideal S1024x128 .f32) (ix2 i l) = _
    pointwise []
    rw [zero_word]
    simp only [← Nat.add_assoc, Nat.reduceAdd]
  · simp only [V, hostOps0, hostOps0_1, hostOps0_2, hostOps0_3, hostOps0_4, hostOps0_5, hostOps0_6, hostOps0_7, hostOps0_8, hostOps0_9, hostOps0_10,
      hostOps0_11, hostOps0_12, List.flatten_cons, List.flatten_nil, List.append_nil, List.cons_append, List.nil_append]
    after_reads_simp
    refine (e _ _ _).trans ?_
    refine (cat3w _ _ _ i l _).2.2.trans ?_
    first
      | change (StableHlo.upto _ _ _ (Proc.devRef .tc main_v37) : Vec Ideal S1024x128 .f32) _ = _
      | change (HloOp.result _ _ (Proc.devRef .tc main_v37) : Vec Ideal S1024x128 .f32) _ = _
    after_reads_simp
    change (pad S1024x128 ![0, 0] ![0, 32] ![0, 0] (extractStridedSlice S1024x96 ![0, 3904] (m ((c : Thread nD τ).loc main_arg2)) slices_S1024x6048_S1024x96_0_3904)
        (sitofp (F := Ideal) .f32 (constantI S_ 32 0#32)) pads_S1024x96_S1024x128_000_0320 h_S_ : Vec Ideal S1024x128 .f32) (ix2 i l) = _
    pointwise []
    rw [zero_word]
    simp only [← Nat.add_assoc, Nat.reduceAdd]

end Cert.Projection.Ker

end
-- ==== Proof.Inp.Rope.lean ====
/- The projection call's arrays, cut from the arguments before the call, read at an element. -/
module

public import proofs.«01_k».proof.Proof.Inp.Cat
public import proofs.«01_k».proof.Proof.Gen.InpIdeal.Frame.Runs
public import Idealize.ShloMosaic.Lib.Claim
public import Idealize.ShloMosaic.Lib.StableHlo.RunRead

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD)

/-- Two tables of 32 columns put side by side and repeated for the two heads of 128 lanes. -/
theorem tile (a b : S8192x32.Idx → EReal) (s : Fin 8192) (l : Fin 128) (h1 h2 h3) (hc : Shape.Concatenates [S8192x32, S8192x32] S8192x64 1) :
    shapeCast S8192x128 (broadcastInDim S1x8192x2x64 ![0, 1, 2, 3] h2 (shapeCast S1x8192x1x64 (concatenate S8192x64 1 [⟨S8192x32, a⟩, ⟨S8192x32, b⟩] hc) h1)) h3 (ix2 s l)
      = if l.val % 64 < 32 then a (ix2 s ⟨l.val % 32, Nat.mod_lt _ (by decide)⟩) else b (ix2 s ⟨l.val % 32, Nat.mod_lt _ (by decide)⟩) := by
  have e : ∀ f : S8192x64.Idx → EReal, shapeCast S8192x128 (broadcastInDim S1x8192x2x64 ![0, 1, 2, 3] h2 (shapeCast S1x8192x1x64 f h1)) h3 (ix2 s l)
      = f (ix2 s ⟨l.val % 64, Nat.mod_lt _ (by decide)⟩) := by
    intro f
    pointwise []
  rw [e]
  have en : ∀ (n n' : ℕ) (h h'), n = n' → ∀ f : S8192x64.Idx → EReal, f (ix2 s ⟨n, h⟩) = f (ix2 s ⟨n', h'⟩) := by
    intro n n' h h' q f; subst q; rfl
  by_cases hl : l.val % 64 < 32
  · rw [if_pos hl]
    refine (en _ (l.val % 32) _ (by omega) (by omega) _).trans ?_
    exact (cat2 a b s ⟨l.val % 32, by omega⟩ hc).1
  · rw [if_neg hl]
    refine (en _ (32 + l.val % 32) _ (by omega) (by omega) _).trans ?_
    exact (cat2 a b s ⟨l.val % 32, by omega⟩ hc).2

/-- A table times the factor of the scores. -/
theorem scaled (f : FVec Ideal S8192x128 .f32) (h) (i : S8192x128.Idx) :
    mulf (F := Ideal) f (broadcastInDim S8192x128 ![] h (constant S_ .f32 0x3E000000#32)) i = (f i * c8 : EReal) := by
  refine congrArg (f i * ·) ?_
  rfl

/-- The cosines of the queries, scaled. -/
theorem rope0 (s : Fin 8192) (l : Fin 128) : (V m c main_v31 : Vec Ideal S8192x512 .f32) (ix2 s ⟨l.val, by omega⟩) = (coT s l * c8 : EReal) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_reads_simp
  refine (cat4 _ _ _ _ s l _).1.trans ?_
  first
    | change (StableHlo.upto _ _ _ (Proc.devRef .tc main_v28) : Vec Ideal S8192x128 .f32) _ = _
    | change (HloOp.result _ _ (Proc.devRef .tc main_v28) : Vec Ideal S8192x128 .f32) _ = _
  after_reads_simp
  refine (scaled _ _ _).trans (congrArg (· * c8) ?_)
  refine (tile _ _ s l _ _ _ _).trans ?_
  have e : ∀ x : EReal, x = coT s l → (if l.val % 64 < 32 then x else x) = coT s l := fun x q => by rw [ite_self, q]
  refine e _ ?_
  first
    | change (StableHlo.upto _ _ _ (Proc.devRef .tc main_v16) : Vec Ideal S8192x32 .f32) _ = _
    | change (HloOp.result _ _ (Proc.devRef .tc main_v16) : Vec Ideal S8192x32 .f32) _ = _
  after_reads_simp
  pointwise []
  rfl

/-- The signed sines of the queries, scaled. -/
theorem rope1 (s : Fin 8192) (l : Fin 128) : (V m c main_v31 : Vec Ideal S8192x512 .f32) (ix2 s ⟨128 + l.val, by omega⟩) = (siT s l * c8 : EReal) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_reads_simp
  refine (cat4 _ _ _ _ s l _).2.1.trans ?_
  first
    | change (StableHlo.upto _ _ _ (Proc.devRef .tc main_v30) : Vec Ideal S8192x128 .f32) _ = _
    | change (HloOp.result _ _ (Proc.devRef .tc main_v30) : Vec Ideal S8192x128 .f32) _ = _
  after_reads_simp
  refine (scaled _ _ _).trans (congrArg (· * c8) ?_)
  refine (tile _ _ s l _ _ _ _).trans ?_
  unfold siT
  refine congrArg₂ (fun x y : EReal => if l.val % 64 < 32 then x else y) ?_ ?_
  · first
      | change (StableHlo.upto _ _ _ (Proc.devRef .tc main_v22) : Vec Ideal S8192x32 .f32) _ = _
      | change (HloOp.result _ _ (Proc.devRef .tc main_v22) : Vec Ideal S8192x32 .f32) _ = _
    after_reads_simp
    pointwise []
    rfl
  · first
      | change (StableHlo.upto _ _ _ (Proc.devRef .tc main_v17) : Vec Ideal S8192x32 .f32) _ = _
      | change (HloOp.result _ _ (Proc.devRef .tc main_v17) : Vec Ideal S8192x32 .f32) _ = _
    after_reads_simp
    pointwise []
    rfl

/-- The cosines of the keys. -/
theorem rope2 (s : Fin 8192) (l : Fin 128) : (V m c main_v31 : Vec Ideal S8192x512 .f32) (ix2 s ⟨256 + l.val, by omega⟩) = (coT s l : EReal) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_reads_simp
  refine (cat4 _ _ _ _ s l _).2.2.1.trans ?_
  first
    | change (StableHlo.upto _ _ _ (Proc.devRef .tc main_v21) : Vec Ideal S8192x128 .f32) _ = _
    | change (HloOp.result _ _ (Proc.devRef .tc main_v21) : Vec Ideal S8192x128 .f32) _ = _
  after_reads_simp
  refine (tile _ _ s l _ _ _ _).trans ?_
  have e : ∀ x : EReal, x = coT s l → (if l.val % 64 < 32 then x else x) = coT s l := fun x q => by rw [ite_self, q]
  refine e _ ?_
  first
    | change (StableHlo.upto _ _ _ (Proc.devRef .tc main_v16) : Vec Ideal S8192x32 .f32) _ = _
    | change (HloOp.result _ _ (Proc.devRef .tc main_v16) : Vec Ideal S8192x32 .f32) _ = _
  after_reads_simp
  pointwise []
  rfl

/-- The signed sines of the keys. -/
theorem rope3 (s : Fin 8192) (l : Fin 128) : (V m c main_v31 : Vec Ideal S8192x512 .f32) (ix2 s ⟨384 + l.val, by omega⟩) = (siT s l : EReal) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_reads_simp
  refine (cat4 _ _ _ _ s l _).2.2.2.trans ?_
  first
    | change (StableHlo.upto _ _ _ (Proc.devRef .tc main_v26) : Vec Ideal S8192x128 .f32) _ = _
    | change (HloOp.result _ _ (Proc.devRef .tc main_v26) : Vec Ideal S8192x128 .f32) _ = _
  after_reads_simp
  refine (tile _ _ s l _ _ _ _).trans ?_
  unfold siT
  refine congrArg₂ (fun x y : EReal => if l.val % 64 < 32 then x else y) ?_ ?_
  · first
      | change (StableHlo.upto _ _ _ (Proc.devRef .tc main_v22) : Vec Ideal S8192x32 .f32) _ = _
      | change (HloOp.result _ _ (Proc.devRef .tc main_v22) : Vec Ideal S8192x32 .f32) _ = _
    after_reads_simp
    pointwise []
    rfl
  · first
      | change (StableHlo.upto _ _ _ (Proc.devRef .tc main_v17) : Vec Ideal S8192x32 .f32) _ = _
      | change (HloOp.result _ _ (Proc.devRef .tc main_v17) : Vec Ideal S8192x32 .f32) _ = _
    after_reads_simp
    pointwise []
    rfl

end Cert.Projection.Ker

end
-- ==== Proof.Inp.Blocks.lean ====
/- The projection call's blocks at a grid point, read at an element of the arguments. -/
module

public import proofs.«01_k».proof.Proof.Inp.Pay
public import proofs.«01_k».proof.Proof.Inp.Facts
public import proofs.«01_k».proof.Proof.Inp.Host
public import proofs.«01_k».proof.Proof.Inp.Lora
public import proofs.«01_k».proof.Proof.Inp.Rope
public import proofs.«01_k».proof.Proof.Gen.InpIdeal.Value
public import Idealize.ShloMosaic.Lib.Claim

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD)

/-- Which block each window holds at a grid point. -/
theorem idx : ∀ t : Fin cfg0.N,
    win0_0.index t = ![t.val / 32, t.val % 32, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val % 32, 0]
    ∧ win0_8.index t = ![0, 0] ∧ win0_9.index t = ![0, 0] ∧ win0_10.index t = ![t.val / 32, t.val % 32, 0] ∧ win0_11.index t = ![t.val / 32, t.val % 32, 0]
    ∧ win0_12.index t = ![t.val / 32, t.val % 32, 0] ∧ win0_13.index t = ![t.val / 32, t.val % 32, 0] :=
  (by decide +kernel : ∀ t : Fin grid0.N, _)

/-- The grid has 128 points. -/
theorem point_lt (t : Fin cfg0.N) : t.val < 128 := lt_of_lt_of_eq t.isLt (by decide +kernel)

/-- The sequence of a grid point. -/
def bat (t : Fin cfg0.N) : Fin 4 := ⟨t.val / 32, by have := point_lt t; omega⟩

/-- The position of a row of a grid point's tile. -/
def pos (t : Fin cfg0.N) (r : Fin 256) : Fin 8192 := ⟨t.val % 32 * 256 + r.val, by omega⟩

variable (t : Fin cfg0.N)

/-- The tokens' block. -/
theorem e0 (r : Fin 256) (k : Fin 1024) : (iblk m c 0 t : Vec Ideal S1x256x1024 .f32) (ix3 0 r k)
    = (m ((c : Thread nD τ).loc main_arg0) : Vec Ideal S4x8192x1024 .f32) (ix3 (bat t) (pos t r) k) := by
  unfold bat pos
  blk_point [iblk, V, idx t]

/-- The scale's block. -/
theorem e1 (k : Fin 1024) : (iblk m c 1 t : Vec Ideal S1x1024 .f32) (ix2 0 k) = (m ((c : Thread nD τ).loc main_arg1) : Vec Ideal S1024 .f32) (ix1 k) := by
  refine Eq.trans ?_ (at_v46 m c k)
  blk_point [iblk, idx t]

/-- The query and key weights' block. -/
theorem e2 (i : Fin 1024) (j : Fin 1536) : (iblk m c 2 t : Vec Ideal S1024x1536 .bf16) (ix2 i j)
    = (m ((c : Thread nD τ).loc main_arg2) : Vec Ideal S1024x6048 .f32) (ix2 i ⟨j.val, by omega⟩) := by
  refine Eq.trans ?_ (at_v48 m c i j)
  blk_point [iblk, idx t]

/-- The value weights' block. -/
theorem e3 (i : Fin 1024) (j : Fin 768) : (iblk m c 3 t : Vec Ideal S1024x768 .bf16) (ix2 i j)
    = (m ((c : Thread nD τ).loc main_arg2) : Vec Ideal S1024x6048 .f32) (ix2 i ⟨1536 + j.val, by omega⟩) := by
  refine Eq.trans ?_ (at_v50 m c i j)
  blk_point [iblk, idx t]

/-- The recurrence weights' block. -/
theorem e4 (i : Fin 1024) (j : Fin 1536) : (iblk m c 4 t : Vec Ideal S1024x1536 .bf16) (ix2 i j)
    = (m ((c : Thread nD τ).loc main_arg2) : Vec Ideal S1024x6048 .f32) (ix2 i ⟨2304 + j.val, by omega⟩) := by
  refine Eq.trans ?_ (at_v52 m c i j)
  blk_point [iblk, idx t]

/-- The gate weights' block. -/
theorem e6 (i : Fin 1024) (j : Fin 2048) : (iblk m c 6 t : Vec Ideal S1024x2048 .bf16) (ix2 i j)
    = (m ((c : Thread nD τ).loc main_arg2) : Vec Ideal S1024x6048 .f32) (ix2 i ⟨4000 + j.val, by omega⟩) := by
  refine Eq.trans ?_ (at_v55 m c i j)
  blk_point [iblk, idx t]

/-- The low-rank weights' block. -/
theorem e5 (i : Fin 1024) (j : Fin 384) : (iblk m c 5 t : Vec Ideal S1024x384 .bf16) (ix2 i j)
    = slots (fun l => (m ((c : Thread nD τ).loc main_arg2) : Vec Ideal S1024x6048 .f32) (ix2 i ⟨3840 + l.val, by omega⟩)) j := by
  refine Eq.trans ?_ (at_v53 m c i j)
  blk_point [iblk, idx t]

/-- The rotation table's block. -/
theorem e7 (r : Fin 256) (l : Fin 512) : (iblk m c 7 t : Vec Ideal S256x512 .f32) (ix2 r l) = (V m c main_v31 : Vec Ideal S8192x512 .f32) (ix2 (pos t r) l) := by
  unfold pos
  blk_point [iblk, idx t]

/-- The shift factors' block. -/
theorem e8 (j : Fin 1536) : (iblk m c 8 t : Vec Ideal S1x1536 .f32) (ix2 0 j) = (m ((c : Thread nD τ).loc main_arg3) : Vec Ideal S1696 .f32) (ix1 ⟨j.val, by omega⟩) := by
  refine Eq.trans ?_ (at_v57 m c j)
  blk_point [iblk, idx t]

/-- The low-rank shift factors' block. -/
theorem e9 (j : Fin 384) : (iblk m c 9 t : Vec Ideal S1x384 .f32) (ix2 0 j)
    = slots (fun l => (m ((c : Thread nD τ).loc main_arg3) : Vec Ideal S1696 .f32) (ix1 ⟨1536 + l.val, by omega⟩)) j := by
  refine Eq.trans ?_ (at_v58 m c j)
  blk_point [iblk, idx t]

/-- The projected columns of every token, from the arguments. -/
def zm (b : Fin 4) (s : Fin 8192) (j : Fin 6048) : EReal :=
  cols (fun b s k => (m ((c : Thread nD τ).loc main_arg0) : Vec Ideal S4x8192x1024 .f32) (ix3 b s k))
    (fun k => (m ((c : Thread nD τ).loc main_arg1) : Vec Ideal S1024 .f32) (ix1 k))
    (fun i j => (m ((c : Thread nD τ).loc main_arg2) : Vec Ideal S1024x6048 .f32) (ix2 i j)) b s j

/-- The shift factors, from the arguments. -/
def mum (j : Fin 1696) : EReal := (m ((c : Thread nD τ).loc main_arg3) : Vec Ideal S1696 .f32) (ix1 j)

/-- The tile's normalized rows. -/
theorem q3 (r : Fin 256) : (fun k => k0_pay3 (iblk m c 0 t) (iblk m c 1 t) (ix2 r k))
    = FeedForward.nrm (fun k => (m ((c : Thread nD τ).loc main_arg0) : Vec Ideal S4x8192x1024 .f32) (ix3 (bat t) (pos t r) k))
      (fun k => (m ((c : Thread nD τ).loc main_arg1) : Vec Ideal S1024 .f32) (ix1 k)) := by
  funext k
  refine (pay3_apply _ _ r k).trans ?_
  simp only [e0, e1]

/-- The tile's query and key columns. -/
theorem q4 (r : Fin 256) (j : Fin 1536) : k0_pay4 (iblk m c 0 t) (iblk m c 1 t) (iblk m c 2 t) (ix2 r j)
    = zm m c (bat t) (pos t r) ⟨j.val, by omega⟩ := by
  refine (pay4_apply _ _ _ r j).trans ?_
  simp only [e0, e1, e2]
  rfl

/-- The tile's value columns. -/
theorem q27 (r : Fin 256) (j : Fin 768) : k0_pay27 (k0_pay3 (iblk m c 0 t) (iblk m c 1 t)) (iblk m c 3 t) (ix3 0 r j)
    = zm m c (bat t) (pos t r) ⟨1536 + j.val, by omega⟩ := by
  refine (pay27_apply _ _ r j).trans ?_
  simp only [q3, e3]
  rfl

/-- The tile's shifted columns before the shift. -/
theorem q31 (r : Fin 256) (j : Fin 1536) : k0_pay31 (k0_pay3 (iblk m c 0 t) (iblk m c 1 t)) (iblk m c 4 t) (ix2 r j)
    = zm m c (bat t) (pos t r) ⟨2304 + j.val, by omega⟩ := by
  refine (pay31_apply _ _ r j).trans ?_
  simp only [q3, e4]
  rfl

/-- The tile's gates. -/
theorem q2 (r : Fin 256) (j : Fin 2048) : k0_pay2 (k0_pay3 (iblk m c 0 t) (iblk m c 1 t)) (iblk m c 6 t) (ix3 0 r j)
    = Ideal.logistic (zm m c (bat t) (pos t r) ⟨4000 + j.val, by omega⟩) := by
  refine (pay2_apply _ _ r j).trans ?_
  simp only [q3, e6]
  rfl

/-- The tile's low-rank columns before the shift. -/
theorem q35 (r : Fin 256) (j : Fin 384) : k0_pay35 (k0_pay3 (iblk m c 0 t) (iblk m c 1 t)) (iblk m c 5 t) (ix2 r j)
    = slots (fun l => zm m c (bat t) (pos t r) ⟨3840 + l.val, by omega⟩) j := by
  refine (pay35_apply _ _ r j).trans ?_
  simp only [q3, e5]
  exact mv_slots _ _ j

/-- A tile's element of the whole result 0. -/
theorem y10 (r : Fin 256) (j : Fin 2304) : ((View.whole main_v59_0).slice (win0_10.rect t)).emb (ix3 0 r j) = ix3 (bat t) (pos t r) j := by
  blk_ext
  · rw [(idx t).2.2.2.2.2.2.2.2.2.2.1]; rfl
  · rw [(idx t).2.2.2.2.2.2.2.2.2.2.1]; rfl
  · rw [(idx t).2.2.2.2.2.2.2.2.2.2.1]; exact Nat.zero_add _

/-- A tile's element of the whole result 1. -/
theorem y11 (r : Fin 256) (j : Fin 1536) : ((View.whole main_v59_1).slice (win0_11.rect t)).emb (ix3 0 r j) = ix3 (bat t) (pos t r) j := by
  blk_ext
  · rw [(idx t).2.2.2.2.2.2.2.2.2.2.2.1]; rfl
  · rw [(idx t).2.2.2.2.2.2.2.2.2.2.2.1]; rfl
  · rw [(idx t).2.2.2.2.2.2.2.2.2.2.2.1]; exact Nat.zero_add _

/-- A tile's element of the whole result 2. -/
theorem y12 (r : Fin 256) (j : Fin 384) : ((View.whole main_v59_2).slice (win0_12.rect t)).emb (ix3 0 r j) = ix3 (bat t) (pos t r) j := by
  blk_ext
  · rw [(idx t).2.2.2.2.2.2.2.2.2.2.2.2.1]; rfl
  · rw [(idx t).2.2.2.2.2.2.2.2.2.2.2.2.1]; rfl
  · rw [(idx t).2.2.2.2.2.2.2.2.2.2.2.2.1]; exact Nat.zero_add _

/-- A tile's element of the whole result 3. -/
theorem y13 (r : Fin 256) (j : Fin 2048) : ((View.whole main_v59_3).slice (win0_13.rect t)).emb (ix3 0 r j) = ix3 (bat t) (pos t r) j := by
  blk_ext
  · rw [(idx t).2.2.2.2.2.2.2.2.2.2.2.2.2]; rfl
  · rw [(idx t).2.2.2.2.2.2.2.2.2.2.2.2.2]; rfl
  · rw [(idx t).2.2.2.2.2.2.2.2.2.2.2.2.2]; exact Nat.zero_add _

end Cert.Projection.Ker

end
-- ==== Proof.Inp.TileH.lean ====
/- A chunk of two heads, turned. -/
module

public import proofs.«01_k».proof.Proof.Inp.Blocks

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD) (t : Fin cfg0.N)

/-- A chunk of two heads turned by its lane tables. -/
def chunk (o : ℕ) (ho : S256x1536.Slices ![0, o] S256x128) (z : FVec Ideal S256x1536 .f32) (a b : Vec Ideal S256x128 .f32) : FVec Ideal S1x256x128 .bf16 :=
  shapeCast S1x256x128 (truncf .bf16 (addf (mulf (extractStridedSlice S256x128 ![0, o] z ho) (shapeCast S256x128 a shapeCasts_S256x128_S256x128))
    (mulf (select (broadcastTo S256x128 (shapeCast S1x128 k0_pay5 shapeCasts_S1x128_S1x128) broadcasts_S1x128_S256x128)
      (dynamicRotate 1 96#32 none (extractStridedSlice S256x128 ![0, o] z ho) rotates_S256x128_d1)
      (dynamicRotate 1 32#32 none (extractStridedSlice S256x128 ![0, o] z ho) rotates_S256x128_d1)) (shapeCast S256x128 b shapeCasts_S256x128_S256x128))) bitsLt_bf16_f32)
    shapeCasts_S256x128_S1x256x128

/-- A lane of a chunk. -/
theorem chunk_apply (o : ℕ) (hm : o % 128 = 0) (ho : S256x1536.Slices ![0, o] S256x128) (z : FVec Ideal S256x1536 .f32) (a b : Vec Ideal S256x128 .f32) (r : Fin 256) (l : Fin 128)
    (j : Fin 1536) (hj : j.val = o + l.val) :
    chunk o ho z a b (ix3 0 r l) = turn (fun j => z (ix2 r j)) (fun l => a (ix2 r l)) (fun l => b (ix2 r l)) j := by
  unfold chunk
  generalize e : k0_pay5 = k
  pointwise []
  subst e
  exact turn_lane (fun j => z (ix2 r j)) (fun l => a (ix2 r l)) (fun l => b (ix2 r l)) o l j ⟨o + l.val, by omega⟩
    ⟨o + (l.val + 128 - 96) % 128, by omega⟩ ⟨o + (l.val + 128 - 32) % 128, by omega⟩ hm hj hj.symm rfl rfl

/-- A load of a chunk of the rotation table. -/
theorem ld_table (x : Vec Ideal S256x512 .f32) (o : ℕ) (inb) (r : Fin 256) (l : Fin 128) (q : Fin 512) (h : q.val = o + l.val) :
    View.ld x (Rect.unit (s := S256x512) ![0, o] ![256, 128] inb) (ix2 r l) = x (ix2 r q) := by
  refine View.ld_unit_apply_of x _ _ _ _ _ fun d => ?_
  match d with
  | ⟨0, _⟩ => exact (Nat.zero_add _).symm
  | ⟨1, _⟩ => exact h

/-- A lane of a chunk of queries: rotated and scaled. -/
theorem chunk_q (o : ℕ) (hm : o % 128 = 0) (ho : S256x1536.Slices ![0, o] S256x128) (z : FVec Ideal S256x1536 .f32) (inb inb') (r : Fin 256) (l : Fin 128)
    (j : Fin 1536) (hj : j.val = o + l.val) :
    chunk o ho z (View.ld (iblk m c 7 t : Vec Ideal S256x512 .f32) (Rect.unit (s := S256x512) ![0, 0] ![256, 128] inb))
      (View.ld (iblk m c 7 t : Vec Ideal S256x512 .f32) (Rect.unit (s := S256x512) ![0, 128] ![256, 128] inb')) (ix3 0 r l)
      = rot (fun j => z (ix2 r j)) (cs (pos t r)) (sn (pos t r)) j * c8 := by
  refine (chunk_apply o hm ho z _ _ r l j hj).trans ?_
  rw [← turn_scaled]
  congr 1
  · funext l
    rw [← rope0 m c (pos t r) l]
    exact (ld_table _ 0 inb r l ⟨l.val, by omega⟩ (Nat.zero_add _).symm).trans (e7 m c t r _)
  · funext l
    rw [← rope1 m c (pos t r) l]
    exact (ld_table _ 128 inb' r l ⟨128 + l.val, by omega⟩ rfl).trans (e7 m c t r _)

/-- A lane of a chunk of keys: rotated. -/
theorem chunk_k (o : ℕ) (hm : o % 128 = 0) (ho : S256x1536.Slices ![0, o] S256x128) (z : FVec Ideal S256x1536 .f32) (inb inb') (r : Fin 256) (l : Fin 128)
    (j : Fin 1536) (hj : j.val = o + l.val) :
    chunk o ho z (View.ld (iblk m c 7 t : Vec Ideal S256x512 .f32) (Rect.unit (s := S256x512) ![0, 256] ![256, 128] inb))
      (View.ld (iblk m c 7 t : Vec Ideal S256x512 .f32) (Rect.unit (s := S256x512) ![0, 384] ![256, 128] inb')) (ix3 0 r l)
      = rot (fun j => z (ix2 r j)) (cs (pos t r)) (sn (pos t r)) j := by
  refine (chunk_apply o hm ho z _ _ r l j hj).trans ?_
  rw [← turn_rot]
  congr 1
  · funext l
    rw [← rope2 m c (pos t r) l]
    exact (ld_table _ 256 inb r l ⟨256 + l.val, by omega⟩ rfl).trans (e7 m c t r _)
  · funext l
    rw [← rope3 m c (pos t r) l]
    exact (ld_table _ 384 inb' r l ⟨384 + l.val, by omega⟩ rfl).trans (e7 m c t r _)

/-- The tile's row of query and key columns. -/
def hrow (b : Fin 4) (s : Fin 8192) (j : Fin 1536) : EReal := zm m c b s ⟨j.val, by omega⟩

/-- A piece of the tile holding a chunk of queries. -/
theorem piece_q (o : ℕ) (hm : o % 128 = 0) (hl : o < 768) (ho : S256x1536.Slices ![0, o] S256x128) (z : FVec Ideal S256x1536 .f32) (inb inb')
    (r : Fin 256) (hz : ∀ j, z (ix2 r j) = hrow m c (bat t) (pos t r) j) (x : S1x256x128.Idx) (j : Fin 2304)
    (h1 : r.val = (x 1).val) (h2 : j.val = o + (x 2).val) :
    chunk o ho z (View.ld (iblk m c 7 t : Vec Ideal S256x512 .f32) (Rect.unit (s := S256x512) ![0, 0] ![256, 128] inb))
      (View.ld (iblk m c 7 t : Vec Ideal S256x512 .f32) (Rect.unit (s := S256x512) ![0, 128] ![256, 128] inb')) x
      = heads (zm m c (bat t) (pos t r)) (cs (pos t r)) (sn (pos t r)) j := by
  obtain ⟨r', l, rfl⟩ : ∃ (r : Fin 256) (l : Fin 128), x = ix3 0 r l := ⟨x 1, x 2, by blk_ext⟩
  obtain rfl : r = r' := Fin.ext h1
  have h2' : j.val = o + l.val := h2
  have hj : j.val < 1536 := by omega
  refine (chunk_q m c t o hm ho z inb inb' r l ⟨j.val, hj⟩ h2').trans ?_
  unfold heads
  rw [dif_pos hj, if_pos (by omega), funext hz]
  rfl

/-- A piece of the tile holding a chunk of keys. -/
theorem piece_k (o : ℕ) (hm : o % 128 = 0) (hl : 768 ≤ o) (hu : o < 1536) (ho : S256x1536.Slices ![0, o] S256x128) (z : FVec Ideal S256x1536 .f32) (inb inb')
    (r : Fin 256) (hz : ∀ j, z (ix2 r j) = hrow m c (bat t) (pos t r) j) (x : S1x256x128.Idx) (j : Fin 2304)
    (h1 : r.val = (x 1).val) (h2 : j.val = o + (x 2).val) :
    chunk o ho z (View.ld (iblk m c 7 t : Vec Ideal S256x512 .f32) (Rect.unit (s := S256x512) ![0, 256] ![256, 128] inb))
      (View.ld (iblk m c 7 t : Vec Ideal S256x512 .f32) (Rect.unit (s := S256x512) ![0, 384] ![256, 128] inb')) x
      = heads (zm m c (bat t) (pos t r)) (cs (pos t r)) (sn (pos t r)) j := by
  obtain ⟨r', l, rfl⟩ : ∃ (r : Fin 256) (l : Fin 128), x = ix3 0 r l := ⟨x 1, x 2, by blk_ext⟩
  obtain rfl : r = r' := Fin.ext h1
  have h2' : j.val = o + l.val := h2
  have hj : j.val < 1536 := by omega
  refine (chunk_k m c t o hm ho z inb inb' r l ⟨j.val, hj⟩ h2').trans ?_
  unfold heads
  rw [dif_pos hj, if_neg (by omega), funext hz]
  rfl

end Cert.Projection.Ker

end
-- ==== Proof.Inp.OutH.lean ====
/- The attention columns the kernel leaves. -/
module

public import proofs.«01_k».proof.Proof.Inp.TileH

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD) (t : Fin cfg0.N)

/-- A piece of the tile holding the values. -/
theorem piece_v (r : Fin 256) (v : FVec Ideal S1x256x768 .bf16) (hv : ∀ j : Fin 768, v (ix3 0 r j) = zm m c (bat t) (pos t r) ⟨1536 + j.val, by omega⟩)
    (x : S1x256x768.Idx) (j : Fin 2304) (h1 : r.val = (x 1).val) (h2 : j.val = 1536 + (x 2).val) :
    v x = heads (zm m c (bat t) (pos t r)) (cs (pos t r)) (sn (pos t r)) j := by
  obtain ⟨r', l, rfl⟩ : ∃ (r : Fin 256) (l : Fin 768), x = ix3 0 r l := ⟨x 1, x 2, by blk_ext⟩
  obtain rfl : r = r' := Fin.ext h1
  have h2' : j.val = 1536 + l.val := h2
  rw [hv]
  unfold heads
  rw [dif_neg (by omega)]
  exact congrArg (zm m c (bat t) (pos t r)) (Fin.ext h2'.symm)

/-- A chunk of the rotation table. -/
abbrev col (x : Vec Ideal S256x512 .f32) (o : ℕ) (inb : ∀ a, ![0, o] a + ![256, 128] a ≤ S256x512.size a) : Vec Ideal S256x128 .f32 := View.ld x (Rect.unit (s := S256x512) ![0, o] ![256, 128] inb)

/-- The pieces of a tile: the values and the twelve chunks of queries and keys. -/
def parts (z : FVec Ideal S256x1536 .f32) (v : FVec Ideal S1x256x768 .bf16) (x : Vec Ideal S256x512 .f32) : List (View.Piece (Elt Ideal) S1x256x2304 .bf16) :=
  [⟨Rect.unit ![0, 0, 1536] ![1, 256, 768] inb_S1x256x2304_S1x256x768_0_0_1536, v⟩,
   ⟨Rect.unit ![0, 0, 1408] ![1, 256, 128] inb_S1x256x2304_S1x256x128_0_0_1408, k0_pay26 z k0_pay5 (k0_pay25 (col x 256 inb_S256x512_S256x128_0_256)) (col x 384 inb_S256x512_S256x128_0_384)⟩,
   ⟨Rect.unit ![0, 0, 1280] ![1, 256, 128] inb_S1x256x2304_S1x256x128_0_0_1280, k0_pay24 z k0_pay5 (col x 256 inb_S256x512_S256x128_0_256) (col x 384 inb_S256x512_S256x128_0_384)⟩,
   ⟨Rect.unit ![0, 0, 1152] ![1, 256, 128] inb_S1x256x2304_S1x256x128_0_0_1152, k0_pay23 z k0_pay5 (col x 256 inb_S256x512_S256x128_0_256) (col x 384 inb_S256x512_S256x128_0_384)⟩,
   ⟨Rect.unit ![0, 0, 1024] ![1, 256, 128] inb_S1x256x2304_S1x256x128_0_0_1024, k0_pay22 (k0_pay21 z k0_pay5 (col x 256 inb_S256x512_S256x128_0_256) (col x 384 inb_S256x512_S256x128_0_384))⟩,
   ⟨Rect.unit ![0, 0, 896] ![1, 256, 128] inb_S1x256x2304_S1x256x128_0_0_896, k0_pay20 z k0_pay5 (col x 256 inb_S256x512_S256x128_0_256) (col x 384 inb_S256x512_S256x128_0_384)⟩,
   ⟨Rect.unit ![0, 0, 768] ![1, 256, 128] inb_S1x256x2304_S1x256x128_0_0_768, k0_pay19 (k0_pay18 z k0_pay5 (col x 256 inb_S256x512_S256x128_0_256) (col x 384 inb_S256x512_S256x128_0_384))⟩,
   ⟨Rect.unit ![0, 0, 640] ![1, 256, 128] inb_S1x256x2304_S1x256x128_0_0_640, k0_pay17 z k0_pay5 (col x 0 inb_S256x512_S256x128_0_0) (col x 128 inb_S256x512_S256x128_0_128)⟩,
   ⟨Rect.unit ![0, 0, 512] ![1, 256, 128] inb_S1x256x2304_S1x256x128_0_0_512, k0_pay16 k0_pay5 (k0_pay11 (col x 0 inb_S256x512_S256x128_0_0)) (k0_pay12 (col x 128 inb_S256x512_S256x128_0_128)) (k0_pay13 z) (k0_pay14 z) (k0_pay15 z)⟩,
   ⟨Rect.unit ![0, 0, 384] ![1, 256, 128] inb_S1x256x2304_S1x256x128_0_0_384, k0_pay10 z k0_pay5 (col x 0 inb_S256x512_S256x128_0_0) (col x 128 inb_S256x512_S256x128_0_128)⟩,
   ⟨Rect.unit ![0, 0, 256] ![1, 256, 128] inb_S1x256x2304_S1x256x128_0_0_256, k0_pay9 z k0_pay5 (k0_pay8 (col x 0 inb_S256x512_S256x128_0_0)) (col x 128 inb_S256x512_S256x128_0_128)⟩,
   ⟨Rect.unit ![0, 0, 128] ![1, 256, 128] inb_S1x256x2304_S1x256x128_0_0_128, k0_pay7 z k0_pay5 (col x 0 inb_S256x512_S256x128_0_0) (col x 128 inb_S256x512_S256x128_0_128)⟩,
   ⟨Rect.unit ![0, 0, 0] ![1, 256, 128] inb_S1x256x2304_S1x256x128_0_0_0, k0_pay6 z k0_pay5 (col x 0 inb_S256x512_S256x128_0_0) (col x 128 inb_S256x512_S256x128_0_128)⟩]

/-- The pieces cover the tile. -/
theorem parts_cover (z : FVec Ideal S256x1536 .f32) (v : FVec Ideal S1x256x768 .bf16) (x : Vec Ideal S256x512 .f32) (y : S1x256x2304.Idx) :
    ∃ p ∈ parts z v x, y ∈ p.1.set :=
  View.cover_of_tiledBy (parts z v x) ![1, 256, 128] (by sl_kernel_rfl) y

/-- A tile, from its pieces. -/
theorem parts_apply (z : FVec Ideal S256x1536 .f32) (v : FVec Ideal S1x256x768 .bf16) (r : Fin 256) (hz : ∀ j, z (ix2 r j) = hrow m c (bat t) (pos t r) j)
    (hv : ∀ j : Fin 768, v (ix3 0 r j) = zm m c (bat t) (pos t r) ⟨1536 + j.val, by omega⟩) (y : S1x256x2304.Idx) (j : Fin 2304)
    (hy1 : (y 1).val = r.val) (hy2 : (y 2).val = j.val) :
    View.canon (parts z v (iblk m c 7 t)) y = heads (zm m c (bat t) (pos t r)) (cs (pos t r)) (sn (pos t r)) j := by
  have hcover := parts_cover z v (iblk m c 7 t) y
  unfold parts at hcover ⊢
  canon_tiles x hx using hcover
  · exact piece_v m c t r v hv x j (hy1.symm.trans hx1) (hy2.symm.trans hx2)
  · exact piece_k m c t 1408 rfl (by decide) (by decide) (by decide) z _ _ r hz x j (hy1.symm.trans hx1) (hy2.symm.trans hx2)
  · exact piece_k m c t 1280 rfl (by decide) (by decide) (by decide) z _ _ r hz x j (hy1.symm.trans hx1) (hy2.symm.trans hx2)
  · exact piece_k m c t 1152 rfl (by decide) (by decide) (by decide) z _ _ r hz x j (hy1.symm.trans hx1) (hy2.symm.trans hx2)
  · exact piece_k m c t 1024 rfl (by decide) (by decide) (by decide) z _ _ r hz x j (hy1.symm.trans hx1) (hy2.symm.trans hx2)
  · exact piece_k m c t 896 rfl (by decide) (by decide) (by decide) z _ _ r hz x j (hy1.symm.trans hx1) (hy2.symm.trans hx2)
  · exact piece_k m c t 768 rfl (by decide) (by decide) (by decide) z _ _ r hz x j (hy1.symm.trans hx1) (hy2.symm.trans hx2)
  · exact piece_q m c t 640 rfl (by decide) (by decide) z _ _ r hz x j (hy1.symm.trans hx1) (hy2.symm.trans hx2)
  · exact piece_q m c t 512 rfl (by decide) (by decide) z _ _ r hz x j (hy1.symm.trans hx1) (hy2.symm.trans hx2)
  · exact piece_q m c t 384 rfl (by decide) (by decide) z _ _ r hz x j (hy1.symm.trans hx1) (hy2.symm.trans hx2)
  · exact piece_q m c t 256 rfl (by decide) (by decide) z _ _ r hz x j (hy1.symm.trans hx1) (hy2.symm.trans hx2)
  · exact piece_q m c t 128 rfl (by decide) (by decide) z _ _ r hz x j (hy1.symm.trans hx1) (hy2.symm.trans hx2)
  · exact piece_q m c t 0 rfl (by decide) (by decide) z _ _ r hz x j (hy1.symm.trans hx1) (hy2.symm.trans (hx2.trans (Nat.zero_add _).symm))

/-- The attention columns, from the arguments. -/
def R0 : Buf (Elt Ideal) ((c : Thread nD τ).loc main_v59_0) := fun i => heads (zm m c (i 0) (i 1)) (cs (i 1)) (sn (i 1)) (i 2)

/-- The tile the kernel leaves at a grid point. -/
theorem tileH (r : Fin 256) (j : Fin 2304) :
    (outsAt0 m c t.val t.isLt).1 (ix3 0 r j) = heads (zm m c (bat t) (pos t r)) (cs (pos t r)) (sn (pos t r)) j := by
  by_cases h : t.val % 32 = 0
  · rw [outsAt0_A m c t h]; frame_out
    exact parts_apply m c t _ _ r (q4 m c t r) (q27 m c t r) (ix3 0 r j) j rfl rfl
  · rw [outsAt0_B m c t h]; frame_out
    exact parts_apply m c t _ _ r (q4 m c t r) (q27 m c t r) (ix3 0 r j) j rfl rfl

/-- The attention columns the kernel leaves. -/
theorem final0 : (dats m 0 c).arrAt 10 cfg0.N = R0 m c := by
  refine (dats m 0 c).arrAt_eq_of_covers 10 _ (by decide +kernel) fun t _ y => ?_
  blk_simp
  rw [after0_10]
  obtain ⟨r, j, rfl⟩ : ∃ (r : Fin 256) (j : Fin 2304), y = ix3 0 r j := ⟨y 1, y 2, by blk_ext⟩
  rw [tileH]
  exact (congrArg (R0 m c) (y10 t r j)).symm

end Cert.Projection.Ker

end
-- ==== Proof.Inp.Before.lean ====
/- The row before a row, over a tile. -/
module

public import proofs.«01_k».proof.Proof.Inp.Blocks

@[expose] public section

set_option maxRecDepth 16384

noncomputable section

namespace Cert.Projection.Ker

open Cert.InpIdeal Cert.InpIdeal.Gen Idealize.ShloMosaic Idealize.ShloMosaic.TcCoe Idealize.SL.Sem

variable (t : Fin cfg0.N)

/-- The row before, zero at the first. -/
def before {n : ℕ} (Z : Fin 8192 → Fin n → EReal) (s : Fin 8192) (j : Fin n) : EReal :=
  if h : 1 ≤ s.val then Z ⟨s.val - 1, by omega⟩ j else 0

/-- In a tile, the row above or the kept one is the row before. -/
theorem above_before {n : ℕ} (Z : Fin 8192 → Fin n → EReal) (p : Fin n → EReal) (hp : ∀ j, p j = before Z (pos t 0) j) (r : Fin 256) (j : Fin n) :
    above (fun r j => Z (pos t r) j) p r j = before Z (pos t r) j := by
  unfold above
  by_cases h : r.val = 0
  · obtain rfl : r = 0 := Fin.ext h
    exact (if_pos h).trans (hp j)
  · rw [if_neg h]
    unfold before
    have q : 1 ≤ (pos t r).val := by show 1 ≤ t.val % 32 * 256 + r.val; omega
    rw [dif_pos q]
    have e : pos t ⟨(r.val + 256 - 1) % 256, Nat.mod_lt _ (by decide)⟩ = ⟨(pos t r).val - 1, by omega⟩ :=
      Fin.ext (by show t.val % 32 * 256 + (r.val + 256 - 1) % 256 = t.val % 32 * 256 + r.val - 1; omega)
    exact congrArg (fun s => Z s j) e

end Cert.Projection.Ker

end
-- ==== Proof.Inp.CarryR.lean ====
/- The row of the shifted columns kept from one tile to the next. -/
module

public import proofs.«01_k».proof.Proof.Inp.Before

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD) (t : Fin cfg0.N)

/-- Where a write of the first kept row lands. -/
theorem land0 (inb) (j : Fin 1536) : (Rect.unit (s := S8x1536) ![0, 0] ![1, 1536] inb).emb (ix2 0 j) = ix2 0 j := by
  blk_ext

/-- A load of the first kept row. -/
theorem load0 (x : Vec Ideal S8x1536 .f32) (inb) (j : Fin 1536) : View.ld x (Rect.unit (s := S8x1536) ![0, 0] ![1, 1536] inb) (ix2 0 j) = x (ix2 0 j) := by
  refine View.ld_unit_apply_of x _ _ _ _ _ fun d => ?_
  match d with
  | ⟨0, _⟩ => exact (Nat.zero_add _).symm
  | ⟨1, _⟩ => exact (Nat.zero_add _).symm

/-- After a tile the kept row is the tile's last. -/
theorem kept0 (j : Fin 1536) : (outsAt0 m c t.val t.isLt).2.2.2.2.1 (ix2 0 j) = zm m c (bat t) (pos t 255) ⟨2304 + j.val, by omega⟩ := by
  by_cases h : t.val % 32 = 0
  · rw [outsAt0_A m c t h]; frame_out
    exact ((congrArg _ (land0 _ j)).symm.trans (View.canon_cons_emb _ _ _ _)).trans ((pay33_apply _ j).trans (q31 m c t 255 j))
  · rw [outsAt0_B m c t h]; frame_out
    exact ((congrArg _ (land0 _ j)).symm.trans (View.read_writes_cons_emb _ _ _ _ _ _)).trans ((pay33_apply _ j).trans (q31 m c t 255 j))

end Cert.Projection.Ker

end
-- ==== Proof.Inp.OutR.lean ====
/- The shifted columns the kernel leaves. -/
module

public import proofs.«01_k».proof.Proof.Inp.CarryR
public import Idealize.ShloMosaic.Lib.Pipeline.ReadBack

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD) (t : Fin cfg0.N)

/-- A tile of the shifted columns, from the row kept before it. -/
theorem shift0 (p : Vec Ideal S1x1536 .f32) (hp : ∀ j, p (ix2 0 j) = before (fun s j => zm m c (bat t) s ⟨2304 + j.val, by omega⟩) (pos t 0) j) (r : Fin 256) (j : Fin 1536) :
    k0_pay34 k0_pay28 (k0_pay31 (k0_pay3 (iblk m c 0 t) (iblk m c 1 t)) (iblk m c 4 t)) (k0_pay32 (iblk m c 8 t)) p (ix3 0 r j) = shifted (zm m c (bat t)) (mum m c) (pos t r) ⟨j.val, by omega⟩ := by
  refine (pay34_apply _ _ _ r j).trans ?_
  simp only [q31, e8]
  rw [above_before t (fun s j => zm m c (bat t) s ⟨2304 + j.val, by omega⟩) _ hp]
  rfl

/-- The shifted columns, from the arguments. -/
def R1 : Buf (Elt Ideal) ((c : Thread nD τ).loc main_v59_1) := fun i => shifted (zm m c (i 0)) (mum m c) (i 1) ⟨(i 2).val, Nat.lt_of_lt_of_le (m := 1536) (i 2).isLt (by decide)⟩

/-- The tile the kernel leaves at a grid point. -/
theorem tile0 (r : Fin 256) (j : Fin 1536) : (outsAt0 m c t.val t.isLt).2.1 (ix3 0 r j) = shifted (zm m c (bat t)) (mum m c) (pos t r) ⟨j.val, by omega⟩ := by
  by_cases h : t.val % 32 = 0
  · rw [outsAt0_A m c t h]; frame_out
    refine shift0 m c t _ (fun j => ?_) r j
    refine (congrFun (View.readCov_fill _ _ _ _ _ fun a => match a with | ⟨0, _⟩ => rfl | ⟨1, _⟩ => rfl) _).trans ?_
    refine (load0 _ _ j).trans ((pay29_apply 0 j).trans ?_)
    unfold before pos
    rw [dif_neg]
    show ¬ 1 ≤ t.val % 32 * 256 + 0
    omega
  · rw [outsAt0_B m c t h]; frame_out
    refine shift0 m c t _ (fun j => ?_) r j
    refine (load0 _ _ j).trans ?_
    rw [read_unread_whole]
    have ht := point_lt t
    refine (kept0 m c ⟨t.val - 1, lt_of_le_of_lt (Nat.sub_le _ _) t.isLt⟩ j).trans ?_
    unfold before
    have eb : bat ⟨t.val - 1, lt_of_le_of_lt (Nat.sub_le _ _) t.isLt⟩ = bat t := Fin.ext (by show (t.val - 1) / 32 = t.val / 32; omega)
    rw [dif_pos (by show 1 ≤ t.val % 32 * 256 + 0; omega), eb]
    have es : pos ⟨t.val - 1, lt_of_le_of_lt (Nat.sub_le _ _) t.isLt⟩ 255 = ⟨(pos t 0).val - 1, by omega⟩ :=
      Fin.ext (by show (t.val - 1) % 32 * 256 + 255 = t.val % 32 * 256 + 0 - 1; omega)
    rw [es]

/-- The shifted columns the kernel leaves. -/
theorem final1 : (dats m 0 c).arrAt 11 cfg0.N = R1 m c := by
  refine (dats m 0 c).arrAt_eq_of_covers 11 _ (by decide +kernel) fun t _ y => ?_
  blk_simp
  rw [after0_11]
  obtain ⟨r, j, rfl⟩ : ∃ (r : Fin 256) (j : Fin 1536), y = ix3 0 r j := ⟨y 1, y 2, by blk_ext⟩
  rw [tile0]
  exact (congrArg (R1 m c) (y11 t r j)).symm

end Cert.Projection.Ker

end
-- ==== Proof.Inp.CarryL.lean ====
/- The row of the low-rank columns kept from one tile to the next. -/
module

public import proofs.«01_k».proof.Proof.Inp.Before

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD) (t : Fin cfg0.N)

/-- Where a write of the first kept row lands. -/
theorem land1 (inb) (j : Fin 384) : (Rect.unit (s := S8x384) ![0, 0] ![1, 384] inb).emb (ix2 0 j) = ix2 0 j := by
  blk_ext

/-- A load of the first kept row. -/
theorem load1 (x : Vec Ideal S8x384 .f32) (inb) (j : Fin 384) : View.ld x (Rect.unit (s := S8x384) ![0, 0] ![1, 384] inb) (ix2 0 j) = x (ix2 0 j) := by
  refine View.ld_unit_apply_of x _ _ _ _ _ fun d => ?_
  match d with
  | ⟨0, _⟩ => exact (Nat.zero_add _).symm
  | ⟨1, _⟩ => exact (Nat.zero_add _).symm

/-- After a tile the kept row is the tile's last. -/
theorem kept1 (j : Fin 384) : (outsAt0 m c t.val t.isLt).2.2.2.2.2 (ix2 0 j) = slots (fun l => zm m c (bat t) (pos t 255) ⟨3840 + l.val, by omega⟩) j := by
  by_cases h : t.val % 32 = 0
  · rw [outsAt0_A m c t h]; frame_out
    exact ((congrArg _ (land1 _ j)).symm.trans (View.canon_cons_emb _ _ _ _)).trans ((pay36_apply _ _ j).trans (q35 m c t 255 j))
  · rw [outsAt0_B m c t h]; frame_out
    exact ((congrArg _ (land1 _ j)).symm.trans (View.read_writes_cons_emb _ _ _ _ _ _)).trans ((pay36_apply _ _ j).trans (q35 m c t 255 j))

end Cert.Projection.Ker

end
-- ==== Proof.Inp.OutL.lean ====
/- The low-rank columns the kernel leaves. -/
module

public import proofs.«01_k».proof.Proof.Inp.CarryL
public import Idealize.ShloMosaic.Lib.Pipeline.ReadBack

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD) (t : Fin cfg0.N)

/-- A tile of the low-rank columns, from the row kept before it. -/
theorem shift1 (p : Vec Ideal S1x384 .f32) (hp : ∀ j, p (ix2 0 j) = before (fun s j => slots (fun l => zm m c (bat t) s ⟨3840 + l.val, by omega⟩) j) (pos t 0) j) (r : Fin 256) (j : Fin 384) :
    k0_pay1 (k0_pay37 (k0_pay3 (iblk m c 0 t) (iblk m c 1 t)) k0_pay28 (iblk m c 5 t) (iblk m c 9 t) p) (ix3 0 r j) = slots (fun l => shifted (zm m c (bat t)) (mum m c) (pos t r) ⟨1536 + l.val, by omega⟩) j := by
  refine (pay37_apply _ _ _ _ r j).trans ?_
  simp only [q35, e9]
  rw [above_before t (fun s j => slots (fun l => zm m c (bat t) s ⟨3840 + l.val, by omega⟩) j) _ hp]
  unfold before
  by_cases h : 1 ≤ (pos t r).val
  · rw [dif_pos h, lerp_slots]
    refine congrFun (congrArg slots (funext fun l => ?_)) j
    unfold shifted
    rw [dif_pos h]
    simp only [← Nat.add_assoc, Nat.reduceAdd]
    rfl
  · rw [dif_neg h, ← zero_slots j, lerp_slots]
    refine congrFun (congrArg slots (funext fun l => ?_)) j
    unfold shifted
    rw [dif_neg h]
    simp only [← Nat.add_assoc, Nat.reduceAdd]
    rfl

/-- The low-rank columns, from the arguments. -/
def R2 : Buf (Elt Ideal) ((c : Thread nD τ).loc main_v59_2) := fun i => slots (fun l => shifted (zm m c (i 0)) (mum m c) (i 1) ⟨1536 + l.val, by omega⟩) (i 2)

/-- The tile the kernel leaves at a grid point. -/
theorem tile1 (r : Fin 256) (j : Fin 384) : (outsAt0 m c t.val t.isLt).2.2.1 (ix3 0 r j) = slots (fun l => shifted (zm m c (bat t)) (mum m c) (pos t r) ⟨1536 + l.val, by omega⟩) j := by
  by_cases h : t.val % 32 = 0
  · rw [outsAt0_A m c t h]; frame_out
    refine shift1 m c t _ (fun j => ?_) r j
    refine (congrFun (View.readCov_fill _ _ _ _ _ fun a => match a with | ⟨0, _⟩ => rfl | ⟨1, _⟩ => rfl) _).trans ?_
    refine (load1 _ _ j).trans ((pay30_apply 0 j).trans ?_)
    unfold before pos
    rw [dif_neg]
    show ¬ 1 ≤ t.val % 32 * 256 + 0
    omega
  · rw [outsAt0_B m c t h]; frame_out
    refine shift1 m c t _ (fun j => ?_) r j
    refine (load1 _ _ j).trans ?_
    rw [read_unread_whole]
    have ht := point_lt t
    refine (kept1 m c ⟨t.val - 1, lt_of_le_of_lt (Nat.sub_le _ _) t.isLt⟩ j).trans ?_
    unfold before
    have eb : bat ⟨t.val - 1, lt_of_le_of_lt (Nat.sub_le _ _) t.isLt⟩ = bat t := Fin.ext (by show (t.val - 1) / 32 = t.val / 32; omega)
    rw [dif_pos (by show 1 ≤ t.val % 32 * 256 + 0; omega), eb]
    have es : pos ⟨t.val - 1, lt_of_le_of_lt (Nat.sub_le _ _) t.isLt⟩ 255 = ⟨(pos t 0).val - 1, by omega⟩ :=
      Fin.ext (by show (t.val - 1) % 32 * 256 + 255 = t.val % 32 * 256 + 0 - 1; omega)
    rw [es]

/-- The low-rank columns the kernel leaves. -/
theorem final2 : (dats m 0 c).arrAt 12 cfg0.N = R2 m c := by
  refine (dats m 0 c).arrAt_eq_of_covers 12 _ (by decide +kernel) fun t _ y => ?_
  blk_simp
  rw [after0_12]
  obtain ⟨r, j, rfl⟩ : ∃ (r : Fin 256) (j : Fin 384), y = ix3 0 r j := ⟨y 1, y 2, by blk_ext⟩
  rw [tile1]
  exact (congrArg (R2 m c) (y12 t r j)).symm

end Cert.Projection.Ker

end
-- ==== Proof.Inp.OutG.lean ====
/- The gates the kernel leaves. -/
module

public import proofs.«01_k».proof.Proof.Inp.Blocks

@[expose] public section

set_option maxRecDepth 16384

noncomputable section

namespace Cert.Projection.Ker

open Cert.InpIdeal Cert.InpIdeal.Gen Idealize.ShloMosaic Idealize.ShloMosaic.TcCoe Idealize.SL.Sem

variable (m : (ℓ : Loc nD τ sig) → Buf (Elt Ideal) ℓ) (c : Dev nD) (t : Fin cfg0.N)

/-- The gates, from the arguments. -/
def R3 : Buf (Elt Ideal) ((c : Thread nD τ).loc main_v59_3) := fun i =>
  Ideal.logistic (zm m c (i 0) (i 1) ⟨4000 + (i 2).val, Nat.add_lt_add_left (m := 2048) (i 2).isLt 4000⟩)

/-- The tile the kernel leaves at a grid point. -/
theorem tile3 (r : Fin 256) (j : Fin 2048) :
    (outsAt0 m c t.val t.isLt).2.2.2.1 (ix3 0 r j) = Ideal.logistic (zm m c (bat t) (pos t r) ⟨4000 + j.val, by omega⟩) := by
  by_cases h : t.val % 32 = 0
  · rw [outsAt0_A m c t h]; frame_out
    exact q2 m c t r j
  · rw [outsAt0_B m c t h]; frame_out
    exact q2 m c t r j

/-- The gates the kernel leaves. -/
theorem final3 : (dats m 0 c).arrAt 13 cfg0.N = R3 m c := by
  refine (dats m 0 c).arrAt_eq_of_covers 13 _ (by decide +kernel) fun t _ y => ?_
  blk_simp
  rw [after0_13]
  obtain ⟨r, j, rfl⟩ : ∃ (r : Fin 256) (j : Fin 2048), y = ix3 0 r j := ⟨y 1, y 2, by blk_ext⟩
  rw [tile3]
  exact (congrArg (R3 m c) (y13 t r j)).symm

end Cert.Projection.Ker

end
-- ==== Proof.Mix.Math.lean ====
/- The head groups' combination and the gated merge of one token, over the extended reals. -/
module

public import proofs.«01_k».proof.Proof.Ffn.Math

@[expose] public section

set_option maxRecDepth 16384

noncomputable section

namespace Cert.Merge

open Idealize.ShloMosaic Cert.FeedForward

/-- The largest of three log-sum-exps. -/
def big (a b c : EReal) : EReal := max (max a b) c

/-- The sum of the three groups' weights before they are normalized. -/
def total (a b c : EReal) : EReal :=
  Ideal.exp (a - big a b c) + Ideal.exp (b - big a b c) + Ideal.exp (c - big a b c)

/-- A group's weight. -/
def alpha (a b c l : EReal) : EReal := Ideal.div (Ideal.exp (l - big a b c)) (total a b c)

/-- The groups' values, each times its weight. -/
def comb (a b c x y z : EReal) : EReal := alpha a b c a * x + alpha a b c b * y + alpha a b c c * z

/-- The groups' values, weighted first and divided by the sum of the weights at the end. -/
def combLate (a b c x y z : EReal) : EReal :=
  Ideal.div (Ideal.exp (a - big a b c) * x + Ideal.exp (b - big a b c) * y + Ideal.exp (c - big a b c) * z) (total a b c)

/-- An exponential is not negative. -/
theorem exp_nonneg (x : EReal) : 0 ≤ Ideal.exp x := by
  induction x using EReal.rec with
  | bot => exact le_refl (0 : EReal)
  | top => exact (le_top : (0 : EReal) ≤ ⊤)
  | coe r => exact (EReal.coe_nonneg.mpr (Real.exp_nonneg r) : (0 : EReal) ≤ ((Real.exp r : ℝ) : EReal))

/-- Where the largest is a number its own exponential's term is one. -/
theorem exp_self (x : EReal) (h1 : x ≠ ⊥) (h2 : x ≠ ⊤) : Ideal.exp (x - x) = 1 := by
  rw [EReal.sub_self h2 h1]
  exact (congrArg ((↑) : ℝ → EReal) Real.exp_zero : ((Real.exp 0 : ℝ) : EReal) = ((1 : ℝ) : EReal))

/-- The sum of the weights is at least one where the largest log-sum-exp is a number. -/
theorem one_le_total (a b c : EReal) (h1 : big a b c ≠ ⊥) (h2 : big a b c ≠ ⊤) : 1 ≤ total a b c := by
  have hx := exp_self _ h1 h2
  have ha := exp_nonneg (a - big a b c)
  have hb := exp_nonneg (b - big a b c)
  have hc := exp_nonneg (c - big a b c)
  have hm : big a b c = a ∨ big a b c = b ∨ big a b c = c := by
    unfold big
    rcases max_choice (max a b) c with h | h
    · rcases max_choice a b with h' | h'
      · exact Or.inl (h.trans h')
      · exact Or.inr (Or.inl (h.trans h'))
    · exact Or.inr (Or.inr h)
  unfold total
  rcases hm with h | h | h
  · have : Ideal.exp (a - big a b c) = 1 := by rw [← hx]; congr 2; exact h.symm
    rw [this]
    exact (le_add_of_nonneg_right hb).trans (le_add_of_nonneg_right hc)
  · have : Ideal.exp (b - big a b c) = 1 := by rw [← hx]; congr 2; exact h.symm
    rw [this]
    exact (le_add_of_nonneg_left ha).trans (le_add_of_nonneg_right hc)
  · have : Ideal.exp (c - big a b c) = 1 := by rw [← hx]; congr 2; exact h.symm
    rw [this]
    exact le_add_of_nonneg_left (add_nonneg ha hb)

/-- Weighting first and dividing at the end is weighting by the normalized weights, where the largest log-sum-exp is a number. -/
theorem combLate_eq (a b c x y z : EReal) (h1 : big a b c ≠ ⊥) (h2 : big a b c ≠ ⊤) : combLate a b c x y z = comb a b c x y z := by
  have h := one_le_total a b c h1 h2
  have hne : total a b c ≠ 0 := fun e => by rw [e] at h; exact absurd h (by norm_num)
  have hd : ∀ u, Ideal.div u (total a b c) = u * (total a b c)⁻¹ := fun u => by simp [Ideal.div, hne]
  have n0 : 0 ≤ (total a b c)⁻¹ := EReal.inv_nonneg_of_nonneg (zero_le_one.trans h)
  have nt : (total a b c)⁻¹ ≠ ⊤ := by
    intro e
    induction ht : total a b c using EReal.rec with
    | bot => rw [ht] at e; simp at e
    | top => rw [ht] at e; simp at e
    | coe r => rw [ht, ← EReal.coe_inv] at e; exact EReal.coe_ne_top _ e
  unfold combLate comb alpha
  simp only [hd]
  rw [EReal.right_distrib_of_nonneg_of_ne_top n0 nt, EReal.right_distrib_of_nonneg_of_ne_top n0 nt]
  simp only [mul_right_comm]

/-- The two branches, each times its gate. -/
def merged (ga gr : Fin 1024 → EReal) (o : Fin 256 → EReal) (p : Fin 512 → EReal) (wa : Fin 256 → Fin 1024 → EReal)
    (wr : Fin 512 → Fin 1024 → EReal) (k : Fin 1024) : EReal :=
  ga k * mv o wa k + gr k * mv p wr k

/-- The row after the merge. -/
def after (x ga gr : Fin 1024 → EReal) (o : Fin 256 → EReal) (p : Fin 512 → EReal) (wa : Fin 256 → Fin 1024 → EReal)
    (wr : Fin 512 → Fin 1024 → EReal) (wo : Fin 1024 → Fin 1024 → EReal) (g : Fin 1024 → EReal) (k : Fin 1024) : EReal :=
  x k + nrm (mv (merged ga gr o p wa wr) wo) g k

end Cert.Merge

end
-- ==== Proof.Mix.Pay.lean ====
/- The mixing kernel's stored block, read at a row. -/
module

public import proofs.«01_k».proof.Proof.Mix.Math
public import proofs.«01_k».proof.Proof.Gen.MixIdeal.Value

@[expose] public section

set_option maxRecDepth 16384

noncomputable section

namespace Cert.Merge.Ker

open Cert.MixIdeal Cert.MixIdeal.Gen Idealize.ShloMosaic Idealize.ShloMosaic.TcCoe Cert.FeedForward

/-- The merged row. -/
theorem pay2_apply (l0 l1 l2 o0 o1 o2 : Vec Ideal S512x256 .f32) (ga gr : Vec Ideal S512x1024 .bf16) (wa : Vec Ideal S256x1024 .bf16)
    (p : Vec Ideal S512x512 .bf16) (wr : Vec Ideal S512x1024 .bf16) (r : Fin 512) (k : Fin 1024) :
    k0_pay2 l0 l1 l2 o0 o1 o2 ga gr wa p wr (ix2 r k)
      = merged (fun k => ga (ix2 r k)) (fun k => gr (ix2 r k))
          (fun j => combLate (l0 (ix2 r j)) (l1 (ix2 r j)) (l2 (ix2 r j)) (o0 (ix2 r j)) (o1 (ix2 r j)) (o2 (ix2 r j)))
          (fun j => p (ix2 r j)) (fun i j => wa (ix2 i j)) (fun i j => wr (ix2 i j)) k := by
  pointwise [k0_pay2]
  rfl

/-- The stored row. -/
theorem pay1_apply (f : FVec Ideal S512x1024 .f32) (w : Vec Ideal S1024x1024 .bf16) (x : Vec Ideal S512x1024 .f32) (g : Vec Ideal S1x1024 .f32)
    (r : Fin 512) (k : Fin 1024) :
    k0_pay1 f w x g (ix2 r k) = x (ix2 r k) + nrm (mv (fun k => f (ix2 r k)) fun i j => w (ix2 i j)) (fun k => g (ix2 0 k)) k := by
  pointwise [k0_pay1]
  rfl

end Cert.Merge.Ker

end
-- ==== Proof.Mix.Ker.lean ====
/- The mixing kernel: what it stores for a token is the token's formula, so its array is the formula's. -/
module

public import proofs.«01_k».proof.Proof.Mix.Pay
public import Idealize.ShloMosaic.Lib.Claim

@[expose] public section

set_option maxRecDepth 16384

noncomputable section

namespace Cert.Merge.Ker

open Cert.MixIdeal Cert.MixIdeal.Gen Idealize.ShloMosaic Idealize.ShloMosaic.TcCoe Idealize.SL.Sem Cert.FeedForward
open Idealize.ShloMosaic.Pipeline (Dat)

/-- A whole load is the block. -/
theorem ld_whole {a b : ℕ} {φ : EltTy} (x : Vec Ideal ⟨2, ![a, b]⟩ φ) (inb) :
    View.ld x (Rect.unit (s := ⟨2, ![a, b]⟩) ![0, 0] ![a, b] inb) = x := by
  funext y
  refine View.ld_unit_apply_of x _ _ _ _ _ fun d => ?_
  match d with
  | ⟨0, _⟩ => exact (Nat.zero_add _).symm
  | ⟨1, _⟩ => exact (Nat.zero_add _).symm

/-- One branch's columns of the gates. -/
theorem ld_gate (x : Vec Ideal S512x2048 .bf16) (off : ℕ) (inb) (i : Fin 512) (j : Fin 1024) (c : Fin 2048) (h : c.val = off + j.val) :
    View.ld x (Rect.unit (s := S512x2048) ![0, off] S512x1024.size inb) (ix2 i j) = x (ix2 i c) := by
  refine View.ld_unit_apply_of x _ _ _ _ _ fun d => ?_
  match d with
  | ⟨0, _⟩ => exact (Nat.zero_add _).symm
  | ⟨1, _⟩ => exact h

/-- A row's formula from the blocks. -/
theorem out_apply (x0 : Vec Ideal S512x1024 .f32) (x1 x2 x3 x4 x5 x6 : Vec Ideal S512x256 .f32) (x7 : Vec Ideal S512x512 .bf16)
    (x8 : Vec Ideal S512x2048 .bf16) (x9 : Vec Ideal S256x1024 .bf16) (x10 : Vec Ideal S512x1024 .bf16) (x11 : Vec Ideal S1024x1024 .bf16)
    (x12 : Vec Ideal S1x1024 .f32) (r : Fin 512) (k : Fin 1024) :
    out0_13 x0 x1 x2 x3 x4 x5 x6 x7 x8 x9 x10 x11 x12 (ix2 r k)
      = after (fun k => x0 (ix2 r k)) (fun k => x8 (ix2 r (⟨k.val, by omega⟩ : Fin 2048))) (fun k => x8 (ix2 r (⟨1024 + k.val, by omega⟩ : Fin 2048)))
          (fun j => combLate (x4 (ix2 r j)) (x5 (ix2 r j)) (x6 (ix2 r j)) (x1 (ix2 r j)) (x2 (ix2 r j)) (x3 (ix2 r j)))
          (fun j => x7 (ix2 r j)) (fun i j => x9 (ix2 i j)) (fun i j => x10 (ix2 i j)) (fun i j => x11 (ix2 i j)) (fun k => x12 (ix2 0 k)) k := by
  unfold out0_13
  have w0 : View.ld x0 r0_5 = x0 := ld_whole x0 _
  have w1 : View.ld x1 r0_0 = x1 := ld_whole x1 _
  have w2 : View.ld x2 r0_0 = x2 := ld_whole x2 _
  have w3 : View.ld x3 r0_0 = x3 := ld_whole x3 _
  have w4 : View.ld x4 r0_0 = x4 := ld_whole x4 _
  have w5 : View.ld x5 r0_0 = x5 := ld_whole x5 _
  have w6 : View.ld x6 r0_0 = x6 := ld_whole x6 _
  have w7 : View.ld x7 r0_4 = x7 := ld_whole x7 _
  have w9 : View.ld x9 r0_3 = x9 := ld_whole x9 _
  have w10 : View.ld x10 r0_5 = x10 := ld_whole x10 _
  have w11 : View.ld x11 r0_6 = x11 := ld_whole x11 _
  have w12 : View.ld x12 r0_7 = x12 := ld_whole x12 _
  have g1 : ∀ (r : Fin 512) (k : Fin 1024), View.ld x8 r0_1 (ix2 r k) = x8 (ix2 r (⟨k.val, by omega⟩ : Fin 2048)) :=
    fun r k => ld_gate x8 0 _ r k _ (Nat.zero_add _).symm
  have g2 : ∀ (r : Fin 512) (k : Fin 1024), View.ld x8 r0_2 (ix2 r k) = x8 (ix2 r (⟨1024 + k.val, by omega⟩ : Fin 2048)) :=
    fun r k => ld_gate x8 1024 _ r k _ rfl
  simp only [w0, w1, w2, w3, w4, w5, w6, w7, w9, w10, w11, w12]
  canon_tiles x h
  obtain rfl : x = ix2 r k := by
    funext d
    match d with
    | ⟨0, _⟩ => exact Fin.ext h0.symm
    | ⟨1, _⟩ => exact Fin.ext h1.symm
  refine (pay1_apply _ _ _ _ r k).trans ?_
  simp only [pay2_apply, g1, g2]
  rfl

variable (m : (ℓ : Loc nD τ sig) → Buf (Elt Ideal) ℓ)

/-- The row formula over the call's arrays, with a given way to combine the groups. -/
def G (f : EReal → EReal → EReal → EReal → EReal → EReal → EReal) (x : FVec Ideal S32768x1024 .f32)
    (o0 o1 o2 l0 l1 l2 : FVec Ideal S32768x256 .f32) (p : FVec Ideal S32768x512 .bf16) (ga : FVec Ideal S32768x2048 .bf16)
    (wa : FVec Ideal S256x1024 .bf16) (wr : FVec Ideal S512x1024 .bf16) (wo : FVec Ideal S1024x1024 .bf16) (g : FVec Ideal S1x1024 .f32) :
    FVec Ideal S32768x1024 .f32 := fun y =>
  after (fun k => x (ix2 (y 0) k)) (fun k => ga (ix2 (y 0) (⟨k.val, by omega⟩ : Fin 2048))) (fun k => ga (ix2 (y 0) (⟨1024 + k.val, by omega⟩ : Fin 2048)))
    (fun j => f (l0 (ix2 (y 0) j)) (l1 (ix2 (y 0) j)) (l2 (ix2 (y 0) j)) (o0 (ix2 (y 0) j)) (o1 (ix2 (y 0) j)) (o2 (ix2 (y 0) j)))
    (fun j => p (ix2 (y 0) j)) (fun i j => wa (ix2 i j)) (fun i j => wr (ix2 i j)) (fun i j => wo (ix2 i j)) (fun k => g (ix2 0 k)) (y 1)

/-- The formula over the memory's arrays. -/
abbrev GM (f : EReal → EReal → EReal → EReal → EReal → EReal → EReal) (c : Dev nD) : FVec Ideal S32768x1024 .f32 :=
  G f (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- The two ways to combine the groups give one array where the largest log-sum-exp is a number. -/
theorem late_eq (c : Dev nD)
    (h : ∀ (r : Fin 32768) (j : Fin 256), big (m ((c : Thread nD τ).loc main_arg4) (ix2 r j)) (m ((c : Thread nD τ).loc main_arg5) (ix2 r j))
        (m ((c : Thread nD τ).loc main_arg6) (ix2 r j)) ≠ ⊥
      ∧ big (m ((c : Thread nD τ).loc main_arg4) (ix2 r j)) (m ((c : Thread nD τ).loc main_arg5) (ix2 r j))
        (m ((c : Thread nD τ).loc main_arg6) (ix2 r j)) ≠ ⊤) : GM m combLate c = GM m comb c := by
  funext y
  have e : ∀ j : Fin 256, _ := fun j => combLate_eq _ _ _ (m ((c : Thread nD τ).loc main_arg1) (ix2 (y 0) j))
    (m ((c : Thread nD τ).loc main_arg2) (ix2 (y 0) j)) (m ((c : Thread nD τ).loc main_arg3) (ix2 (y 0) j)) (h (y 0) j).1 (h (y 0) j).2
  unfold GM G
  simp only [e]

/-- Which block each window holds at a grid point. -/
theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] ∧ win0_10.index t = ![0, 0] ∧ win0_11.index t = ![0, 0]
    ∧ win0_12.index t = ![0, 0] ∧ win0_13.index t = ![t.val, 0] :=
  (by decide +kernel : ∀ t : Fin grid0.N, _)

/-- The kernel's result array. -/
theorem final (c : Dev nD) : (dats m 0 c).arrAt 13 cfg0.N = GM m combLate c := by
  refine (dats m 0 c).arrAt_eq_of_covers 13 _ (by decide +kernel) fun t _ y => ?_
  have ht : t.val < 64 := lt_of_lt_of_eq t.isLt (by decide +kernel)
  blk_simp
  rw [after0_13]
  obtain ⟨r, k, rfl⟩ : ∃ (r : Fin 512) (k : Fin 1024), y = ix2 r k := ⟨y 0, y 1, by blk_ext⟩
  rw [out_apply]
  have hR : t.val * 512 + r.val < 32768 := by omega
  have e0 : ∀ k : Fin 1024, iblk m c 0 t (ix2 r k) = m ((c : Thread nD τ).loc main_arg0) (ix2 (⟨t.val * 512 + r.val, hR⟩ : Fin 32768) k) := by
    intro k; blk_point [iblk, V, idx t]
  have e1 : ∀ k : Fin 256, iblk m c 1 t (ix2 r k) = m ((c : Thread nD τ).loc main_arg1) (ix2 (⟨t.val * 512 + r.val, hR⟩ : Fin 32768) k) := by
    intro k; blk_point [iblk, V, idx t]
  have e2 : ∀ k : Fin 256, iblk m c 2 t (ix2 r k) = m ((c : Thread nD τ).loc main_arg2) (ix2 (⟨t.val * 512 + r.val, hR⟩ : Fin 32768) k) := by
    intro k; blk_point [iblk, V, idx t]
  have e3 : ∀ k : Fin 256, iblk m c 3 t (ix2 r k) = m ((c : Thread nD τ).loc main_arg3) (ix2 (⟨t.val * 512 + r.val, hR⟩ : Fin 32768) k) := by
    intro k; blk_point [iblk, V, idx t]
  have e4 : ∀ k : Fin 256, iblk m c 4 t (ix2 r k) = m ((c : Thread nD τ).loc main_arg4) (ix2 (⟨t.val * 512 + r.val, hR⟩ : Fin 32768) k) := by
    intro k; blk_point [iblk, V, idx t]
  have e5 : ∀ k : Fin 256, iblk m c 5 t (ix2 r k) = m ((c : Thread nD τ).loc main_arg5) (ix2 (⟨t.val * 512 + r.val, hR⟩ : Fin 32768) k) := by
    intro k; blk_point [iblk, V, idx t]
  have e6 : ∀ k : Fin 256, iblk m c 6 t (ix2 r k) = m ((c : Thread nD τ).loc main_arg6) (ix2 (⟨t.val * 512 + r.val, hR⟩ : Fin 32768) k) := by
    intro k; blk_point [iblk, V, idx t]
  have e7 : ∀ k : Fin 512, iblk m c 7 t (ix2 r k) = m ((c : Thread nD τ).loc main_arg7) (ix2 (⟨t.val * 512 + r.val, hR⟩ : Fin 32768) k) := by
    intro k; blk_point [iblk, V, idx t]
  have e8 : ∀ k : Fin 2048, iblk m c 8 t (ix2 r k) = m ((c : Thread nD τ).loc main_arg8) (ix2 (⟨t.val * 512 + r.val, hR⟩ : Fin 32768) k) := by
    intro k; blk_point [iblk, V, idx t]
  have e9 : ∀ i j, iblk m c 9 t (ix2 i j) = m ((c : Thread nD τ).loc main_arg9) (ix2 i j) := by
    intro i j; blk_point [iblk, V, idx t]
  have e10 : ∀ i j, iblk m c 10 t (ix2 i j) = m ((c : Thread nD τ).loc main_arg10) (ix2 i j) := by
    intro i j; blk_point [iblk, V, idx t]
  have e11 : ∀ i j, iblk m c 11 t (ix2 i j) = m ((c : Thread nD τ).loc main_arg11) (ix2 i j) := by
    intro i j; blk_point [iblk, V, idx t]
  have e12 : ∀ k : Fin 1024, iblk m c 12 t (ix2 0 k) = m ((c : Thread nD τ).loc main_arg12) (ix2 0 k) := by
    intro k; blk_point [iblk, V, idx t]
  have ey : ((View.whole main_v0).slice (win0_13.rect t)).emb (ix2 r k) = ix2 (⟨t.val * 512 + r.val, hR⟩ : Fin 32768) k := by
    blk_ext
    · rw [(idx t).2.2.2.2.2.2.2.2.2.2.2.2.2]; rfl
    · rw [(idx t).2.2.2.2.2.2.2.2.2.2.2.2.2]; exact Nat.zero_add _
  simp only [e0, e1, e2, e3, e4, e5, e6, e7, e8, e9, e10, e11, e12]
  exact (congrArg (GM m combLate c) ey).symm

end Cert.Merge.Ker

end
-- ==== Proof.Mix.Ref.lean ====
/- The reference of the mixing call, read at an element. -/
module

public import proofs.«01_k».proof.Proof.Mix.Ker
public import proofs.«01_k».proof.Proof.Band.Math
public import proofs.«01_k».proof.Proof.Gen.RefMixIdeal.Run
public import proofs.«01_k».proof.Proof.Gen.RefMixIdeal.Read

@[expose] public section

set_option maxRecDepth 16384

noncomputable section

namespace Cert.Merge.Ref

open Cert.RefMixIdeal Cert.RefMixIdeal.Gen Cert.RefMixIdeal.Read Idealize.ShloMosaic Idealize.ShloMosaic.TcCoe Cert.FeedForward Cert.Band

variable (x0 : FVec Ideal S32768x1024 .f32) (x1 x2 x3 x4 x5 x6 : FVec Ideal S32768x256 .f32) (x7 : FVec Ideal S32768x512 .bf16)
  (x8 : FVec Ideal S32768x2048 .bf16) (x9 : FVec Ideal S256x1024 .bf16) (x10 : FVec Ideal S512x1024 .bf16) (x11 : FVec Ideal S1024x1024 .bf16)
  (x12 : FVec Ideal S1x1024 .f32)

/-- The three groups' log-sum-exps at a token and lane. -/
def three (r : Fin 32768) (j : Fin 256) (s : Fin 3) : EReal :=
  if s.val < 1 then x4 (ix2 r j) else if s.val - 1 < 1 then x5 (ix2 r j) else x6 (ix2 r j)

/-- The stacked log-sum-exps. -/
theorem v3 (s : Fin 3) (r : Fin 32768) (j : Fin 256) : val_main_v3 (F := Ideal) x4 x5 x6 (ix3 s r j) = three x4 x5 x6 r j s := by
  pointwise [val_main_v3, val_main_v2, val_main_v1, val_main_v0]
  rfl

/-- The largest of a family of three, from minus infinity. -/
theorem fold3 (f : Fin 3 → EReal) : (Finset.univ : Finset (Fin 3)).fold max ⊥ f = big (f 0) (f 1) (f 2) := by
  have hu : (Finset.univ : Finset (Fin 3)) = {0, 1, 2} := by decide
  rw [hu, Finset.fold_insert (by decide), Finset.fold_insert (by decide), Finset.fold_singleton,
    max_eq_left (bot_le : (⊥ : EReal) ≤ f 2), ← max_assoc]
  rfl

/-- The largest of three stacked values at an index. -/
theorem top3 (f : FVec Ideal S3x32768x256 .f32) (z : FVec Ideal S_ .f32) (hz : ∀ i, z i = ⊥) (r : Fin 32768) (j : Fin 256) :
    Host.reduce FloatOps.maximumf f z reducesTo_S3x32768x256_S32768x256_d0 h_S_ (ix2 r j)
      = big (f (ix3 0 r j)) (f (ix3 1 r j)) (f (ix3 2 r j)) := by
  have hr : S3x32768x256.Reduces [0] S32768x256 := by decide
  refine (Host.reduce_eq_fold_single (max : EReal → EReal → EReal) f z reducesTo_S3x32768x256_S32768x256_d0 hr h_S_ (ix2 r j)).trans ?_
  rw [hz]
  have hl : ∀ s : Fin 3, hr.lift (ix2 r j) s = ix3 s r j := by
    intro s
    blk_ext
    all_goals rfl
  refine (fold3 (fun s : Fin 3 => f (hr.lift (ix2 r j) s))).trans ?_
  simp only [hl]

/-- The largest of the log-sum-exps. -/
theorem v6 (r : Fin 32768) (j : Fin 256) :
    val_main_v6 (F := Ideal) x4 x5 x6 (ix2 r j) = big (x4 (ix2 r j)) (x5 (ix2 r j)) (x6 (ix2 r j)) := by
  have hb : ∀ i, val_main_cst (F := Ideal) i = ⊥ := fun i => by
    rw [val_main_cst_apply]
    exact ofBits_negInf
  have h5 : ∀ i, val_main_v5 (F := Ideal) i = ⊥ := fun i => by
    rw [val_main_v5_apply, val_main_cst_0_apply]
    exact ofBits_negInf
  rw [val_main_v6_apply, h5]
  unfold val_main_v4
  rw [top3 _ _ hb, v3, v3, v3]
  exact max_eq_right bot_le

/-- The exponentials. -/
theorem v10 (s : Fin 3) (r : Fin 32768) (j : Fin 256) :
    val_main_v10 (F := Ideal) x4 x5 x6 (ix3 s r j) = Ideal.exp (val_main_v3 (F := Ideal) x4 x5 x6 (ix3 s r j) - val_main_v6 (F := Ideal) x4 x5 x6 (ix2 r j)) := by
  unfold val_main_v10 val_main_v9 val_main_v8 val_main_v7
  generalize val_main_v3 (F := Ideal) x4 x5 x6 = f
  generalize val_main_v6 (F := Ideal) x4 x5 x6 = g
  pointwise []

/-- The normalized weights. -/
theorem v14 (s : Fin 3) (r : Fin 32768) (j : Fin 256) :
    val_main_v14 (F := Ideal) x4 x5 x6 (ix3 s r j)
      = Ideal.div (val_main_v10 (F := Ideal) x4 x5 x6 (ix3 s r j)) (∑ s : Fin 3, val_main_v10 (F := Ideal) x4 x5 x6 (ix3 s r j)) := by
  unfold val_main_v14 val_main_v13 val_main_v12 val_main_v11 val_main_cst_1
  generalize val_main_v10 (F := Ideal) x4 x5 x6 = f
  pointwise []

/-- The weighted sum of the groups. -/
theorem v25 (r : Fin 32768) (j : Fin 256) :
    val_main_v25 (F := Ideal) x1 x2 x3 x4 x5 x6 (ix2 r j)
      = val_main_v14 (F := Ideal) x4 x5 x6 (ix3 0 r j) * x1 (ix2 r j) + val_main_v14 (F := Ideal) x4 x5 x6 (ix3 1 r j) * x2 (ix2 r j)
        + val_main_v14 (F := Ideal) x4 x5 x6 (ix3 2 r j) * x3 (ix2 r j) := by
  unfold val_main_v25 val_main_v24 val_main_v23 val_main_v22 val_main_v21 val_main_v20 val_main_v19 val_main_v18 val_main_v17 val_main_v16 val_main_v15
  generalize val_main_v14 (F := Ideal) x4 x5 x6 = f
  pointwise []

/-- The merged row. -/
theorem v36 (r : Fin 32768) (k : Fin 1024) :
    val_main_v36 (F := Ideal) x1 x2 x3 x4 x5 x6 x7 x8 x9 x10 (ix2 r k)
      = merged (fun k => x8 (ix2 r (⟨k.val, by omega⟩ : Fin 2048))) (fun k => x8 (ix2 r (⟨1024 + k.val, by omega⟩ : Fin 2048)))
          (fun j => val_main_v25 (F := Ideal) x1 x2 x3 x4 x5 x6 (ix2 r j)) (fun j => x7 (ix2 r j)) (fun i j => x9 (ix2 i j)) (fun i j => x10 (ix2 i j)) k := by
  unfold val_main_v36 val_main_v35 val_main_v34 val_main_v33 val_main_v32 val_main_v31 val_main_v30 val_main_v29 val_main_v28 val_main_v27 val_main_v26
  generalize val_main_v25 (F := Ideal) x1 x2 x3 x4 x5 x6 = f
  pointwise []
  rfl

/-- The result. -/
theorem v51 (r : Fin 32768) (k : Fin 1024) :
    val_main_v51 (F := Ideal) x0 x1 x2 x3 x4 x5 x6 x7 x8 x9 x10 x11 x12 (ix2 r k)
      = x0 (ix2 r k) + nrm (mv (fun k => val_main_v36 (F := Ideal) x1 x2 x3 x4 x5 x6 x7 x8 x9 x10 (ix2 r k)) fun i j => x11 (ix2 i j)) (fun k => x12 (ix2 0 k)) k := by
  unfold val_main_v51 val_main_v50 val_main_v49 val_main_v48 val_main_v47 val_main_v46 val_main_v45 val_main_v44 val_main_cst_4 val_main_v43
    val_main_v42 val_main_cst_3 val_main_v41 val_main_v40 val_main_cst_2 val_main_v39 val_main_v38 val_main_v37
  generalize val_main_v36 (F := Ideal) x1 x2 x3 x4 x5 x6 x7 x8 x9 x10 = f
  pointwise []
  rfl

/-- The weighted sum of the groups is their combination. -/
theorem v25_comb (r : Fin 32768) (j : Fin 256) :
    val_main_v25 (F := Ideal) x1 x2 x3 x4 x5 x6 (ix2 r j)
      = comb (x4 (ix2 r j)) (x5 (ix2 r j)) (x6 (ix2 r j)) (x1 (ix2 r j)) (x2 (ix2 r j)) (x3 (ix2 r j)) := by
  rw [v25]
  simp only [v14, Fin.sum_univ_three, v10, v6, v3]
  rfl

/-- The reference's array is the formula's. -/
theorem result : val_main_v51 (F := Ideal) x0 x1 x2 x3 x4 x5 x6 x7 x8 x9 x10 x11 x12 = Ker.G comb x0 x1 x2 x3 x4 x5 x6 x7 x8 x9 x10 x11 x12 := by
  funext y
  obtain ⟨r, k, rfl⟩ : ∃ (r : Fin 32768) (k : Fin 1024), y = ix2 r k := ⟨y 0, y 1, by blk_ext⟩
  rw [v51]
  simp only [v36, v25_comb]
  rfl

end Cert.Merge.Ref

end
-- ==== Proof.Mix.Pre.lean ====
/- What the precondition of the mixing claim says at an element. -/
module

public import proofs.«01_k».proof.Proof.Mix.Math
public import proofs.«01_k».proof.Proof.Band.Math
public import proofs.«01_k».proof.Proof.Gen.Pre_largest_lse_finite

@[expose] public section

set_option maxRecDepth 16384

noncomputable section

namespace Cert.Merge.Pre

open Cert.Pre_largest_lse_finite Cert.Pre_largest_lse_finite.Gen Idealize.ShloMosaic Cert.Band

/-- The word of plus infinity reads as plus infinity. -/
theorem posInf : Ideal.ofBits .f32 0x7F800000#32 = ⊤ := by simp [Ideal.ofBits, Ideal.ieee]

/-- A conjunction of two truth bits is one exactly when both are. -/
theorem both (p q : Bool) : IntOp.andi (BitVec.ofBool p) (BitVec.ofBool q) = 1#1 ↔ p = true ∧ q = true := by
  cases p <;> cases q <;> decide

/-- Where the precondition holds, the largest of the three log-sum-exps is a number at each token and lane. -/
theorem number (x0 : FVec Ideal S32768x1024 .f32) (x1 x2 x3 x4 x5 x6 : FVec Ideal S32768x256 .f32) (x7 : FVec Ideal S32768x512 .bf16)
    (x8 : FVec Ideal S32768x2048 .bf16) (x9 : FVec Ideal S256x1024 .bf16) (x10 : FVec Ideal S512x1024 .bf16) (x11 : FVec Ideal S1024x1024 .bf16)
    (x12 : FVec Ideal S1x1024 .f32) (h : fn (F := Ideal) x0 x1 x2 x3 x4 x5 x6 x7 x8 x9 x10 x11 x12 = fun _ => 1#1) (i : S32768x256.Idx) :
    big (x4 i) (x5 i) (x6 i) ≠ ⊥ ∧ big (x4 i) (x5 i) (x6 i) ≠ ⊤ := by
  have e : IntOp.andi (BitVec.ofBool (decide (Ideal.ofBits .f32 0xFF800000#32 < big (x4 i) (x5 i) (x6 i))))
      (BitVec.ofBool (decide (big (x4 i) (x5 i) (x6 i) < Ideal.ofBits .f32 0x7F800000#32))) = 1#1 := congrFun h i
  rw [both, decide_eq_true_eq, decide_eq_true_eq, posInf, ofBits_negInf] at e
  exact ⟨ne_of_gt e.1, ne_of_lt e.2⟩

end Cert.Merge.Pre

end
-- ==== Proof.lean ====
module

public import proofs.«01_k».proof.Proof.Gen.Attn0Ideal.Value
public import proofs.«01_k».proof.Proof.Gen.Ref0Ideal.Run
public import proofs.«01_k».proof.Proof.Gen.Ref0Ideal.Read
public import proofs.«01_k».proof.Proof.Band.Ref0
public import proofs.«01_k».proof.Proof.Gen.Attn1Ideal.Value
public import proofs.«01_k».proof.Proof.Gen.Ref1Ideal.Run
public import proofs.«01_k».proof.Proof.Gen.Ref1Ideal.Read
public import proofs.«01_k».proof.Proof.Band.Ref1
public import proofs.«01_k».proof.Proof.Gen.Attn2Ideal.Value
public import proofs.«01_k».proof.Proof.Gen.Ref2Ideal.Run
public import proofs.«01_k».proof.Proof.Gen.Ref2Ideal.Read
public import proofs.«01_k».proof.Proof.Band.Ref2
public import proofs.«01_k».proof.Proof.Ffn.Ker
public import proofs.«01_k».proof.Proof.Ffn.Ref
public import proofs.«01_k».proof.Proof.Inp.Ref
public import proofs.«01_k».proof.Proof.Inp.OutH
public import proofs.«01_k».proof.Proof.Inp.OutR
public import proofs.«01_k».proof.Proof.Inp.OutL
public import proofs.«01_k».proof.Proof.Inp.OutG
public import proofs.«01_k».proof.Proof.Mix.Ker
public import proofs.«01_k».proof.Proof.Mix.Ref
public import proofs.«01_k».proof.Proof.Mix.Pre
public import proofs.«01_k».proof.Proof.Gen.MixIdeal.Value
public import proofs.«01_k».proof.Proof.Gen.RefMixIdeal.Run
public import proofs.«01_k».proof.Proof.Gen.RefMixIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.Pre_largest_lse_finite
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Defs
public import proofs.«01_k».proof.Proof.Gen.Attn0
public import proofs.«01_k».proof.Proof.Gen.Attn0.Skeleton
public import proofs.«01_k».proof.Proof.Gen.Attn0.Launch
public import proofs.«01_k».proof.Proof.Gen.Attn0.Points
public import proofs.«01_k».proof.Proof.Gen.Attn0.Frame
public import proofs.«01_k».proof.Proof.Gen.Attn0Ideal
public import proofs.«01_k».proof.Proof.Gen.Attn0Ideal.Skeleton
public import proofs.«01_k».proof.Proof.Gen.Attn0Ideal.Launch
public import proofs.«01_k».proof.Proof.Gen.Attn0Ideal.Points
public import proofs.«01_k».proof.Proof.Gen.Attn0Ideal.Frame
public import proofs.«01_k».proof.Proof.Gen.Ref0Ideal
public import proofs.«01_k».proof.Proof.Gen.Attn1
public import proofs.«01_k».proof.Proof.Gen.Attn1.Skeleton
public import proofs.«01_k».proof.Proof.Gen.Attn1.Launch
public import proofs.«01_k».proof.Proof.Gen.Attn1.Points
public import proofs.«01_k».proof.Proof.Gen.Attn1.Frame
public import proofs.«01_k».proof.Proof.Gen.Attn1Ideal
public import proofs.«01_k».proof.Proof.Gen.Attn1Ideal.Skeleton
public import proofs.«01_k».proof.Proof.Gen.Attn1Ideal.Launch
public import proofs.«01_k».proof.Proof.Gen.Attn1Ideal.Points
public import proofs.«01_k».proof.Proof.Gen.Attn1Ideal.Frame
public import proofs.«01_k».proof.Proof.Gen.Ref1Ideal
public import proofs.«01_k».proof.Proof.Gen.Attn2
public import proofs.«01_k».proof.Proof.Gen.Attn2.Skeleton
public import proofs.«01_k».proof.Proof.Gen.Attn2.Launch
public import proofs.«01_k».proof.Proof.Gen.Attn2.Points
public import proofs.«01_k».proof.Proof.Gen.Attn2.Frame
public import proofs.«01_k».proof.Proof.Gen.Attn2Ideal
public import proofs.«01_k».proof.Proof.Gen.Attn2Ideal.Skeleton
public import proofs.«01_k».proof.Proof.Gen.Attn2Ideal.Launch
public import proofs.«01_k».proof.Proof.Gen.Attn2Ideal.Points
public import proofs.«01_k».proof.Proof.Gen.Attn2Ideal.Frame
public import proofs.«01_k».proof.Proof.Gen.Ref2Ideal
public import Idealize.ShloMosaic.Adequacy
public import Idealize.ShloMosaic.Init

@[expose] public section

noncomputable section

namespace Cert.Proof

open Idealize.ShloMosaic Idealize.SL.Sem

/-- The reference of the attention at stride 1 runs and keeps its argument. -/
theorem refFrame0 : Cert.quiescent_Ref0Ideal := by
  intro m ρ _
  exact (θ_run Cert.Ref0Ideal.defs _ _).mono (fun r h => ⟨fun c => (h c).2.2, sem_eq_zero_of_no_sems (by decide) r.2⟩) (Cert.Ref0Ideal.Value.run m ρ)

/-- The attention at stride 1: the kernel's result and its log-sum-exps are the reference's. -/
theorem attn0 : Cert.algebraic_Attn0Ideal_Ref0Ideal := by
  intro m g m' g' _ hagree
  refine ⟨fun c => Cert.Band.Ker0.GO (Cert.Band.Ker0.X m c), fun c => Cert.Band.Ker0.GLse (Cert.Band.Ker0.X m c), ?_, ?_⟩
  · exact (θ_run Cert.Attn0Ideal.defs _ _).mono
      (fun r h c => ⟨(h c).1.trans (Cert.Band.Ker0.final5 m c), (h c).2.1.trans (Cert.Band.Ker0.final6 m c), (h c).2.2⟩) (Cert.Attn0Ideal.Value.run_blocks m g)
  · refine (θ_run Cert.Ref0Ideal.defs _ _).mono (fun r h c => ⟨(h c).1.trans ?_, (h c).2.1.trans ?_, (h c).2.2⟩) (Cert.Ref0Ideal.Value.run m' g')
    · rw [Cert.Ref0Ideal.Read.val_main_v41_eq, hagree c, Cert.Band.Ref0.result]
    · rw [Cert.Ref0Ideal.Read.val_main_v42_eq, hagree c, Cert.Band.Ref0.logsum]

/-- The reference of the attention at stride 4 runs and keeps its argument. -/
theorem refFrame1 : Cert.quiescent_Ref1Ideal := by
  intro m ρ _
  exact (θ_run Cert.Ref1Ideal.defs _ _).mono (fun r h => ⟨fun c => (h c).2.2, sem_eq_zero_of_no_sems (by decide) r.2⟩) (Cert.Ref1Ideal.Value.run m ρ)

/-- The attention at stride 4: the kernel's result and its log-sum-exps are the reference's. -/
theorem attn1 : Cert.algebraic_Attn1Ideal_Ref1Ideal := by
  intro m g m' g' _ hagree
  refine ⟨fun c => Cert.Band.Ker1.GO (Cert.Band.Ker1.X m c), fun c => Cert.Band.Ker1.GLse (Cert.Band.Ker1.X m c), ?_, ?_⟩
  · exact (θ_run Cert.Attn1Ideal.defs _ _).mono
      (fun r h c => ⟨(h c).1.trans (Cert.Band.Ker1.final5 m c), (h c).2.1.trans (Cert.Band.Ker1.final6 m c), (h c).2.2⟩) (Cert.Attn1Ideal.Value.run_blocks m g)
  · refine (θ_run Cert.Ref1Ideal.defs _ _).mono (fun r h c => ⟨(h c).1.trans ?_, (h c).2.1.trans ?_, (h c).2.2⟩) (Cert.Ref1Ideal.Value.run m' g')
    · rw [Cert.Ref1Ideal.Read.val_main_v41_eq, hagree c, Cert.Band.Ref1.result]
    · rw [Cert.Ref1Ideal.Read.val_main_v42_eq, hagree c, Cert.Band.Ref1.logsum]

/-- The reference of the attention at stride 16 runs and keeps its argument. -/
theorem refFrame2 : Cert.quiescent_Ref2Ideal := by
  intro m ρ _
  exact (θ_run Cert.Ref2Ideal.defs _ _).mono (fun r h => ⟨fun c => (h c).2.2, sem_eq_zero_of_no_sems (by decide) r.2⟩) (Cert.Ref2Ideal.Value.run m ρ)

/-- The attention at stride 16: the kernel's result and its log-sum-exps are the reference's. -/
theorem attn2 : Cert.algebraic_Attn2Ideal_Ref2Ideal := by
  intro m g m' g' _ hagree
  refine ⟨fun c => Cert.Band.Ker2.GO (Cert.Band.Ker2.X m c), fun c => Cert.Band.Ker2.GLse (Cert.Band.Ker2.X m c), ?_, ?_⟩
  · exact (θ_run Cert.Attn2Ideal.defs _ _).mono
      (fun r h c => ⟨(h c).1.trans (Cert.Band.Ker2.final5 m c), (h c).2.1.trans (Cert.Band.Ker2.final6 m c), (h c).2.2⟩) (Cert.Attn2Ideal.Value.run_blocks m g)
  · refine (θ_run Cert.Ref2Ideal.defs _ _).mono (fun r h c => ⟨(h c).1.trans ?_, (h c).2.1.trans ?_, (h c).2.2⟩) (Cert.Ref2Ideal.Value.run m' g')
    · rw [Cert.Ref2Ideal.Read.val_main_v41_eq, hagree c, Cert.Band.Ref2.result]
    · rw [Cert.Ref2Ideal.Read.val_main_v42_eq, hagree c, Cert.Band.Ref2.logsum]

/-- The reference of the feed-forward call runs and keeps its arguments. -/
theorem refFrameFfn : Cert.quiescent_RefFfnIdeal := by
  intro m ρ _
  exact (θ_run Cert.RefFfnIdeal.defs _ _).mono (fun r h => ⟨fun c => (h c).2, sem_eq_zero_of_no_sems (by decide) r.2⟩) (Cert.RefFfnIdeal.Value.run m ρ)

/-- The feed-forward block and the gated embedding: the kernel's result is the reference's. -/
theorem ffn : Cert.algebraic_FfnIdeal_RefFfnIdeal := by
  intro m g m' g' _ hagree
  refine ⟨fun c => Cert.FeedForward.Ker.GM m c, ?_, ?_⟩
  · exact (θ_run Cert.FfnIdeal.defs _ _).mono
      (fun r h c => ⟨(h c).1.trans (Cert.FeedForward.Ker.final m c), (h c).2⟩) (Cert.FfnIdeal.Value.run_blocks m g)
  · refine (θ_run Cert.RefFfnIdeal.defs _ _).mono (fun r h c => ⟨(h c).1.trans ?_, (h c).2⟩) (Cert.RefFfnIdeal.Value.run m' g')
    obtain ⟨h0, h1, h2, h3, h4, h5, h6, h7, h8⟩ := hagree c
    rw [Cert.RefFfnIdeal.Read.val_main_v54_eq, h0, h1, h2, h3, h4, h5, h6, h7, h8, Cert.FeedForward.Ref.result]

/-- The reference of the projection call runs and keeps its arguments. -/
theorem refFrameInp : Cert.quiescent_RefInpIdeal := by
  intro m ρ _
  exact (θ_run Cert.RefInpIdeal.defs _ _).mono (fun r h => ⟨fun c => (h c).2.2.2.2, sem_eq_zero_of_no_sems (by decide) r.2⟩) (Cert.RefInpIdeal.Value.run m ρ)

/-- The projection with rotation, shift and gates: the kernel's four results are the reference's. -/
theorem inp : Cert.algebraic_InpIdeal_RefInpIdeal := by
  intro m g m' g' _ hagree
  refine ⟨fun c => Cert.Projection.Ker.R0 m c, fun c => Cert.Projection.Ker.R1 m c, fun c => Cert.Projection.Ker.R2 m c, fun c => Cert.Projection.Ker.R3 m c, ?_, ?_⟩
  · exact (θ_run Cert.InpIdeal.defs _ _).mono
      (fun r h c => ⟨(h c).1.trans (Cert.Projection.Ker.final0 m c), (h c).2.1.trans (Cert.Projection.Ker.final1 m c),
        (h c).2.2.1.trans (Cert.Projection.Ker.final2 m c), (h c).2.2.2.1.trans (Cert.Projection.Ker.final3 m c), (h c).2.2.2.2⟩) (Cert.InpIdeal.Value.run_blocks m g)
  · refine (θ_run Cert.RefInpIdeal.defs _ _).mono (fun r h c => ?_) (Cert.RefInpIdeal.Value.run m' g')
    obtain ⟨h0, h1, h2, h3⟩ := hagree c
    refine ⟨(h c).1.trans ?_, (h c).2.1.trans ?_, (h c).2.2.1.trans ?_, (h c).2.2.2.1.trans ?_, (h c).2.2.2.2⟩
    · rw [Cert.RefInpIdeal.Read.val_main_v123_eq, h0, h1, h2]
      exact Cert.Projection.Ref.result0 _ _ _
    · refine (Cert.RefInpIdeal.Read.val_main_v109_eq _ _ _ _).trans ?_
      rw [h0, h1, h2, h3]
      exact Cert.Projection.Ref.result1 _ _ _ _
    · rw [Cert.RefInpIdeal.Read.val_main_v116_eq, h0, h1, h2, h3]
      exact Cert.Projection.Ref.result2 _ _ _ _
    · refine (Cert.RefInpIdeal.Read.val_main_v124_eq _ _ _).trans ?_
      rw [h0, h1, h2]
      exact Cert.Projection.Ref.result3 _ _ _

/-- The reference of the mixing call runs and keeps its arguments. -/
theorem refFrameMix : Cert.quiescent_RefMixIdeal := by
  intro m ρ _
  exact (θ_run Cert.RefMixIdeal.defs _ _).mono (fun r h => ⟨fun c => (h c).2, sem_eq_zero_of_no_sems (by decide) r.2⟩) (Cert.RefMixIdeal.Value.run m ρ)

/-- The head groups' mix and the gated merge: where the largest log-sum-exp is a number, the kernel's result is the reference's. -/
theorem mix : Cert.algebraic_MixIdeal_RefMixIdeal_pre_largest_lse_finite := by
  intro m g m' g' hpre hagree
  refine ⟨fun c => Cert.Merge.Ker.GM m Cert.Merge.comb c, ?_, ?_⟩
  · exact (θ_run Cert.MixIdeal.defs _ _).mono
      (fun r h c => ⟨(h c).1.trans ((Cert.Merge.Ker.final m c).trans (Cert.Merge.Ker.late_eq m c
        (fun r j => Cert.Merge.Pre.number _ _ _ _ _ _ _ _ _ _ _ _ _ (hpre c) (ix2 r j)))), (h c).2⟩) (Cert.MixIdeal.Value.run_blocks m g)
  · refine (θ_run Cert.RefMixIdeal.defs _ _).mono (fun r h c => ⟨(h c).1.trans ?_, (h c).2⟩) (Cert.RefMixIdeal.Value.run m' g')
    obtain ⟨h0, h1, h2, h3, h4, h5, h6, h7, h8, h9, h10, h11, h12⟩ := hagree c
    rw [Cert.RefMixIdeal.Read.val_main_v51_eq, h0, h1, h2, h3, h4, h5, h6, h7, h8, h9, h10, h11, h12, Cert.Merge.Ref.result]

/-- Everything the certificate claims. -/
theorem claim : Cert.Claim := ⟨Cert.Attn0.Gen.facts, Cert.Attn0Ideal.Gen.facts, Cert.Ref0Ideal.Gen.facts, Cert.Attn1.Gen.facts, Cert.Attn1Ideal.Gen.facts, Cert.Ref1Ideal.Gen.facts, Cert.Attn2.Gen.facts, Cert.Attn2Ideal.Gen.facts, Cert.Ref2Ideal.Gen.facts,
  Cert.Ffn.Gen.facts, Cert.FfnIdeal.Gen.facts, Cert.RefFfnIdeal.Gen.facts,
  Cert.Inp.Gen.facts, Cert.InpIdeal.Gen.facts, Cert.RefInpIdeal.Gen.facts,
  Cert.Mix.Gen.facts, Cert.MixIdeal.Gen.facts, Cert.RefMixIdeal.Gen.facts, Cert.Pre_largest_lse_finite.Gen.facts,
  fun m ρ _ => Cert.Attn0.Gen.frame m ρ, fun m ρ _ => Cert.Attn0Ideal.Gen.frame m ρ, refFrame0,
  fun m ρ _ => Cert.Attn1.Gen.frame m ρ, fun m ρ _ => Cert.Attn1Ideal.Gen.frame m ρ, refFrame1,
  fun m ρ _ => Cert.Attn2.Gen.frame m ρ, fun m ρ _ => Cert.Attn2Ideal.Gen.frame m ρ, refFrame2,
  fun m ρ _ => Cert.Ffn.Gen.frame m ρ, fun m ρ _ => Cert.FfnIdeal.Gen.frame m ρ, refFrameFfn,
  fun m ρ _ => Cert.Inp.Gen.frame m ρ, fun m ρ _ => Cert.InpIdeal.Gen.frame m ρ, refFrameInp,
  fun m ρ _ => Cert.Mix.Gen.frame m ρ, fun m ρ _ => Cert.MixIdeal.Gen.frame m ρ, fun m ρ _ => Cert.MixIdeal.Gen.frame m ρ,
  refFrameMix, fun m ρ _ => refFrameMix m ρ trivial,
  IdealRules.named_const.statement Cert.Attn0Ideal.κ "mask" .f32 0xF149F2CA#32 ⊥ rfl, attn0,
  IdealRules.named_const.statement Cert.Attn1Ideal.κ "mask" .f32 0xF149F2CA#32 ⊥ rfl, attn1,
  IdealRules.named_const.statement Cert.Attn2Ideal.κ "mask" .f32 0xF149F2CA#32 ⊥ rfl, attn2,
  trivial, ffn,
  trivial, inp,
  trivial, mix⟩

end Cert.Proof

end
